-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4)
      ∧ r.2.mem ((c.tc : Thread Cert.LastKernel.nD Cert.LastKernel.τ).loc Cert.LastKernel.main_arg5) = m ((c.tc : Thread Cert.LastKernel.nD Cert.LastKernel.τ).loc Cert.LastKernel.main_arg5)
      ∧ r.2.mem ((c.tc : Thread Cert.LastKernel.nD Cert.LastKernel.τ).loc Cert.LastKernel.main_arg6) = m ((c.tc : Thread Cert.LastKernel.nD Cert.LastKernel.τ).loc Cert.LastKernel.main_arg6)
      ∧ r.2.mem ((c.tc : Thread Cert.LastKernel.nD Cert.LastKernel.τ).loc Cert.LastKernel.main_arg7) = m ((c.tc : Thread Cert.LastKernel.nD Cert.LastKernel.τ).loc Cert.LastKernel.main_arg7))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
      ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
      ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4)
      ∧ r.2.mem ((c.tc : Thread Cert.StepKernel.nD Cert.StepKernel.τ).loc Cert.StepKernel.main_arg5) = m ((c.tc : Thread Cert.StepKernel.nD Cert.StepKernel.τ).loc Cert.StepKernel.main_arg5)
      ∧ r.2.mem ((c.tc : Thread Cert.StepKernel.nD Cert.StepKernel.τ).loc Cert.StepKernel.main_arg6) = m ((c.tc : Thread Cert.StepKernel.nD Cert.StepKernel.τ).loc Cert.StepKernel.main_arg6))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11)
      ∧ r.2.mem ((c.tc : Thread Cert.ProjKernel.nD Cert.ProjKernel.τ).loc Cert.ProjKernel.main_arg12) = m ((c.tc : Thread Cert.ProjKernel.nD Cert.ProjKernel.τ).loc Cert.ProjKernel.main_arg12)
      ∧ r.2.mem ((c.tc : Thread Cert.ProjKernel.nD Cert.ProjKernel.τ).loc Cert.ProjKernel.main_arg13) = m ((c.tc : Thread Cert.ProjKernel.nD Cert.ProjKernel.τ).loc Cert.ProjKernel.main_arg13)
      ∧ r.2.mem ((c.tc : Thread Cert.ProjKernel.nD Cert.ProjKernel.τ).loc Cert.ProjKernel.main_arg14) = m ((c.tc : Thread Cert.ProjKernel.nD Cert.ProjKernel.τ).loc Cert.ProjKernel.main_arg14)
      ∧ r.2.mem ((c.tc : Thread Cert.ProjKernel.nD Cert.ProjKernel.τ).loc Cert.ProjKernel.main_arg15) = m ((c.tc : Thread Cert.ProjKernel.nD Cert.ProjKernel.τ).loc Cert.ProjKernel.main_arg15)
      ∧ r.2.mem ((c.tc : Thread Cert.ProjKernel.nD Cert.ProjKernel.τ).loc Cert.ProjKernel.main_arg16) = m ((c.tc : Thread Cert.ProjKernel.nD Cert.ProjKernel.τ).loc Cert.ProjKernel.main_arg16))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
      ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13)
      ∧ r.2.mem ((c.tc : Thread Cert.ProjKernelIdeal.nD Cert.ProjKernelIdeal.τ).loc Cert.ProjKernelIdeal.main_arg14) = m ((c.tc : Thread Cert.ProjKernelIdeal.nD Cert.ProjKernelIdeal.τ).loc Cert.ProjKernelIdeal.main_arg14)
      ∧ r.2.mem ((c.tc : Thread Cert.ProjKernelIdeal.nD Cert.ProjKernelIdeal.τ).loc Cert.ProjKernelIdeal.main_arg15) = m ((c.tc : Thread Cert.ProjKernelIdeal.nD Cert.ProjKernelIdeal.τ).loc Cert.ProjKernelIdeal.main_arg15)
      ∧ r.2.mem ((c.tc : Thread Cert.ProjKernelIdeal.nD Cert.ProjKernelIdeal.τ).loc Cert.ProjKernelIdeal.main_arg16) = m ((c.tc : Thread Cert.ProjKernelIdeal.nD Cert.ProjKernelIdeal.τ).loc Cert.ProjKernelIdeal.main_arg16))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16))
      ∧ r.2.sem = fun _ => 0)

def preserves_Kernel_KernelIdeal : Prop :=
  IdealRules.named_const.Statement Cert.KernelIdeal.κ "qk_scale" .f32 0x3E16C740#32 (((Real.sqrt 96)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v9)) (v1 : (c : Dev Cert.MemKernelIdeal.nD) → Buf (Elt Ideal) ((c.tc : Thread Cert.MemKernelIdeal.nD Cert.MemKernelIdeal.τ).loc Cert.MemKernelIdeal.main_v11)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v9) = v0 c
          ∧ r.2.mem ((c.tc : Thread Cert.MemKernelIdeal.nD Cert.MemKernelIdeal.τ).loc Cert.MemKernelIdeal.main_v11) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v20) = v0 c
          ∧ r.2.mem ((c.tc : Thread Cert.MemReferenceIdeal.nD Cert.MemReferenceIdeal.τ).loc Cert.MemReferenceIdeal.main_v21) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)) →
    ∃ (v0 : (c : Dev Cert.TailKernelIdeal.nD) → Buf (Elt Ideal) ((c.tc : Thread Cert.TailKernelIdeal.nD Cert.TailKernelIdeal.τ).loc Cert.TailKernelIdeal.main_v16)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v16) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v51) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)
      ∧ m' ((c.tc : Thread Cert.LastReferenceIdeal.nD Cert.LastReferenceIdeal.τ).loc Cert.LastReferenceIdeal.main_arg5) = m ((c.tc : Thread Cert.LastKernelIdeal.nD Cert.LastKernelIdeal.τ).loc Cert.LastKernelIdeal.main_arg5)
      ∧ m' ((c.tc : Thread Cert.LastReferenceIdeal.nD Cert.LastReferenceIdeal.τ).loc Cert.LastReferenceIdeal.main_arg6) = m ((c.tc : Thread Cert.LastKernelIdeal.nD Cert.LastKernelIdeal.τ).loc Cert.LastKernelIdeal.main_arg6)
      ∧ m' ((c.tc : Thread Cert.LastReferenceIdeal.nD Cert.LastReferenceIdeal.τ).loc Cert.LastReferenceIdeal.main_arg7) = m ((c.tc : Thread Cert.LastKernelIdeal.nD Cert.LastKernelIdeal.τ).loc Cert.LastKernelIdeal.main_arg7)) →
    ∃ (v0 : (c : Dev Cert.LastKernelIdeal.nD) → Buf (Elt Ideal) ((c.tc : Thread Cert.LastKernelIdeal.nD Cert.LastKernelIdeal.τ).loc Cert.LastKernelIdeal.main_v16)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v16) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
          ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
          ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
          ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v51) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)
      ∧ m' ((c.tc : Thread Cert.StepReferenceIdeal.nD Cert.StepReferenceIdeal.τ).loc Cert.StepReferenceIdeal.main_arg5) = m ((c.tc : Thread Cert.StepKernelIdeal.nD Cert.StepKernelIdeal.τ).loc Cert.StepKernelIdeal.main_arg5)
      ∧ m' ((c.tc : Thread Cert.StepReferenceIdeal.nD Cert.StepReferenceIdeal.τ).loc Cert.StepReferenceIdeal.main_arg6) = m ((c.tc : Thread Cert.StepKernelIdeal.nD Cert.StepKernelIdeal.τ).loc Cert.StepKernelIdeal.main_arg6)) →
    ∃ (v0 : (c : Dev Cert.StepKernelIdeal.nD) → Buf (Elt Ideal) ((c.tc : Thread Cert.StepKernelIdeal.nD Cert.StepKernelIdeal.τ).loc Cert.StepKernelIdeal.main_v29)) (v1 : (c : Dev Cert.StepKernelIdeal.nD) → Buf (Elt Ideal) ((c.tc : Thread Cert.StepKernelIdeal.nD Cert.StepKernelIdeal.τ).loc Cert.StepKernelIdeal.main_v30)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v29) = v0 c
          ∧ r.2.mem ((c.tc : Thread Cert.StepKernelIdeal.nD Cert.StepKernelIdeal.τ).loc Cert.StepKernelIdeal.main_v30) = v1 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
          ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
          ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v35) = v0 c
          ∧ r.2.mem ((c.tc : Thread Cert.StepReferenceIdeal.nD Cert.StepReferenceIdeal.τ).loc Cert.StepReferenceIdeal.main_v36) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)
      ∧ m' ((c.tc : Thread Cert.ProjReferenceIdeal.nD Cert.ProjReferenceIdeal.τ).loc Cert.ProjReferenceIdeal.main_arg13) = m ((c.tc : Thread Cert.ProjKernelIdeal.nD Cert.ProjKernelIdeal.τ).loc Cert.ProjKernelIdeal.main_arg13)
      ∧ m' ((c.tc : Thread Cert.ProjReferenceIdeal.nD Cert.ProjReferenceIdeal.τ).loc Cert.ProjReferenceIdeal.main_arg14) = m ((c.tc : Thread Cert.ProjKernelIdeal.nD Cert.ProjKernelIdeal.τ).loc Cert.ProjKernelIdeal.main_arg14)
      ∧ m' ((c.tc : Thread Cert.ProjReferenceIdeal.nD Cert.ProjReferenceIdeal.τ).loc Cert.ProjReferenceIdeal.main_arg15) = m ((c.tc : Thread Cert.ProjKernelIdeal.nD Cert.ProjKernelIdeal.τ).loc Cert.ProjKernelIdeal.main_arg15)
      ∧ m' ((c.tc : Thread Cert.ProjReferenceIdeal.nD Cert.ProjReferenceIdeal.τ).loc Cert.ProjReferenceIdeal.main_arg16) = m ((c.tc : Thread Cert.ProjKernelIdeal.nD Cert.ProjKernelIdeal.τ).loc Cert.ProjKernelIdeal.main_arg16)) →
    ∃ (v0 : (c : Dev Cert.ProjKernelIdeal.nD) → Buf (Elt Ideal) ((c.tc : Thread Cert.ProjKernelIdeal.nD Cert.ProjKernelIdeal.τ).loc Cert.ProjKernelIdeal.main_v120)) (v1 : (c : Dev Cert.ProjKernelIdeal.nD) → Buf (Elt Ideal) ((c.tc : Thread Cert.ProjKernelIdeal.nD Cert.ProjKernelIdeal.τ).loc Cert.ProjKernelIdeal.main_v121)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v120) = v0 c
          ∧ r.2.mem ((c.tc : Thread Cert.ProjKernelIdeal.nD Cert.ProjKernelIdeal.τ).loc Cert.ProjKernelIdeal.main_v121) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
          ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
          ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13)
          ∧ r.2.mem ((c.tc : Thread Cert.ProjKernelIdeal.nD Cert.ProjKernelIdeal.τ).loc Cert.ProjKernelIdeal.main_arg14) = m ((c.tc : Thread Cert.ProjKernelIdeal.nD Cert.ProjKernelIdeal.τ).loc Cert.ProjKernelIdeal.main_arg14)
          ∧ r.2.mem ((c.tc : Thread Cert.ProjKernelIdeal.nD Cert.ProjKernelIdeal.τ).loc Cert.ProjKernelIdeal.main_arg15) = m ((c.tc : Thread Cert.ProjKernelIdeal.nD Cert.ProjKernelIdeal.τ).loc Cert.ProjKernelIdeal.main_arg15)
          ∧ r.2.mem ((c.tc : Thread Cert.ProjKernelIdeal.nD Cert.ProjKernelIdeal.τ).loc Cert.ProjKernelIdeal.main_arg16) = m ((c.tc : Thread Cert.ProjKernelIdeal.nD Cert.ProjKernelIdeal.τ).loc Cert.ProjKernelIdeal.main_arg16))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_v34) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15)
          ∧ r.2.mem ((c.tc : Thread Cert.ProjReferenceIdeal.nD Cert.ProjReferenceIdeal.τ).loc Cert.ProjReferenceIdeal.main_arg16) = m' ((c.tc : Thread Cert.ProjReferenceIdeal.nD Cert.ProjReferenceIdeal.τ).loc Cert.ProjReferenceIdeal.main_arg16))

def Claim : Prop :=
  ∃ (hKernel : Cert.Kernel.Facts) (hKernelIdeal : Cert.KernelIdeal.Facts) (hReferenceIdeal : Cert.ReferenceIdeal.Facts) (hMemKernel : Cert.MemKernel.Facts) (hMemKernelIdeal : Cert.MemKernelIdeal.Facts) (hMemReferenceIdeal : Cert.MemReferenceIdeal.Facts) (hTailKernel : Cert.TailKernel.Facts) (hTailKernelIdeal : Cert.TailKernelIdeal.Facts) (hTailReferenceIdeal : Cert.TailReferenceIdeal.Facts) (hLastKernel : Cert.LastKernel.Facts) (hLastKernelIdeal : Cert.LastKernelIdeal.Facts) (hLastReferenceIdeal : Cert.LastReferenceIdeal.Facts) (hStepKernel : Cert.StepKernel.Facts) (hStepKernelIdeal : Cert.StepKernelIdeal.Facts) (hStepReferenceIdeal : Cert.StepReferenceIdeal.Facts) (hProjKernel : Cert.ProjKernel.Facts) (hProjKernelIdeal : Cert.ProjKernelIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MemKernel_MemKernelIdeal
    ∧ algebraic_MemKernelIdeal_MemReferenceIdeal (hMemKernelIdeal := hMemKernelIdeal) (hMemReferenceIdeal := hMemReferenceIdeal)
    ∧ preserves_TailKernel_TailKernelIdeal
    ∧ algebraic_TailKernelIdeal_TailReferenceIdeal (hTailKernelIdeal := hTailKernelIdeal) (hTailReferenceIdeal := hTailReferenceIdeal)
    ∧ preserves_LastKernel_LastKernelIdeal
    ∧ algebraic_LastKernelIdeal_LastReferenceIdeal (hLastKernelIdeal := hLastKernelIdeal) (hLastReferenceIdeal := hLastReferenceIdeal)
    ∧ preserves_StepKernel_StepKernelIdeal
    ∧ algebraic_StepKernelIdeal_StepReferenceIdeal (hStepKernelIdeal := hStepKernelIdeal) (hStepReferenceIdeal := hStepReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_finite_scores.lean ====
abbrev S1x16384x8x64 : Shape := ⟨4, ![1, 16384, 8, 64]⟩
abbrev S1x16384x8x32 : Shape := ⟨4, ![1, 16384, 8, 32]⟩
abbrev S1x16384x256 : Shape := ⟨3, ![1, 16384, 256]⟩
abbrev S1x16384x32 : Shape := ⟨3, ![1, 16384, 32]⟩
abbrev S256x8x64 : Shape := ⟨3, ![256, 8, 64]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x8x32 : S_.BroadcastsInDim S1x16384x8x32 (![] : Fin 0 → Fin S1x16384x8x32.rank)
  reducesTo_S1x16384x8x32_S_d0_1_2_3 : S1x16384x8x32.ReducesTo [0, 1, 2, 3] S_
  bcast_S_S1x16384x256 : S_.BroadcastsInDim S1x16384x256 (![] : Fin 0 → Fin S1x16384x256.rank)
  reducesTo_S1x16384x256_S_d0_1_2 : S1x16384x256.ReducesTo [0, 1, 2] S_
  bcast_S_S1x16384x32 : S_.BroadcastsInDim S1x16384x32 (![] : Fin 0 → Fin S1x16384x32.rank)
  reducesTo_S1x16384x32_S_d0_1_2 : S1x16384x32.ReducesTo [0, 1, 2] S_
  bcast_S_S256x8x64 : S_.BroadcastsInDim S256x8x64 (![] : Fin 0 → Fin S256x8x64.rank)
  reducesTo_S256x8x64_S_d0_1_2 : S256x8x64.ReducesTo [0, 1, 2] S_

variable [Facts]

def fn_part1 {F : FTy → Type} [FloatOps F] (main_arg4 : FVec F S256x8x64 .f32) (main_v13 : IVec S_ 1) (main_v16 : IVec S1x16384x32 1) : IVec S_ 1 :=
  let main_c_5 : IVec S_ 1 := constantI S_ 1 1#1
  let main_v17 : IVec S_ 1 := (fun x v => Host.reduce IntOp.andi x v reducesTo_S1x16384x32_S_d0_1_2 h_S_) main_v16 main_c_5
  let main_v18 : IVec S_ 1 := andi main_v13 main_v17
  let main_v19 : FVec F S256x8x64 .f32 := Host.absf main_arg4
  let main_cst_6 : FVec F S_ .f32 := constant S_ .f32 0x7F800000#32
  let main_v20 : FVec F S256x8x64 .f32 := broadcastInDim S256x8x64 ![] bcast_S_S256x8x64 main_cst_6
  let main_v21 : IVec S256x8x64 1 := cmpf .olt main_v19 main_v20
  let main_c_7 : IVec S_ 1 := constantI S_ 1 1#1
  let main_v22 : IVec S_ 1 := (fun x v => Host.reduce IntOp.andi x v reducesTo_S256x8x64_S_d0_1_2 h_S_) main_v21 main_c_7
  let main_v23 : IVec S_ 1 := andi main_v18 main_v22
  main_v23

def fn {F : FTy → Type} [FloatOps F] (main_arg0 : FVec F S1x16384x8x64 .f32) (main_arg1 : FVec F S1x16384x8x32 .f32) (main_arg2 : FVec F S1x16384x256 .f32) (main_arg3 : FVec F S1x16384x32 .f32) (main_arg4 : FVec F S256x8x64 .f32) (main_arg5 : FVec F S256x8x64 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x8x32 .f32 := Host.absf main_arg1
  let main_cst_0 : FVec F S_ .f32 := constant S_ .f32 0x7F800000#32
  let main_v5 : FVec F S1x16384x8x32 .f32 := broadcastInDim S1x16384x8x32 ![] bcast_S_S1x16384x8x32 main_cst_0
  let main_v6 : IVec S1x16384x8x32 1 := cmpf .olt main_v4 main_v5
  let main_c_1 : IVec S_ 1 := constantI S_ 1 1#1
  let main_v7 : IVec S_ 1 := (fun x v => Host.reduce IntOp.andi x v reducesTo_S1x16384x8x32_S_d0_1_2_3 h_S_) main_v6 main_c_1
  let main_v8 : IVec S_ 1 := andi main_v3 main_v7
  let main_v9 : FVec F S1x16384x256 .f32 := Host.absf main_arg2
  let main_cst_2 : FVec F S_ .f32 := constant S_ .f32 0x7F800000#32
  let main_v10 : FVec F S1x16384x256 .f32 := broadcastInDim S1x16384x256 ![] bcast_S_S1x16384x256 main_cst_2
  let main_v11 : IVec S1x16384x256 1 := cmpf .olt main_v9 main_v10
  let main_c_3 : IVec S_ 1 := constantI S_ 1 1#1
  let main_v12 : IVec S_ 1 := (fun x v => Host.reduce IntOp.andi x v reducesTo_S1x16384x256_S_d0_1_2 h_S_) main_v11 main_c_3
  let main_v13 : IVec S_ 1 := andi main_v8 main_v12
  let main_v14 : FVec F S1x16384x32 .f32 := Host.absf main_arg3
  let main_cst_4 : FVec F S_ .f32 := constant S_ .f32 0x7F800000#32
  let main_v15 : FVec F S1x16384x32 .f32 := broadcastInDim S1x16384x32 ![] bcast_S_S1x16384x32 main_cst_4
  let main_v16 : IVec S1x16384x32 1 := cmpf .olt main_v14 main_v15
  fn_part1 (F := F) main_arg4 main_v13 main_v16
-- ==== Kernel.lean ====
abbrev S1x16384x8x64 : Shape := ⟨4, ![1, 16384, 8, 64]⟩
abbrev S1x16384x8x32 : Shape := ⟨4, ![1, 16384, 8, 32]⟩
abbrev S1x16384x256 : Shape := ⟨3, ![1, 16384, 256]⟩
abbrev S1x16384x32 : Shape := ⟨3, ![1, 16384, 32]⟩
abbrev S256x8x64 : Shape := ⟨3, ![256, 8, 64]⟩
abbrev S16384x8x64 : Shape := ⟨3, ![16384, 8, 64]⟩
abbrev S16384x8x32 : Shape := ⟨3, ![16384, 8, 32]⟩
abbrev S_ : Shape := ⟨0, ![]⟩
abbrev S16384x8x128 : Shape := ⟨3, ![16384, 8, 128]⟩
abbrev S8x16384x128 : Shape := ⟨3, ![8, 16384, 128]⟩
abbrev S16384x256 : Shape := ⟨2, ![16384, 256]⟩
abbrev S256x8x128 : Shape := ⟨3, ![256, 8, 128]⟩
abbrev S256x1024 : Shape := ⟨2, ![256, 1024]⟩
abbrev S16384x1024 : Shape := ⟨2, ![16384, 1024]⟩
abbrev S16384x32 : Shape := ⟨2, ![16384, 32]⟩
abbrev S16384x128 : Shape := ⟨2, ![16384, 128]⟩
abbrev S16384x1x128 : Shape := ⟨3, ![16384, 1, 128]⟩
abbrev S8x128x16384 : Shape := ⟨3, ![8, 128, 16384]⟩
abbrev S16384x512 : Shape := ⟨2, ![16384, 512]⟩
abbrev S2x1024x128 : Shape := ⟨3, ![2, 1024, 128]⟩
abbrev S2x16384x128 : Shape := ⟨3, ![2, 16384, 128]⟩
abbrev S2x128x16384 : Shape := ⟨3, ![2, 128, 16384]⟩
abbrev S1024x128 : Shape := ⟨2, ![1024, 128]⟩
abbrev S2x1024x1024 : Shape := ⟨3, ![2, 1024, 1024]⟩
abbrev S1x1024x128 : Shape := ⟨3, ![1, 1024, 128]⟩
abbrev S1024x1024 : Shape := ⟨2, ![1024, 1024]⟩
abbrev S1x1024x1024 : Shape := ⟨3, ![1, 1024, 1024]⟩
abbrev S1x1024 : Shape := ⟨2, ![1, 1024]⟩
abbrev S128x1024 : Shape := ⟨2, ![128, 1024]⟩
abbrev S1024 : Shape := ⟨1, ![1024]⟩
abbrev S1x128x1024 : Shape := ⟨3, ![1, 128, 1024]⟩
abbrev S64x1024 : Shape := ⟨2, ![64, 1024]⟩

abbrev nBuf : Space → Nat
  | .hbm => 51
  | .vmem => 8
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x256, .f32⟩
  | .hbm, ⟨3, _⟩ => ⟨S1x16384x32, .f32⟩
  | .hbm, ⟨4, _⟩ => ⟨S256x8x64, .f32⟩
  | .hbm, ⟨5, _⟩ => ⟨S256x8x64, .f32⟩
  | .hbm, ⟨6, _⟩ => ⟨S16384x8x64, .f32⟩
  | .hbm, ⟨7, _⟩ => ⟨S16384x8x32, .f32⟩
  | .hbm, ⟨8, _⟩ => ⟨S_, .f32⟩
  | .hbm, ⟨9, _⟩ => ⟨S16384x8x32, .f32⟩
  | .hbm, ⟨10, _⟩ => ⟨S16384x8x128, .f32⟩
  | .hbm, ⟨11, _⟩ => ⟨S8x16384x128, .f32⟩
  | .hbm, ⟨12, _⟩ => ⟨S16384x256, .f32⟩
  | .hbm, ⟨13, _⟩ => ⟨S16384x256, .bf16⟩
  | .hbm, ⟨14, _⟩ => ⟨S_, .i32⟩
  | .hbm, ⟨15, _⟩ => ⟨S_, .f32⟩
  | .hbm, ⟨16, _⟩ => ⟨S256x8x128, .f32⟩
  | .hbm, ⟨17, _⟩ => ⟨S256x1024, .f32⟩
  | .hbm, ⟨18, _⟩ => ⟨S256x1024, .bf16⟩
  | .hbm, ⟨19, _⟩ => ⟨S16384x1024, .f32⟩
  | .hbm, ⟨20, _⟩ => ⟨S_, .i32⟩
  | .hbm, ⟨21, _⟩ => ⟨S_, .f32⟩
  | .hbm, ⟨22, _⟩ => ⟨S256x8x128, .f32⟩
  | .hbm, ⟨23, _⟩ => ⟨S256x1024, .f32⟩
  | .hbm, ⟨24, _⟩ => ⟨S256x1024, .bf16⟩
  | .hbm, ⟨25, _⟩ => ⟨S16384x1024, .f32⟩
  | .hbm, ⟨26, _⟩ => ⟨S16384x32, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S16384x8x128, .f32⟩
  | .hbm, ⟨31, _⟩ => ⟨S16384x1x128, .f32⟩
  | .hbm, ⟨32, _⟩ => ⟨S16384x8x128, .f32⟩
  | .hbm, ⟨33, _⟩ => ⟨S16384x8x128, .f32⟩
  | .hbm, ⟨34, _⟩ => ⟨S16384x8x128, .bf16⟩
  | .hbm, ⟨35, _⟩ => ⟨S8x16384x128, .bf16⟩
  | .hbm, ⟨36, _⟩ => ⟨S16384x8x128, .i32⟩
  | .hbm, ⟨37, _⟩ => ⟨S16384x8x128, .f32⟩
  | .hbm, ⟨38, _⟩ => ⟨S_, .i32⟩
  | .hbm, ⟨39, _⟩ => ⟨S16384x8x128, .i32⟩
  | .hbm, ⟨40, _⟩ => ⟨S16384x8x128, .i1⟩
  | .hbm, ⟨41, _⟩ => ⟨S_, .f32⟩
  | .hbm, ⟨42, _⟩ => ⟨S_, .f32⟩
  | .hbm, ⟨43, _⟩ => ⟨S16384x8x128, .f32⟩
  | .hbm, ⟨44, _⟩ => ⟨S16384x8x128, .f32⟩
  | .hbm, ⟨45, _⟩ => ⟨S16384x8x128, .f32⟩
  | .hbm, ⟨46, _⟩ => ⟨S16384x8x128, .f32⟩
  | .hbm, ⟨47, _⟩ => ⟨S16384x8x128, .f32⟩
  | .hbm, ⟨48, _⟩ => ⟨S16384x8x128, .bf16⟩
  | .hbm, ⟨49, _⟩ => ⟨S8x128x16384, .bf16⟩
  | .hbm, ⟨50, _⟩ => ⟨S16384x512, .bf16⟩
  | .local _ .vmem, ⟨0, _⟩ => ⟨S2x1024x128, .f32⟩
  | .local _ .vmem, ⟨1, _⟩ => ⟨S2x1024x128, .f32⟩
  | .local _ .vmem, ⟨2, _⟩ => ⟨S2x16384x128, .bf16⟩
  | .local _ .vmem, ⟨3, _⟩ => ⟨S2x128x16384, .bf16⟩
  | .local _ .vmem, ⟨4, _⟩ => ⟨S1024x128, .bf16⟩
  | .local _ .vmem, ⟨5, _⟩ => ⟨S1024x128, .bf16⟩
  | .local _ .vmem, ⟨6, _⟩ => ⟨S2x1024x1024, .f32⟩
  | .local _ .vmem, ⟨7, _⟩ => ⟨S2x1024x1024, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_cst_4 : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_mult1 : BitVec 32 :=
  let c0_i32_10 : BitVec 32 := 0#32
  c0_i32_10
@[reducible] def k0_t1_loop (i : grid0.Coords) : Scf.Loop 32 :=
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_35 : BitVec 32 := 1#32
  ⟨c0_i32_33, v68, c1_i32_35⟩
def k0_mult2 (i : grid0.Coords) (k0_t1 : Fin (k0_t1_loop i).trips) : BitVec 32 :=
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  v113
def k0_off1 (i : grid0.Coords) (k0_t1 : Fin (k0_t1_loop i).trips) : Fin 3 → Nat :=
  let c0_64 : Index := 0#32
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v115 : Index := Scalar.indexCast v114
  let c0_65 : Index := 0#32
  ![0, v115.toNat, 0]
def k0_off2 (i : grid0.Coords) (k0_t1 : Fin (k0_t1_loop i).trips) : Fin 3 → Nat :=
  let c1_70 : Index := 1#32
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v122 : Index := Scalar.indexCast v114
  let c0_71 : Index := 0#32
  ![1, v122.toNat, 0]
def k0_mult3 (i : grid0.Coords) (k0_t1 : Fin (k0_t1_loop i).trips) : BitVec 32 :=
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1024_i32_82 : BitVec 32 := 1024#32
  let v133 : BitVec 32 := Scalar.muli v111 c1024_i32_82
  v133
def k0_off3 (i : grid0.Coords) (k0_t1 : Fin (k0_t1_loop i).trips) : Fin 3 → Nat :=
  let c0_85 : Index := 0#32
  let c0_86 : Index := 0#32
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1024_i32_82 : BitVec 32 := 1024#32
  let v133 : BitVec 32 := Scalar.muli v111 c1024_i32_82
  let v134 : BitVec 32 := v133
  let v153 : Index := Scalar.indexCast v134
  ![0, 0, v153.toNat]
def k0_off4 (i : grid0.Coords) (k0_t1 : Fin (k0_t1_loop i).trips) : Fin 3 → Nat :=
  let c1_88 : Index := 1#32
  let c0_89 : Index := 0#32
  let c2_i32_61 : BitVec 32 := 2#32
  let c0_i32_33 : BitVec 32 := 0#32
  let c1_i32_35 : BitVec 32 := 1#32
  let arg8 : BitVec 32 := Scf.iv c0_i32_33 c1_i32_35 k0_t1
  let v111 : BitVec 32 := Scalar.muli c2_i32_61 arg8
  let c1024_i32_82 : BitVec 32 := 1024#32
  let v133 : BitVec 32 := Scalar.muli v111 c1024_i32_82
  let v134 : BitVec 32 := v133
  let v157 : Index := Scalar.indexCast v134
  ![1, 0, v157.toNat]
def k0_mult4 (i : grid0.Coords) (k0_t1 : Fin (k0_t1_loop i).trips) : BitVec 32 :=
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  v170
def k0_off5 (i : grid0.Coords) (k0_t1 : Fin (k0_t1_loop i).trips) : Fin 3 → Nat :=
  let c0_95 : Index := 0#32
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  let v171 : BitVec 32 := v170
  let v172 : Index := Scalar.indexCast v171
  let c0_96 : Index := 0#32
  ![0, v172.toNat, 0]
def k0_off6 (i : grid0.Coords) (k0_t1 : Fin (k0_t1_loop i).trips) : Fin 3 → Nat :=
  let c1_101 : Index := 1#32
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  let v171 : BitVec 32 := v170
  let v179 : Index := Scalar.indexCast v171
  let c0_102 : Index := 0#32
  ![1, v179.toNat, 0]
def k0_mult5 (i : grid0.Coords) (k0_t1 : Fin (k0_t1_loop i).trips) : BitVec 32 :=
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  v190
def k0_off7 (i : grid0.Coords) (k0_t1 : Fin (k0_t1_loop i).trips) : Fin 3 → Nat :=
  let c0_116 : Index := 0#32
  let c0_117 : Index := 0#32
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  let v191 : BitVec 32 := v190
  let v210 : Index := Scalar.indexCast v191
  ![0, 0, v210.toNat]
def k0_off8 (i : grid0.Coords) (k0_t1 : Fin (k0_t1_loop i).trips) : Fin 3 → Nat :=
  let c1_119 : Index := 1#32
  let c0_120 : Index := 0#32
  let c2_i32_91 : BitVec 32 := 2#32
  let c0_i32_33 : BitVec 32 := 0#32
  let c1_i32_35 : BitVec 32 := 1#32
  let arg8 : BitVec 32 := Scf.iv c0_i32_33 c1_i32_35 k0_t1
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  let v191 : BitVec 32 := v190
  let v214 : Index := Scalar.indexCast v191
  ![1, 0, v214.toNat]
@[reducible] def k0_t2_loop (i : grid0.Coords) : Scf.Loop 32 :=
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let v65 : BitVec 32 := Scalar.addi c0_i32_33 v64
  let c1_i32_36 : BitVec 32 := 1#32
  ⟨v68, v65, c1_i32_36⟩
def k0_mult6 (i : grid0.Coords) (k0_t2 : Fin (k0_t2_loop i).trips) : BitVec 32 :=
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  v113
def k0_off9 (i : grid0.Coords) (k0_t2 : Fin (k0_t2_loop i).trips) : Fin 3 → Nat :=
  let c0_64 : Index := 0#32
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v115 : Index := Scalar.indexCast v114
  let c0_65 : Index := 0#32
  ![0, v115.toNat, 0]
def k0_off10 (i : grid0.Coords) (k0_t2 : Fin (k0_t2_loop i).trips) : Fin 3 → Nat :=
  let c1_70 : Index := 1#32
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v122 : Index := Scalar.indexCast v114
  let c0_71 : Index := 0#32
  ![1, v122.toNat, 0]
def k0_mult7 (i : grid0.Coords) (k0_t2 : Fin (k0_t2_loop i).trips) : BitVec 32 :=
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1024_i32_82 : BitVec 32 := 1024#32
  let v133 : BitVec 32 := Scalar.muli v111 c1024_i32_82
  v133
def k0_off11 (i : grid0.Coords) (k0_t2 : Fin (k0_t2_loop i).trips) : Fin 3 → Nat :=
  let c0_85 : Index := 0#32
  let c0_86 : Index := 0#32
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1024_i32_82 : BitVec 32 := 1024#32
  let v133 : BitVec 32 := Scalar.muli v111 c1024_i32_82
  let v134 : BitVec 32 := v133
  let v153 : Index := Scalar.indexCast v134
  ![0, 0, v153.toNat]
def k0_off12 (i : grid0.Coords) (k0_t2 : Fin (k0_t2_loop i).trips) : Fin 3 → Nat :=
  let c1_88 : Index := 1#32
  let c0_89 : Index := 0#32
  let c2_i32_61 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v111 : BitVec 32 := Scalar.muli c2_i32_61 arg8
  let c1024_i32_82 : BitVec 32 := 1024#32
  let v133 : BitVec 32 := Scalar.muli v111 c1024_i32_82
  let v134 : BitVec 32 := v133
  let v157 : Index := Scalar.indexCast v134
  ![1, 0, v157.toNat]
def k0_mult8 (i : grid0.Coords) (k0_t2 : Fin (k0_t2_loop i).trips) : BitVec 32 :=
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  v170
def k0_off13 (i : grid0.Coords) (k0_t2 : Fin (k0_t2_loop i).trips) : Fin 3 → Nat :=
  let c0_95 : Index := 0#32
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  let v171 : BitVec 32 := v170
  let v172 : Index := Scalar.indexCast v171
  let c0_96 : Index := 0#32
  ![0, v172.toNat, 0]
def k0_off14 (i : grid0.Coords) (k0_t2 : Fin (k0_t2_loop i).trips) : Fin 3 → Nat :=
  let c1_101 : Index := 1#32
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1_i32_93 : BitVec 32 := 1#32
  let v169 : BitVec 32 := Scalar.addi v168 c1_i32_93
  let c1024_i32_94 : BitVec 32 := 1024#32
  let v170 : BitVec 32 := Scalar.muli v169 c1024_i32_94
  let v171 : BitVec 32 := v170
  let v179 : Index := Scalar.indexCast v171
  let c0_102 : Index := 0#32
  ![1, v179.toNat, 0]
def k0_mult9 (i : grid0.Coords) (k0_t2 : Fin (k0_t2_loop i).trips) : BitVec 32 :=
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  v190
def k0_off15 (i : grid0.Coords) (k0_t2 : Fin (k0_t2_loop i).trips) : Fin 3 → Nat :=
  let c0_116 : Index := 0#32
  let c0_117 : Index := 0#32
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  let v191 : BitVec 32 := v190
  let v210 : Index := Scalar.indexCast v191
  ![0, 0, v210.toNat]
def k0_off16 (i : grid0.Coords) (k0_t2 : Fin (k0_t2_loop i).trips) : Fin 3 → Nat :=
  let c1_119 : Index := 1#32
  let c0_120 : Index := 0#32
  let c2_i32_91 : BitVec 32 := 2#32
  let c0_i32_33 : BitVec 32 := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c0_i32_27 : BitVec 32 := 0#32
  let v48 : BitVec 1 := Scalar.cmpi .sgt v27 c0_i32_27
  let v49 : BitVec 32 := Scalar.extui v48
  let c0_i32_28 : BitVec 32 := 0#32
  let v50 : BitVec 1 := Scalar.cmpi .slt v27 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v27 c2_i32
  let c0_i32_31 : BitVec 32 := 0#32
  let v60 : BitVec 1 := Scalar.cmpi .ne v59 c0_i32_31
  let v61 : BitVec 1 := Scalar.andi v58 v60
  let v47 : BitVec 32 := Scalar.divsi v27 c2_i32
  let c1_i32_32 : BitVec 32 := 1#32
  let v62 : BitVec 32 := Scalar.subi v47 c1_i32_32
  let v63 : BitVec 32 := Scalar.select v61 v62 v47
  let v64 : BitVec 32 := Scalar.subi v63 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg8 : BitVec 32 := Scf.iv v68 c1_i32_36 k0_t2
  let v167 : BitVec 32 := Scalar.muli c2_i32_91 arg8
  let c1_i32_92 : BitVec 32 := 1#32
  let v168 : BitVec 32 := Scalar.addi v167 c1_i32_92
  let c1024_i32_113 : BitVec 32 := 1024#32
  let v190 : BitVec 32 := Scalar.muli v168 c1024_i32_113
  let v191 : BitVec 32 := v190
  let v214 : Index := Scalar.indexCast v191
  ![1, 0, v214.toNat]
def k0_cond1 (i : grid0.Coords) : BitVec 1 :=
  let arg1 : BitVec 32 := BitVec.ofNat 32 (i 1).val
  let c1024_i32_37 : BitVec 32 := 1024#32
  let v71 : BitVec 32 := Scalar.muli arg1 c1024_i32_37
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_38 : BitVec 32 := 1024#32
  let v72 : BitVec 32 := Scalar.muli v27 c1024_i32_38
  let v73 : BitVec 32 := Scalar.subi v71 v72
  let c0_i32_39 : BitVec 32 := 0#32
  let v74 : BitVec 1 := Scalar.cmpi .eq v73 c0_i32_39
  let c2_i32_40 : BitVec 32 := 2#32
  let c0_i32_41 : BitVec 32 := 0#32
  let v75 : BitVec 1 := Scalar.cmpi .eq c2_i32_40 c0_i32_41
  let c1_i32_42 : BitVec 32 := 1#32
  let v76 : BitVec 32 := Scalar.select v75 c1_i32_42 c2_i32_40
  let v77 : BitVec 32 := Scalar.remsi v27 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c1_i32_46 : BitVec 32 := 1#32
  let v85 : BitVec 1 := Scalar.cmpi .eq v84 c1_i32_46
  let v_false : BitVec 1 := 0#1
  let v86 : BitVec 1 := Scalar.xori v85 v_false
  let v_true : BitVec 1 := 1#1
  let v87 : BitVec 1 := Scalar.xori v86 v_true
  let v88 : BitVec 1 := Scalar.andi v74 v87
  let v89 : BitVec 32 := Scalar.extui v88
  let c0_i32_47 : BitVec 32 := 0#32
  let v90 : BitVec 1 := Scalar.cmpi .ne v89 c0_i32_47
  v90

def k0_mult10 (i : grid0.Coords) : BitVec 32 :=
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_70 : BitVec 32 := 1024#32
  let v124 : BitVec 32 := Scalar.muli v27 c1024_i32_70
  v124
def k0_off17 (i : grid0.Coords) : Fin 3 → Nat :=
  let c0_73 : Index := 0#32
  let c0_74 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_70 : BitVec 32 := 1024#32
  let v124 : BitVec 32 := Scalar.muli v27 c1024_i32_70
  let v125 : BitVec 32 := v124
  let v144 : Index := Scalar.indexCast v125
  ![0, 0, v144.toNat]
def k0_off18 (i : grid0.Coords) : Fin 3 → Nat :=
  let c1_76 : Index := 1#32
  let c0_77 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_70 : BitVec 32 := 1024#32
  let v124 : BitVec 32 := Scalar.muli v27 c1024_i32_70
  let v125 : BitVec 32 := v124
  let v148 : Index := Scalar.indexCast v125
  ![1, 0, v148.toNat]
def k0_cond2 (i : grid0.Coords) : BitVec 1 :=
  let arg1 : BitVec 32 := BitVec.ofNat 32 (i 1).val
  let c1024_i32_48 : BitVec 32 := 1024#32
  let v91 : BitVec 32 := Scalar.muli arg1 c1024_i32_48
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_49 : BitVec 32 := 1024#32
  let v92 : BitVec 32 := Scalar.muli v27 c1024_i32_49
  let v93 : BitVec 32 := Scalar.subi v91 v92
  let c0_i32_50 : BitVec 32 := 0#32
  let v94 : BitVec 1 := Scalar.cmpi .eq v93 c0_i32_50
  let c2_i32_51 : BitVec 32 := 2#32
  let c0_i32_52 : BitVec 32 := 0#32
  let v95 : BitVec 1 := Scalar.cmpi .eq c2_i32_51 c0_i32_52
  let c1_i32_53 : BitVec 32 := 1#32
  let v96 : BitVec 32 := Scalar.select v95 c1_i32_53 c2_i32_51
  let v97 : BitVec 32 := Scalar.remsi v27 v96
  let c0_i32_55 : BitVec 32 := 0#32
  let v99 : BitVec 1 := Scalar.cmpi .slt v97 c0_i32_55
  let c0_i32_56 : BitVec 32 := 0#32
  let v100 : BitVec 1 := Scalar.cmpi .slt v96 c0_i32_56
  let v101 : BitVec 1 := Scalar.xori v99 v100
  let c0_i32_54 : BitVec 32 := 0#32
  let v98 : BitVec 1 := Scalar.cmpi .ne v97 c0_i32_54
  let v102 : BitVec 1 := Scalar.andi v101 v98
  let v103 : BitVec 32 := Scalar.addi v97 v96
  let v104 : BitVec 32 := Scalar.select v102 v103 v97
  let c1_i32_57 : BitVec 32 := 1#32
  let v105 : BitVec 1 := Scalar.cmpi .eq v104 c1_i32_57
  let true_58 : BitVec 1 := 1#1
  let v106 : BitVec 1 := Scalar.xori v105 true_58
  let true_59 : BitVec 1 := 1#1
  let v107 : BitVec 1 := Scalar.xori v106 true_59
  let v108 : BitVec 1 := Scalar.andi v94 v107
  let v109 : BitVec 32 := Scalar.extui v108
  let c0_i32_60 : BitVec 32 := 0#32
  let v110 : BitVec 1 := Scalar.cmpi .ne v109 c0_i32_60
  v110

def k0_mult11 (i : grid0.Coords) : BitVec 32 :=
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1_i32_62 : BitVec 32 := 1#32
  let v112 : BitVec 32 := Scalar.addi v111 c1_i32_62
  let c1024_i32_63 : BitVec 32 := 1024#32
  let v113 : BitVec 32 := Scalar.muli v112 c1024_i32_63
  v113
def k0_off19 (i : grid0.Coords) : Fin 3 → Nat :=
  let c0_64 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v115 : Index := Scalar.indexCast v114
  let c0_65 : Index := 0#32
  ![0, v115.toNat, 0]
def k0_off20 (i : grid0.Coords) : Fin 3 → Nat :=
  let c1_70 : Index := 1#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1_i32_62 : BitVec 32 := 1#32
  let v112 : BitVec 32 := Scalar.addi v111 c1_i32_62
  let c1024_i32_63 : BitVec 32 := 1024#32
  let v113 : BitVec 32 := Scalar.muli v112 c1024_i32_63
  let v114 : BitVec 32 := v113
  let v122 : Index := Scalar.indexCast v114
  let c0_71 : Index := 0#32
  ![1, v122.toNat, 0]
def k0_mult12 (i : grid0.Coords) : BitVec 32 :=
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1024_i32_82 : BitVec 32 := 1024#32
  let v133 : BitVec 32 := Scalar.muli v111 c1024_i32_82
  v133
def k0_off21 (i : grid0.Coords) : Fin 3 → Nat :=
  let c0_85 : Index := 0#32
  let c0_86 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1024_i32_82 : BitVec 32 := 1024#32
  let v133 : BitVec 32 := Scalar.muli v111 c1024_i32_82
  let v134 : BitVec 32 := v133
  let v153 : Index := Scalar.indexCast v134
  ![0, 0, v153.toNat]
def k0_off22 (i : grid0.Coords) : Fin 3 → Nat :=
  let c1_88 : Index := 1#32
  let c0_89 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1_i32_61 : BitVec 32 := 1#32
  let v111 : BitVec 32 := Scalar.subi v27 c1_i32_61
  let c1024_i32_82 : BitVec 32 := 1024#32
  let v133 : BitVec 32 := Scalar.muli v111 c1024_i32_82
  let v134 : BitVec 32 := v133
  let v157 : Index := Scalar.indexCast v134
  ![1, 0, v157.toNat]
def k0_mult13 (i : grid0.Coords) : BitVec 32 :=
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_100 : BitVec 32 := 1024#32
  let v180 : BitVec 32 := Scalar.muli v27 c1024_i32_100
  v180
def k0_off23 (i : grid0.Coords) : Fin 3 → Nat :=
  let c0_103 : Index := 0#32
  let c0_104 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_100 : BitVec 32 := 1024#32
  let v180 : BitVec 32 := Scalar.muli v27 c1024_i32_100
  let v181 : BitVec 32 := v180
  let v200 : Index := Scalar.indexCast v181
  ![0, 0, v200.toNat]
def k0_off24 (i : grid0.Coords) : Fin 3 → Nat :=
  let c1_106 : Index := 1#32
  let c0_107 : Index := 0#32
  let arg1 : BitVec 32 := BitVec.ofNat 32 (i 1).val
  let c1024_i32 : BitVec 32 := 1024#32
  let v10 : BitVec 32 := Scalar.muli arg1 c1024_i32
  let c0_i32 : BitVec 32 := 0#32
  let v12 : BitVec 1 := Scalar.cmpi .sgt v10 c0_i32
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c1024_i32_5 : BitVec 32 := 1024#32
  let c0_i32_7 : BitVec 32 := 0#32
  let v17 : BitVec 1 := Scalar.cmpi .sgt c1024_i32_5 c0_i32_7
  let v18 : BitVec 32 := Scalar.extui v17
  let c0_i32_8 : BitVec 32 := 0#32
  let v19 : BitVec 1 := Scalar.cmpi .slt c1024_i32_5 c0_i32_8
  let v20 : BitVec 32 := Scalar.extui v19
  let v21 : BitVec 32 := Scalar.subi v18 v20
  let v22 : BitVec 1 := Scalar.cmpi .ne v16 v21
  let v23 : BitVec 32 := Scalar.remsi v10 c1024_i32_5
  let c0_i32_9 : BitVec 32 := 0#32
  let v24 : BitVec 1 := Scalar.cmpi .ne v23 c0_i32_9
  let v25 : BitVec 1 := Scalar.andi v22 v24
  let v11 : BitVec 32 := Scalar.divsi v10 c1024_i32_5
  let c1_i32 : BitVec 32 := 1#32
  let v26 : BitVec 32 := Scalar.subi v11 c1_i32
  let v27 : BitVec 32 := Scalar.select v25 v26 v11
  let c1024_i32_100 : BitVec 32 := 1024#32
  let v180 : BitVec 32 := Scalar.muli v27 c1024_i32_100
  let v181 : BitVec 32 := v180
  let v204 : Index := Scalar.indexCast v181
  ![1, 0, v204.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "qk_scale" => some (((Real.sqrt 96)⁻¹ * (Real.log 2)⁻¹ : ℝ) : EReal)
  | _ => none
-- ==== ReferenceIdeal.lean ====
abbrev S1x16384x8x64 : Shape := ⟨4, ![1, 16384, 8, 64]⟩
abbrev S1x16384x8x32 : Shape := ⟨4, ![1, 16384, 8, 32]⟩
abbrev S1x16384x256 : Shape := ⟨3, ![1, 16384, 256]⟩
abbrev S1x16384x32 : Shape := ⟨3, ![1, 16384, 32]⟩
abbrev S256x8x64 : Shape := ⟨3, ![256, 8, 64]⟩
abbrev S1x16384x1x32 : Shape := ⟨4, ![1, 16384, 1, 32]⟩
abbrev S1x16384x8x96 : Shape := ⟨4, ![1, 16384, 8, 96]⟩
abbrev S_ : Shape := ⟨0, ![]⟩
abbrev S1x8x16384x16384 : Shape := ⟨4, ![1, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S16384x512 : Shape := ⟨2, ![16384, 512]⟩

abbrev nBuf : Space → Nat
  | .hbm => 46
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x32, .f32⟩
  | .hbm, ⟨2, _⟩ => ⟨S1x16384x256, .f32⟩
  | .hbm, ⟨3, _⟩ => ⟨S1x16384x32, .f32⟩
  | .hbm, ⟨4, _⟩ => ⟨S256x8x64, .f32⟩
  | .hbm, ⟨5, _⟩ => ⟨S256x8x64, .f32⟩
  | .hbm, ⟨6, _⟩ => ⟨S1x16384x8x64, .f32⟩
  | .hbm, ⟨7, _⟩ => ⟨S1x16384x8x64, .f32⟩
  | .hbm, ⟨8, _⟩ => ⟨S1x16384x1x32, .f32⟩
  | .hbm, ⟨9, _⟩ => ⟨S1x16384x8x32, .f32⟩
  | .hbm, ⟨10, _⟩ => ⟨S1x16384x8x96, .f32⟩
  | .hbm, ⟨11, _⟩ => ⟨S1x16384x8x96, .f32⟩
  | .hbm, ⟨12, _⟩ => ⟨S_, .f32⟩
  | .hbm, ⟨13, _⟩ => ⟨S_, .f32⟩
  | .hbm, ⟨14, _⟩ => ⟨S1x8x16384x16384, .f32⟩
  | .hbm, ⟨15, _⟩ => ⟨S1x8x16384x16384, .f32⟩
  | .hbm, ⟨16, _⟩ => ⟨S1x8x16384x16384, .f32⟩
  | .hbm, ⟨17, _⟩ => ⟨S16384, .i32⟩
  | .hbm, ⟨18, _⟩ => ⟨S1x16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S_, .f32⟩
  | .hbm, ⟨25, _⟩ => ⟨S1x8x16384x16384, .i1⟩
  | .hbm, ⟨26, _⟩ => ⟨S1x8x16384x16384, .f32⟩
  | .hbm, ⟨27, _⟩ => ⟨S1x8x16384x16384, .f32⟩
  | .hbm, ⟨28, _⟩ => ⟨S_, .f32⟩
  | .hbm, ⟨29, _⟩ => ⟨S1x8x16384, .f32⟩
  | .hbm, ⟨30, _⟩ => ⟨S_, .f32⟩
  | .hbm, ⟨31, _⟩ => ⟨S1x8x16384, .f32⟩
  | .hbm, ⟨32, _⟩ => ⟨S1x8x16384, .f32⟩
  | .hbm, ⟨33, _⟩ => ⟨S1x8x16384x1, .f32⟩
  | .hbm, ⟨34, _⟩ => ⟨S1x8x16384x16384, .f32⟩
  | .hbm, ⟨35, _⟩ => ⟨S1x8x16384x16384, .f32⟩
  | .hbm, ⟨36, _⟩ => ⟨S1x8x16384x16384, .f32⟩
  | .hbm, ⟨37, _⟩ => ⟨S_, .f32⟩
  | .hbm, ⟨38, _⟩ => ⟨S1x8x16384, .f32⟩
  | .hbm, ⟨39, _⟩ => ⟨S1x8x16384x1, .f32⟩
  | .hbm, ⟨40, _⟩ => ⟨S1x8x16384x16384, .f32⟩
  | .hbm, ⟨41, _⟩ => ⟨S1x8x16384x16384, .f32⟩
  | .hbm, ⟨42, _⟩ => ⟨S1x8x64x16384, .f32⟩
  | .hbm, ⟨43, _⟩ => ⟨S1x16384x8x64, .f32⟩
  | .hbm, ⟨44, _⟩ => ⟨S16384x512, .f32⟩
  | .hbm, ⟨45, _⟩ => ⟨S16384x512, .bf16⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== MemKernel.lean ====
abbrev S1x256x1024 : Shape := ⟨3, ![1, 256, 1024]⟩
abbrev S1x1024 : Shape := ⟨2, ![1, 1024]⟩
abbrev S1x1024x1024 : Shape := ⟨3, ![1, 1024, 1024]⟩
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S256x1 : Shape := ⟨2, ![256, 1]⟩
abbrev S1x256x4x256 : Shape := ⟨4, ![1, 256, 4, 256]⟩
abbrev S1x1x256x4x256 : Shape := ⟨5, ![1, 1, 256, 4, 256]⟩

abbrev nBuf : Space → Nat
  | .hbm => 17
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .f32⟩
  | .hbm, ⟨13, _⟩ => ⟨S1x256x4x256, .f32⟩
  | .hbm, ⟨14, _⟩ => ⟨S1x1x256x4x256, .f32⟩
  | .hbm, ⟨15, _⟩ => ⟨S1x256x4x256, .f32⟩
  | .hbm, ⟨16, _⟩ => ⟨S1x1x256x4x256, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemReferenceIdeal.lean ====
abbrev S1x256x1024 : Shape := ⟨3, ![1, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x1024 : Shape := ⟨2, ![1024, 1024]⟩
abbrev S1x256x4x256 : Shape := ⟨4, ![1, 256, 4, 256]⟩
abbrev S1x1x256x4x256 : Shape := ⟨5, ![1, 1, 256, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1x256x1024, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x1024, .f32⟩
  | .hbm, ⟨17, _⟩ => ⟨S1x256x1024, .f32⟩
  | .hbm, ⟨18, _⟩ => ⟨S1x1x1024, .f32⟩
  | .hbm, ⟨19, _⟩ => ⟨S1x256x1024, .f32⟩
  | .hbm, ⟨20, _⟩ => ⟨S1x256x1024, .f32⟩
  | .hbm, ⟨21, _⟩ => ⟨S1024x1024, .f32⟩
  | .hbm, ⟨22, _⟩ => ⟨S1x256x1024, .f32⟩
  | .hbm, ⟨23, _⟩ => ⟨S1x256x4x256, .f32⟩
  | .hbm, ⟨24, _⟩ => ⟨S1024x1024, .f32⟩
  | .hbm, ⟨25, _⟩ => ⟨S1x256x1024, .f32⟩
  | .hbm, ⟨26, _⟩ => ⟨S1x256x4x256, .f32⟩
  | .hbm, ⟨27, _⟩ => ⟨S1x1x256x4x256, .f32⟩
  | .hbm, ⟨28, _⟩ => ⟨S1x1x256x4x256, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== TailKernel.lean ====
abbrev S1x16384x1024 : Shape := ⟨3, ![1, 16384, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 25
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S1x16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TailReferenceIdeal.lean ====
abbrev S1x16384x1024 : Shape := ⟨3, ![1, 16384, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x4096 : Shape := ⟨2, ![1024, 4096]⟩
abbrev S1x16384x4096 : Shape := ⟨3, ![1, 16384, 4096]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1x1024, .f32⟩
  | .hbm, ⟨8, _⟩ => ⟨S1024x1024, .f32⟩
  | .hbm, ⟨9, _⟩ => ⟨S1x16384x1024, .f32⟩
  | .hbm, ⟨10, _⟩ => ⟨S1024, .f32⟩
  | .hbm, ⟨11, _⟩ => ⟨S1x16384x1024, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x1024, .f32⟩
  | .hbm, ⟨23, _⟩ => ⟨S1x16384x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S1024, .f32⟩
  | .hbm, ⟨29, _⟩ => ⟨S1x16384x1024, .f32⟩
  | .hbm, ⟨30, _⟩ => ⟨S_, .f32⟩
  | .hbm, ⟨31, _⟩ => ⟨S1x16384, .f32⟩
  | .hbm, ⟨32, _⟩ => ⟨S1x16384x1, .f32⟩
  | .hbm, ⟨33, _⟩ => ⟨S_, .f32⟩
  | .hbm, ⟨34, _⟩ => ⟨S1x16384x1, .f32⟩
  | .hbm, ⟨35, _⟩ => ⟨S1x16384x1, .f32⟩
  | .hbm, ⟨36, _⟩ => ⟨S_, .f32⟩
  | .hbm, ⟨37, _⟩ => ⟨S1x16384x1, .f32⟩
  | .hbm, ⟨38, _⟩ => ⟨S1x16384x1, .f32⟩
  | .hbm, ⟨39, _⟩ => ⟨S1x16384x1, .f32⟩
  | .hbm, ⟨40, _⟩ => ⟨S1x16384x1024, .f32⟩
  | .hbm, ⟨41, _⟩ => ⟨S1x16384x1024, .f32⟩
  | .hbm, ⟨42, _⟩ => ⟨S1x1x1024, .f32⟩
  | .hbm, ⟨43, _⟩ => ⟨S1x16384x1024, .f32⟩
  | .hbm, ⟨44, _⟩ => ⟨S1x16384x1024, .f32⟩
  | .hbm, ⟨45, _⟩ => ⟨S1024x4096, .f32⟩
  | .hbm, ⟨46, _⟩ => ⟨S1x16384x4096, .f32⟩
  | .hbm, ⟨47, _⟩ => ⟨S_, .f32⟩
  | .hbm, ⟨48, _⟩ => ⟨S1x16384x4096, .f32⟩
  | .hbm, ⟨49, _⟩ => ⟨S1x16384x4096, .f32⟩
  | .hbm, ⟨50, _⟩ => ⟨S1x16384x4096, .f32⟩
  | .hbm, ⟨51, _⟩ => ⟨S4096x1024, .f32⟩
  | .hbm, ⟨52, _⟩ => ⟨S1x16384x1024, .f32⟩
  | .hbm, ⟨53, _⟩ => ⟨S1024, .f32⟩
  | .hbm, ⟨54, _⟩ => ⟨S1x16384x1024, .f32⟩
  | .hbm, ⟨55, _⟩ => ⟨S_, .f32⟩
  | .hbm, ⟨56, _⟩ => ⟨S1x16384, .f32⟩
  | .hbm, ⟨57, _⟩ => ⟨S1x16384x1, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S1x16384x1, .f32⟩
  | .hbm, ⟨65, _⟩ => ⟨S1x16384x1024, .f32⟩
  | .hbm, ⟨66, _⟩ => ⟨S1x16384x1024, .f32⟩
  | .hbm, ⟨67, _⟩ => ⟨S1x1x1024, .f32⟩
  | .hbm, ⟨68, _⟩ => ⟨S1x16384x1024, .f32⟩
  | .hbm, ⟨69, _⟩ => ⟨S1x16384x1024, .f32⟩
  | .hbm, ⟨70, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== LastKernel.lean ====
abbrev S128x1x1024 : Shape := ⟨3, ![128, 1, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S128x1024 : Shape := ⟨2, ![128, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S128x4096 : Shape := ⟨2, ![128, 4096]⟩

abbrev nBuf : Space → Nat
  | .hbm => 25
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1x1024, .f32⟩
  | .hbm, ⟨8, _⟩ => ⟨S128x1024, .f32⟩
  | .hbm, ⟨9, _⟩ => ⟨S128x1024, .f32⟩
  | .hbm, ⟨10, _⟩ => ⟨S128x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1024, .f32⟩
  | .hbm, ⟨22, _⟩ => ⟨S1x1024, .f32⟩
  | .hbm, ⟨23, _⟩ => ⟨S128x1024, .f32⟩
  | .hbm, ⟨24, _⟩ => ⟨S128x1x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== LastReferenceIdeal.lean ====
abbrev S128x1x1024 : Shape := ⟨3, ![128, 1, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x4096 : Shape := ⟨2, ![1024, 4096]⟩
abbrev S128x1x4096 : Shape := ⟨3, ![128, 1, 4096]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1x1024, .f32⟩
  | .hbm, ⟨8, _⟩ => ⟨S1024x1024, .f32⟩
  | .hbm, ⟨9, _⟩ => ⟨S128x1x1024, .f32⟩
  | .hbm, ⟨10, _⟩ => ⟨S1024, .f32⟩
  | .hbm, ⟨11, _⟩ => ⟨S128x1x1024, .f32⟩
  | .hbm, ⟨12, _⟩ => ⟨S_, .f32⟩
  | .hbm, ⟨13, _⟩ => ⟨S128x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S128x1x1024, .f32⟩
  | .hbm, ⟨23, _⟩ => ⟨S128x1x1024, .f32⟩
  | .hbm, ⟨24, _⟩ => ⟨S1x1x1024, .f32⟩
  | .hbm, ⟨25, _⟩ => ⟨S128x1x1024, .f32⟩
  | .hbm, ⟨26, _⟩ => ⟨S128x1x1024, .f32⟩
  | .hbm, ⟨27, _⟩ => ⟨S128x1x1024, .f32⟩
  | .hbm, ⟨28, _⟩ => ⟨S1024, .f32⟩
  | .hbm, ⟨29, _⟩ => ⟨S128x1x1024, .f32⟩
  | .hbm, ⟨30, _⟩ => ⟨S_, .f32⟩
  | .hbm, ⟨31, _⟩ => ⟨S128x1, .f32⟩
  | .hbm, ⟨32, _⟩ => ⟨S128x1x1, .f32⟩
  | .hbm, ⟨33, _⟩ => ⟨S_, .f32⟩
  | .hbm, ⟨34, _⟩ => ⟨S128x1x1, .f32⟩
  | .hbm, ⟨35, _⟩ => ⟨S128x1x1, .f32⟩
  | .hbm, ⟨36, _⟩ => ⟨S_, .f32⟩
  | .hbm, ⟨37, _⟩ => ⟨S128x1x1, .f32⟩
  | .hbm, ⟨38, _⟩ => ⟨S128x1x1, .f32⟩
  | .hbm, ⟨39, _⟩ => ⟨S128x1x1, .f32⟩
  | .hbm, ⟨40, _⟩ => ⟨S128x1x1024, .f32⟩
  | .hbm, ⟨41, _⟩ => ⟨S128x1x1024, .f32⟩
  | .hbm, ⟨42, _⟩ => ⟨S1x1x1024, .f32⟩
  | .hbm, ⟨43, _⟩ => ⟨S128x1x1024, .f32⟩
  | .hbm, ⟨44, _⟩ => ⟨S128x1x1024, .f32⟩
  | .hbm, ⟨45, _⟩ => ⟨S1024x4096, .f32⟩
  | .hbm, ⟨46, _⟩ => ⟨S128x1x4096, .f32⟩
  | .hbm, ⟨47, _⟩ => ⟨S_, .f32⟩
  | .hbm, ⟨48, _⟩ => ⟨S128x1x4096, .f32⟩
  | .hbm, ⟨49, _⟩ => ⟨S128x1x4096, .f32⟩
  | .hbm, ⟨50, _⟩ => ⟨S128x1x4096, .f32⟩
  | .hbm, ⟨51, _⟩ => ⟨S4096x1024, .f32⟩
  | .hbm, ⟨52, _⟩ => ⟨S128x1x1024, .f32⟩
  | .hbm, ⟨53, _⟩ => ⟨S1024, .f32⟩
  | .hbm, ⟨54, _⟩ => ⟨S128x1x1024, .f32⟩
  | .hbm, ⟨55, _⟩ => ⟨S_, .f32⟩
  | .hbm, ⟨56, _⟩ => ⟨S128x1, .f32⟩
  | .hbm, ⟨57, _⟩ => ⟨S128x1x1, .f32⟩
  | .hbm, ⟨58, _⟩ => ⟨S_, .f32⟩
  | .hbm, ⟨59, _⟩ => ⟨S128x1x1, .f32⟩
  | .hbm, ⟨60, _⟩ => ⟨S128x1x1, .f32⟩
  | .hbm, ⟨61, _⟩ => ⟨S_, .f32⟩
  | .hbm, ⟨62, _⟩ => ⟨S128x1x1, .f32⟩
  | .hbm, ⟨63, _⟩ => ⟨S128x1x1, .f32⟩
  | .hbm, ⟨64, _⟩ => ⟨S128x1x1, .f32⟩
  | .hbm, ⟨65, _⟩ => ⟨S128x1x1024, .f32⟩
  | .hbm, ⟨66, _⟩ => ⟨S128x1x1024, .f32⟩
  | .hbm, ⟨67, _⟩ => ⟨S1x1x1024, .f32⟩
  | .hbm, ⟨68, _⟩ => ⟨S128x1x1024, .f32⟩
  | .hbm, ⟨69, _⟩ => ⟨S128x1x1024, .f32⟩
  | .hbm, ⟨70, _⟩ => ⟨S128x1x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== StepKernel.lean ====
abbrev S1x128x8x64x64 : Shape := ⟨5, ![1, 128, 8, 64, 64]⟩
abbrev S128x1x512 : Shape := ⟨3, ![128, 1, 512]⟩
abbrev S128x512 : Shape := ⟨2, ![128, 512]⟩
abbrev S128x8x64x64 : Shape := ⟨4, ![128, 8, 64, 64]⟩
abbrev S8x64x64x128 : Shape := ⟨4, ![8, 64, 64, 128]⟩
abbrev S512x128 : Shape := ⟨2, ![512, 128]⟩
abbrev S8x1x64x128 : Shape := ⟨4, ![8, 1, 64, 128]⟩
abbrev S8x64x1x128 : Shape := ⟨4, ![8, 64, 1, 128]⟩
abbrev S1x64x64x128 : Shape := ⟨4, ![1, 64, 64, 128]⟩
abbrev S1x1x64x128 : Shape := ⟨4, ![1, 1, 64, 128]⟩
abbrev S1x64x1x128 : Shape := ⟨4, ![1, 64, 1, 128]⟩
abbrev S64x64x128 : Shape := ⟨3, ![64, 64, 128]⟩
abbrev S1x64x128 : Shape := ⟨3, ![1, 64, 128]⟩
abbrev S64x128 : Shape := ⟨2, ![64, 128]⟩
abbrev S64x1x128 : Shape := ⟨3, ![64, 1, 128]⟩

abbrev nBuf : Space → Nat
  | .hbm => 39
  | .vmem => 18
  | .smem => 0
  | _ => 0

abbrev bufTy : (tb : Table) → Fin (tcTables nBuf tb) → BufTy
  | .hbm, ⟨0, _⟩ => ⟨S1x128x8x64x64, .f32⟩
  | .hbm, ⟨1, _⟩ => ⟨S128x1x512, .f32⟩
  | .hbm, ⟨2, _⟩ => ⟨S128x1x512, .f32⟩
  | .hbm, ⟨3, _⟩ => ⟨S128x1x512, .f32⟩
  | .hbm, ⟨4, _⟩ => ⟨S128x1x512, .f32⟩
  | .hbm, ⟨5, _⟩ => ⟨S128x1x512, .f32⟩
  | .hbm, ⟨6, _⟩ => ⟨S128x1x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x8x64x64, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S8x64x64x128, .f32⟩
  | .hbm, ⟨20, _⟩ => ⟨S512x128, .f32⟩
  | .hbm, ⟨21, _⟩ => ⟨S8x1x64x128, .f32⟩
  | .hbm, ⟨22, _⟩ => ⟨S512x128, .f32⟩
  | .hbm, ⟨23, _⟩ => ⟨S8x1x64x128, .f32⟩
  | .hbm, ⟨24, _⟩ => ⟨S512x128, .f32⟩
  | .hbm, ⟨25, _⟩ => ⟨S8x1x64x128, .f32⟩
  | .hbm, ⟨26, _⟩ => ⟨S512x128, .f32⟩
  | .hbm, ⟨27, _⟩ => ⟨S8x1x64x128, .f32⟩
  | .hbm, ⟨28, _⟩ => ⟨S512x128, .f32⟩
  | .hbm, ⟨29, _⟩ => ⟨S8x1x64x128, .f32⟩
  | .hbm, ⟨30, _⟩ => ⟨S512x128, .f32⟩
  | .hbm, ⟨31, _⟩ => ⟨S8x64x1x128, .f32⟩
  | .hbm, ⟨32, _⟩ => ⟨S8x64x64x128, .f32⟩
  | .hbm, ⟨33, _⟩ => ⟨S8x64x1x128, .f32⟩
  | .hbm, ⟨34, _⟩ => ⟨S512x128, .f32⟩
  | .hbm, ⟨35, _⟩ => ⟨S128x512, .f32⟩
  | .hbm, ⟨36, _⟩ => ⟨S128x8x64x64, .f32⟩
  | .hbm, ⟨37, _⟩ => ⟨S128x1x512, .f32⟩
  | .hbm, ⟨38, _⟩ => ⟨S1x128x8x64x64, .f32⟩
  | .local _ .vmem, ⟨0, _⟩ => ⟨S1x64x64x128, .f32⟩
  | .local _ .vmem, ⟨1, _⟩ => ⟨S1x64x64x128, .f32⟩
  | .local _ .vmem, ⟨2, _⟩ => ⟨S1x1x64x128, .f32⟩
  | .local _ .vmem, ⟨3, _⟩ => ⟨S1x1x64x128, .f32⟩
  | .local _ .vmem, ⟨4, _⟩ => ⟨S1x1x64x128, .f32⟩
  | .local _ .vmem, ⟨5, _⟩ => ⟨S1x1x64x128, .f32⟩
  | .local _ .vmem, ⟨6, _⟩ => ⟨S1x1x64x128, .f32⟩
  | .local _ .vmem, ⟨7, _⟩ => ⟨S1x1x64x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x1x64x128, .f32⟩
  | .local _ .vmem, ⟨11, _⟩ => ⟨S1x1x64x128, .f32⟩
  | .local _ .vmem, ⟨12, _⟩ => ⟨S1x64x1x128, .f32⟩
  | .local _ .vmem, ⟨13, _⟩ => ⟨S1x64x1x128, .f32⟩
  | .local _ .vmem, ⟨14, _⟩ => ⟨S1x64x64x128, .f32⟩
  | .local _ .vmem, ⟨15, _⟩ => ⟨S1x64x64x128, .f32⟩
  | .local _ .vmem, ⟨16, _⟩ => ⟨S1x64x1x128, .f32⟩
  | .local _ .vmem, ⟨17, _⟩ => ⟨S1x64x1x128, .f32⟩
  | _, _ => ⟨S1x128x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepReferenceIdeal.lean ====
abbrev S1x128x8x64x64 : Shape := ⟨5, ![1, 128, 8, 64, 64]⟩
abbrev S128x1x512 : Shape := ⟨3, ![128, 1, 512]⟩
abbrev S128x8x64x64 : Shape := ⟨4, ![128, 8, 64, 64]⟩
abbrev S128x1x8x64 : Shape := ⟨4, ![128, 1, 8, 64]⟩
abbrev S128x8x64 : Shape := ⟨3, ![128, 8, 64]⟩
abbrev S128x8x1x64 : Shape := ⟨4, ![128, 8, 1, 64]⟩
abbrev S128x8x64x1 : Shape := ⟨4, ![128, 8, 64, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x128x8x64x64, .f32⟩
  | .hbm, ⟨1, _⟩ => ⟨S128x1x512, .f32⟩
  | .hbm, ⟨2, _⟩ => ⟨S128x1x512, .f32⟩
  | .hbm, ⟨3, _⟩ => ⟨S128x1x512, .f32⟩
  | .hbm, ⟨4, _⟩ => ⟨S128x1x512, .f32⟩
  | .hbm, ⟨5, _⟩ => ⟨S128x1x512, .f32⟩
  | .hbm, ⟨6, _⟩ => ⟨S128x1x512, .f32⟩
  | .hbm, ⟨7, _⟩ => ⟨S128x1x512, .f32⟩
  | .hbm, ⟨8, _⟩ => ⟨S128x1x512, .f32⟩
  | .hbm, ⟨9, _⟩ => ⟨S128x1x512, .f32⟩
  | .hbm, ⟨10, _⟩ => ⟨S128x8x64x64, .f32⟩
  | .hbm, ⟨11, _⟩ => ⟨S128x1x8x64, .f32⟩
  | .hbm, ⟨12, _⟩ => ⟨S128x8x64, .f32⟩
  | .hbm, ⟨13, _⟩ => ⟨S128x1x8x64, .f32⟩
  | .hbm, ⟨14, _⟩ => ⟨S128x8x64, .f32⟩
  | .hbm, ⟨15, _⟩ => ⟨S128x1x8x64, .f32⟩
  | .hbm, ⟨16, _⟩ => ⟨S128x8x64, .f32⟩
  | .hbm, ⟨17, _⟩ => ⟨S128x1x8x64, .f32⟩
  | .hbm, ⟨18, _⟩ => ⟨S128x8x64, .f32⟩
  | .hbm, ⟨19, _⟩ => ⟨S128x1x8x64, .f32⟩
  | .hbm, ⟨20, _⟩ => ⟨S128x8x64, .f32⟩
  | .hbm, ⟨21, _⟩ => ⟨S128x1x8x64, .f32⟩
  | .hbm, ⟨22, _⟩ => ⟨S128x8x64, .f32⟩
  | .hbm, ⟨23, _⟩ => ⟨S128x8x64, .f32⟩
  | .hbm, ⟨24, _⟩ => ⟨S128x8x64, .f32⟩
  | .hbm, ⟨25, _⟩ => ⟨S128x8x1x64, .f32⟩
  | .hbm, ⟨26, _⟩ => ⟨S128x8x64x64, .f32⟩
  | .hbm, ⟨27, _⟩ => ⟨S128x8x64x64, .f32⟩
  | .hbm, ⟨28, _⟩ => ⟨S128x8x64x1, .f32⟩
  | .hbm, ⟨29, _⟩ => ⟨S128x8x64, .f32⟩
  | .hbm, ⟨30, _⟩ => ⟨S128x8x1x64, .f32⟩
  | .hbm, ⟨31, _⟩ => ⟨S128x8x64x64, .f32⟩
  | .hbm, ⟨32, _⟩ => ⟨S128x8x64x64, .f32⟩
  | .hbm, ⟨33, _⟩ => ⟨S128x8x64x64, .f32⟩
  | .hbm, ⟨34, _⟩ => ⟨S128x8x64x64, .f32⟩
  | .hbm, ⟨35, _⟩ => ⟨S128x8x64x1, .f32⟩
  | .hbm, ⟨36, _⟩ => ⟨S128x8x1x64, .f32⟩
  | .hbm, ⟨37, _⟩ => ⟨S128x8x64x64, .f32⟩
  | .hbm, ⟨38, _⟩ => ⟨S128x8x64x64, .f32⟩
  | .hbm, ⟨39, _⟩ => ⟨S128x8x64x64, .f32⟩
  | .hbm, ⟨40, _⟩ => ⟨S128x8x64x64, .f32⟩
  | .hbm, ⟨41, _⟩ => ⟨S128x8x64, .f32⟩
  | .hbm, ⟨42, _⟩ => ⟨S128x1x512, .f32⟩
  | .hbm, ⟨43, _⟩ => ⟨S1x128x8x64x64, .f32⟩
  | _, _ => ⟨S1x128x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== ProjKernel.lean ====
abbrev S128x1x1024 : Shape := ⟨3, ![128, 1, 1024]⟩
abbrev S1x128x1824 : Shape := ⟨3, ![1, 128, 1824]⟩
abbrev S1x1024 : Shape := ⟨2, ![1, 1024]⟩
abbrev S1x1024x4544 : Shape := ⟨3, ![1, 1024, 4544]⟩
abbrev S1x384 : Shape := ⟨2, ![1, 384]⟩
abbrev S1x384x768 : Shape := ⟨3, ![1, 384, 768]⟩
abbrev S1x256 : Shape := ⟨2, ![1, 256]⟩
abbrev S1x256x8x64 : Shape := ⟨4, ![1, 256, 8, 64]⟩
abbrev S1x1824 : Shape := ⟨2, ![1, 1824]⟩
abbrev S1x512 : Shape := ⟨2, ![1, 512]⟩
abbrev S1x64x512 : Shape := ⟨3, ![1, 64, 512]⟩
abbrev S1x160x512 : Shape := ⟨3, ![1, 160, 512]⟩
abbrev S_ : Shape := ⟨0, ![]⟩
abbrev S128 : Shape := ⟨1, ![128]⟩
abbrev S16 : Shape := ⟨1, ![16]⟩
abbrev S16x1 : Shape := ⟨2, ![16, 1]⟩
abbrev S1x128 : Shape := ⟨2, ![1, 128]⟩
abbrev S16x128 : Shape := ⟨2, ![16, 128]⟩
abbrev S64x128 : Shape := ⟨2, ![64, 128]⟩
abbrev S32x128 : Shape := ⟨2, ![32, 128]⟩
abbrev S128x128 : Shape := ⟨2, ![128, 128]⟩
abbrev S256 : Shape := ⟨1, ![256]⟩
abbrev S256x1 : Shape := ⟨2, ![256, 1]⟩
abbrev S256x256 : Shape := ⟨2, ![256, 256]⟩
abbrev S1024x4544 : Shape := ⟨2, ![1024, 4544]⟩
abbrev S1024x32 : Shape := ⟨2, ![1024, 32]⟩
abbrev S1024x640 : Shape := ⟨2, ![1024, 640]⟩
abbrev S1024x64 : Shape := ⟨2, ![1024, 64]⟩
abbrev S1024x16 : Shape := ⟨2, ![1024, 16]⟩
abbrev S1024x896 : Shape := ⟨2, ![1024, 896]⟩
abbrev S1024x1824 : Shape := ⟨2, ![1024, 1824]⟩
abbrev S1024x1920 : Shape := ⟨2, ![1024, 1920]⟩
abbrev S1024x1024 : Shape := ⟨2, ![1024, 1024]⟩
abbrev S384x768 : Shape := ⟨2, ![384, 768]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S256x8x64 : Shape := ⟨3, ![256, 8, 64]⟩
abbrev S256x8x128 : Shape := ⟨3, ![256, 8, 128]⟩
abbrev S256x1024 : Shape := ⟨2, ![256, 1024]⟩
abbrev S8x64x256 : Shape := ⟨3, ![8, 64, 256]⟩
abbrev S8x128x256 : Shape := ⟨3, ![8, 128, 256]⟩
abbrev S256x512 : Shape := ⟨2, ![256, 512]⟩
abbrev S288x1536 : Shape := ⟨2, ![288, 1536]⟩
abbrev S64x512 : Shape := ⟨2, ![64, 512]⟩
abbrev S1 : Shape := ⟨1, ![1]⟩
abbrev S2 : Shape := ⟨1, ![2]⟩
abbrev S160x512 : Shape := ⟨2, ![160, 512]⟩
abbrev S1024 : Shape := ⟨1, ![1024]⟩
abbrev S384 : Shape := ⟨1, ![384]⟩
abbrev S1824 : Shape := ⟨1, ![1824]⟩
abbrev S512 : Shape := ⟨1, ![512]⟩
abbrev S128x1024 : Shape := ⟨2, ![128, 1024]⟩
abbrev S128x1824 : Shape := ⟨2, ![128, 1824]⟩
abbrev S8x128x128 : Shape := ⟨3, ![8, 128, 128]⟩
abbrev S128x256 : Shape := ⟨2, ![128, 256]⟩
abbrev S128x32 : Shape := ⟨2, ![128, 32]⟩
abbrev S128x512 : Shape := ⟨2, ![128, 512]⟩
abbrev S128x1 : Shape := ⟨2, ![128, 1]⟩
abbrev S128x896 : Shape := ⟨2, ![128, 896]⟩
abbrev S128x384 : Shape := ⟨2, ![128, 384]⟩
abbrev S128x1920 : Shape := ⟨2, ![128, 1920]⟩
abbrev S128x288 : Shape := ⟨2, ![128, 288]⟩
abbrev S128x1536 : Shape := ⟨2, ![128, 1536]⟩
abbrev S1x128x128 : Shape := ⟨3, ![1, 128, 128]⟩
abbrev S1x128x256 : Shape := ⟨3, ![1, 128, 256]⟩
abbrev S128x1x256 : Shape := ⟨3, ![128, 1, 256]⟩
abbrev S1x128x1x256 : Shape := ⟨4, ![1, 128, 1, 256]⟩

abbrev nBuf : Space → Nat
  | .hbm => 196
  | .vmem => 32
  | .smem => 0
  | _ => 0

abbrev hbmTy0_0 (i : Nat) : BufTy := match i % 128 with
  | 0 => ⟨S128x1x1024, .f32⟩
  | 1 => ⟨S1x128x1824, .f32⟩
  | 2 => ⟨S1x1024, .f32⟩
  | 3 => ⟨S1x1024x4544, .f32⟩
  | 4 => ⟨S1x384, .f32⟩
  | 5 => ⟨S1x384x768, .f32⟩
  | 6 => ⟨S1x256, .f32⟩
  | 7 => ⟨S1x256x8x64, .f32⟩
  | 8 => ⟨S1x256x8x64, .f32⟩
  | 9 => ⟨S1x1824, .f32⟩
  | 10 => ⟨S1x512, .f32⟩
  | 11 => ⟨S1x64x512, .f32⟩
  | 12 => ⟨S1x512, .f32⟩
  | 13 => ⟨S1x64x512, .f32⟩
  | 14 => ⟨S1x160x512, .f32⟩
  | 15 => ⟨S1x512, .f32⟩
  | 16 => ⟨S1x512, .f32⟩
  | 17 => ⟨S_, .i32⟩
  | 18 => ⟨S128, .i32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S16x1, .f32⟩
  | 34 => ⟨S128, .f32⟩
  | 35 => ⟨S1x128, .f32⟩
  | 36 => ⟨S16x128, .f32⟩
  | 37 => ⟨S16x128, .f32⟩
  | 38 => ⟨S16x128, .f32⟩
  | 39 => ⟨S_, .f32⟩
  | 40 => ⟨S64x128, .f32⟩
  | 41 => ⟨S_, .f32⟩
  | 42 => ⟨S32x128, .f32⟩
  | 43 => ⟨S16x128, .f32⟩
  | 44 => ⟨S16x128, .f32⟩
  | 45 => ⟨S128x128, .f32⟩
  | 46 => ⟨S128x128, .f32⟩
  | 47 => ⟨S256, .i32⟩
  | 48 => ⟨S_, .i32⟩
  | 49 => ⟨S_, .i32⟩
  | 50 => ⟨S256, .i32⟩
  | 51 => ⟨S256, .i32⟩
  | 52 => ⟨S256, .i32⟩
  | 53 => ⟨S_, .i32⟩
  | 54 => ⟨S256, .i32⟩
  | 55 => ⟨S256, .i1⟩
  | 56 => ⟨S256, .i32⟩
  | 57 => ⟨S256, .i32⟩
  | 58 => ⟨S_, .i32⟩
  | 59 => ⟨S256, .i32⟩
  | 60 => ⟨S256, .i1⟩
  | 61 => ⟨S256, .i1⟩
  | 62 => ⟨S_, .i32⟩
  | 63 => ⟨S256, .i32⟩
  | 64 => ⟨S256, .i32⟩
  | 65 => ⟨S256, .i32⟩
  | 66 => ⟨S256x1, .i32⟩
  | 67 => ⟨S1x256, .i32⟩
  | 68 => ⟨S256x256, .i32⟩
  | 69 => ⟨S256x256, .i32⟩
  | 70 => ⟨S256x256, .i1⟩
  | 71 => ⟨S256x256, .bf16⟩
  | 72 => ⟨S1024x4544, .f32⟩
  | 73 => ⟨S1024x32, .f32⟩
  | 74 => ⟨S1024x640, .f32⟩
  | 75 => ⟨S_, .f32⟩
  | 76 => ⟨S1024x64, .f32⟩
  | 77 => ⟨S_, .f32⟩
  | 78 => ⟨S1024x32, .f32⟩
  | 79 => ⟨S_, .f32⟩
  | 80 => ⟨S1024x64, .f32⟩
  | 81 => ⟨S1024x16, .f32⟩
  | 82 => ⟨S1024x16, .f32⟩
  | 83 => ⟨S1024x16, .f32⟩
  | 84 => ⟨S1024x32, .f32⟩
  | 85 => ⟨S_, .f32⟩
  | 86 => ⟨S1024x32, .f32⟩
  | 87 => ⟨S1024x896, .f32⟩
  | 88 => ⟨S1024x896, .bf16⟩
  | 89 => ⟨S1024x1824, .f32⟩
  | 90 => ⟨S_, .i32⟩
  | 91 => ⟨S_, .f32⟩
  | 92 => ⟨S1024x1920, .f32⟩
  | 93 => ⟨S1024x1920, .bf16⟩
  | 94 => ⟨S1024x1024, .f32⟩
  | 95 => ⟨S1024x1024, .bf16⟩
  | 96 => ⟨S1024x1024, .f32⟩
  | 97 => ⟨S1024x1024, .bf16⟩
  | 98 => ⟨S384x768, .f32⟩
  | 99 => ⟨S384x8x96, .f32⟩
  | 100 => ⟨S384x8x64, .f32⟩
  | 101 => ⟨S384x8x32, .f32⟩
  | 102 => ⟨S_, .f32⟩
  | 103 => ⟨S384x8x32, .f32⟩
  | 104 => ⟨S384x8x128, .f32⟩
  | 105 => ⟨S384x1024, .f32⟩
  | 106 => ⟨S384x1024, .bf16⟩
  | 107 => ⟨S_, .f32⟩
  | 108 => ⟨S384x8x64, .f32⟩
  | 109 => ⟨S384x8x16, .f32⟩
  | 110 => ⟨S384x8x16, .f32⟩
  | 111 => ⟨S384x8x16, .f32⟩
  | 112 => ⟨S384x8x32, .f32⟩
  | 113 => ⟨S_, .f32⟩
  | 114 => ⟨S384x8x32, .f32⟩
  | 115 => ⟨S384x8x128, .f32⟩
  | 116 => ⟨S384x1024, .f32⟩
  | 117 => ⟨S384x1024, .bf16⟩
  | 118 => ⟨S256x8x64, .f32⟩
  | 119 => ⟨S_, .i32⟩
  | 120 => ⟨S_, .f32⟩
  | 121 => ⟨S256x8x128, .f32⟩
  | 122 => ⟨S256x1024, .f32⟩
  | 123 => ⟨S256x1024, .bf16⟩
  | 124 => ⟨S256x8x64, .f32⟩
  | 125 => ⟨S_, .i32⟩
  | 126 => ⟨S_, .f32⟩
  | 127 => ⟨S256x8x128, .f32⟩
  | _ => ⟨S128x1x1024, .f32⟩

abbrev hbmTy0_1 (i : Nat) : BufTy := match i % 128 with
  | 0 => ⟨S256x1024, .f32⟩
  | 1 => ⟨S256x1024, .bf16⟩
  | 2 => ⟨S256x8x64, .f32⟩
  | 3 => ⟨S8x64x256, .f32⟩
  | 4 => ⟨S_, .i32⟩
  | 5 => ⟨S_, .f32⟩
  | 6 => ⟨S8x128x256, .f32⟩
  | 7 => ⟨S8x128x256, .bf16⟩
  | 8 => ⟨S256x8x64, .f32⟩
  | 9 => ⟨S256x512, .f32⟩
  | 10 => ⟨S256x512, .bf16⟩
  | 11 => ⟨S_, .f32⟩
  | 12 => ⟨S288x1536, .f32⟩
  | 13 => ⟨S64x512, .f32⟩
  | 14 => ⟨S_, .i32⟩
  | 15 => ⟨S1, .i32⟩
  | 16 => ⟨S_, .i32⟩
  | 17 => ⟨S1, .i32⟩
  | 18 => ⟨S2, .i32⟩
  | 19 => ⟨S288x1536, .f32⟩
  | 20 => ⟨S64x512, .f32⟩
  | 21 => ⟨S_, .i32⟩
  | 22 => ⟨S1, .i32⟩
  | 23 => ⟨S_, .i32⟩
  | 24 => ⟨S1, .i32⟩
  | 25 => ⟨S2, .i32⟩
  | 26 => ⟨S288x1536, .f32⟩
  | 27 => ⟨S160x512, .f32⟩
  | 28 => ⟨S_, .i32⟩
  | 29 => ⟨S1, .i32⟩
  | 30 => ⟨S_, .i32⟩
  | 31 => ⟨S1, .i32⟩
  | 32 => ⟨S2, .i32⟩
  | 33 => ⟨S288x1536, .f32⟩
  | 34 => ⟨S288x1536, .bf16⟩
  | 35 => ⟨S1024, .f32⟩
  | 36 => ⟨S1x1024, .f32⟩
  | 37 => ⟨S384, .f32⟩
  | 38 => ⟨S1x384, .f32⟩
  | 39 => ⟨S256, .f32⟩
  | 40 => ⟨S1x256, .f32⟩
  | 41 => ⟨S1824, .f32⟩
  | 42 => ⟨S1x1824, .f32⟩
  | 43 => ⟨S512, .f32⟩
  | 44 => ⟨S1x512, .f32⟩
  | 45 => ⟨S512, .f32⟩
  | 46 => ⟨S1x512, .f32⟩
  | 47 => ⟨S512, .f32⟩
  | 48 => ⟨S1x512, .f32⟩
  | 49 => ⟨S512, .f32⟩
  | 50 => ⟨S1x512, .f32⟩
  | 51 => ⟨S128x1024, .f32⟩
  | 52 => ⟨S128x1824, .f32⟩
  | 53 => ⟨S8x128x128, .bf16⟩
  | 54 => ⟨S128x256, .f32⟩
  | 55 => ⟨S128x32, .f32⟩
  | 56 => ⟨S128x1824, .f32⟩
  | 57 => ⟨S8x128x256, .f32⟩
  | 58 => ⟨S128x512, .f32⟩
  | 59 => ⟨S128x512, .f32⟩
  | 60 => ⟨S128x512, .f32⟩
  | 61 => ⟨S128x512, .f32⟩
  | 62 => ⟨S128x512, .f32⟩
  | 63 => ⟨S128x512, .f32⟩
  | 64 => ⟨S128x512, .f32⟩
  | 65 => ⟨S128x1x256, .f32⟩
  | 66 => ⟨S1x128x1x256, .f32⟩
  | 67 => ⟨S1x128x1824, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x896, .bf16⟩
  | .local _ .vmem, ⟨3, _⟩ => ⟨S1024x1920, .bf16⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S384x1024, .bf16⟩
  | .local _ .vmem, ⟨8, _⟩ => ⟨S128x128, .f32⟩
  | .local _ .vmem, ⟨9, _⟩ => ⟨S128x128, .f32⟩
  | .local _ .vmem, ⟨10, _⟩ => ⟨S8x128x256, .bf16⟩
  | .local _ .vmem, ⟨11, _⟩ => ⟨S256x512, .bf16⟩
  | .local _ .vmem, ⟨12, _⟩ => ⟨S128x1824, .f32⟩
  | .local _ .vmem, ⟨13, _⟩ => ⟨S1x1824, .f32⟩
  | .local _ .vmem, ⟨14, _⟩ => ⟨S1x512, .f32⟩
  | .local _ .vmem, ⟨15, _⟩ => ⟨S1x512, .f32⟩
  | .local _ .vmem, ⟨16, _⟩ => ⟨S288x1536, .bf16⟩
  | .local _ .vmem, ⟨17, _⟩ => ⟨S1x512, .f32⟩
  | .local _ .vmem, ⟨18, _⟩ => ⟨S1x512, .f32⟩
  | .local _ .vmem, ⟨19, _⟩ => ⟨S256x256, .bf16⟩
  | .local _ .vmem, ⟨20, _⟩ => ⟨S8x128x128, .bf16⟩
  | .local _ .vmem, ⟨21, _⟩ => ⟨S128x256, .f32⟩
  | .local _ .vmem, ⟨22, _⟩ => ⟨S128x32, .f32⟩
  | .local _ .vmem, ⟨23, _⟩ => ⟨S128x1824, .f32⟩
  | .local _ .vmem, ⟨24, _⟩ => ⟨S8x128x256, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_6 : Ref sig .tc := ⟨.hbm, 75, rfl⟩
abbrev main_v34 : Ref sig .tc := ⟨.hbm, 76, rfl⟩
abbrev main_cst_7 : Ref sig .tc := ⟨.hbm, 77, rfl⟩
abbrev main_v35 : Ref sig .tc := ⟨.hbm, 78, rfl⟩
abbrev main_cst_8 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_9 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_c_10 : Ref sig .tc := ⟨.hbm, 90, rfl⟩
abbrev main_call1_v0 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_13 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_14 : Ref sig .tc := ⟨.hbm, 119, rfl⟩
abbrev main_call2_v0 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_15 : Ref sig .tc := ⟨.hbm, 125, rfl⟩
abbrev main_call3_v0 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_16 : Ref sig .tc := ⟨.hbm, 132, rfl⟩
abbrev main_call4_v0 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_17 : Ref sig .tc := ⟨.hbm, 139, rfl⟩
abbrev main_v83 : Ref sig .tc := ⟨.hbm, 140, rfl⟩
abbrev main_v84 : Ref sig .tc := ⟨.hbm, 141, rfl⟩
abbrev main_c_18 : Ref sig .tc := ⟨.hbm, 142, rfl⟩
abbrev main_v85 : Ref sig .tc := ⟨.hbm, 143, rfl⟩
abbrev main_c_19 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_20 : Ref sig .tc := ⟨.hbm, 149, rfl⟩
abbrev main_v90 : Ref sig .tc := ⟨.hbm, 150, rfl⟩
abbrev main_c_21 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_c_22 : Ref sig .tc := ⟨.hbm, 156, rfl⟩
abbrev main_v95 : Ref sig .tc := ⟨.hbm, 157, rfl⟩
abbrev main_c_23 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118_0 : Ref sig .tc := ⟨.hbm, 181, rfl⟩
abbrev main_v118_1 : Ref sig .tc := ⟨.hbm, 182, rfl⟩
abbrev main_v118_2 : Ref sig .tc := ⟨.hbm, 183, rfl⟩
abbrev main_v118_3 : Ref sig .tc := ⟨.hbm, 184, rfl⟩
abbrev main_v118_4 : Ref sig .tc := ⟨.hbm, 185, rfl⟩
abbrev main_v118_5 : Ref sig .tc := ⟨.hbm, 186, rfl⟩
abbrev main_v118_6 : Ref sig .tc := ⟨.hbm, 187, rfl⟩
abbrev main_v118_7 : Ref sig .tc := ⟨.hbm, 188, rfl⟩
abbrev main_v118_8 : Ref sig .tc := ⟨.hbm, 189, rfl⟩
abbrev main_v118_9 : Ref sig .tc := ⟨.hbm, 190, rfl⟩
abbrev main_v118_10 : Ref sig .tc := ⟨.hbm, 191, rfl⟩
abbrev main_v118_11 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S8x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1824 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x1824 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S288x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x1824 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S8x128x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S128x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S128x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S128x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S128x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![true]

abbrev stage0_29 : Fin 1 → Memref sig .tc .vmem S128x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![true]

abbrev stage0_30 : Fin 1 → Memref sig .tc .vmem S128x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![true]

abbrev stage0_31 : Fin 1 → Memref sig .tc .vmem S128x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![true]
-- ==== ProjReferenceIdeal.lean ====
abbrev S128x1x1024 : Shape := ⟨3, ![128, 1, 1024]⟩
abbrev S1x128x1824 : Shape := ⟨3, ![1, 128, 1824]⟩
abbrev S1x1024 : Shape := ⟨2, ![1, 1024]⟩
abbrev S1x1024x4544 : Shape := ⟨3, ![1, 1024, 4544]⟩
abbrev S1x384 : Shape := ⟨2, ![1, 384]⟩
abbrev S1x384x768 : Shape := ⟨3, ![1, 384, 768]⟩
abbrev S1x256 : Shape := ⟨2, ![1, 256]⟩
abbrev S1x256x8x64 : Shape := ⟨4, ![1, 256, 8, 64]⟩
abbrev S1x1824 : Shape := ⟨2, ![1, 1824]⟩
abbrev S1x512 : Shape := ⟨2, ![1, 512]⟩
abbrev S1x64x512 : Shape := ⟨3, ![1, 64, 512]⟩
abbrev S1x160x512 : Shape := ⟨3, ![1, 160, 512]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x4544 : Shape := ⟨2, ![1024, 4544]⟩
abbrev S128x1x4544 : Shape := ⟨3, ![128, 1, 4544]⟩
abbrev S128x1x256 : Shape := ⟨3, ![128, 1, 256]⟩
abbrev S128x1x1824 : Shape := ⟨3, ![128, 1, 1824]⟩
abbrev S256 : Shape := ⟨1, ![256]⟩
abbrev S1x1x256 : Shape := ⟨3, ![1, 1, 256]⟩
abbrev S1x128x1x256 : Shape := ⟨4, ![1, 128, 1, 256]⟩
abbrev S128x1824 : Shape := ⟨2, ![128, 1824]⟩

abbrev nBuf : Space → Nat
  | .hbm => 58
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x1824, .f32⟩
  | .hbm, ⟨2, _⟩ => ⟨S1x1024, .f32⟩
  | .hbm, ⟨3, _⟩ => ⟨S1x1024x4544, .f32⟩
  | .hbm, ⟨4, _⟩ => ⟨S1x384, .f32⟩
  | .hbm, ⟨5, _⟩ => ⟨S1x384x768, .f32⟩
  | .hbm, ⟨6, _⟩ => ⟨S1x256, .f32⟩
  | .hbm, ⟨7, _⟩ => ⟨S1x256x8x64, .f32⟩
  | .hbm, ⟨8, _⟩ => ⟨S1x256x8x64, .f32⟩
  | .hbm, ⟨9, _⟩ => ⟨S1x1824, .f32⟩
  | .hbm, ⟨10, _⟩ => ⟨S1x512, .f32⟩
  | .hbm, ⟨11, _⟩ => ⟨S1x64x512, .f32⟩
  | .hbm, ⟨12, _⟩ => ⟨S1x512, .f32⟩
  | .hbm, ⟨13, _⟩ => ⟨S1x64x512, .f32⟩
  | .hbm, ⟨14, _⟩ => ⟨S1x160x512, .f32⟩
  | .hbm, ⟨15, _⟩ => ⟨S1x512, .f32⟩
  | .hbm, ⟨16, _⟩ => ⟨S1x512, .f32⟩
  | .hbm, ⟨17, _⟩ => ⟨S1024, .f32⟩
  | .hbm, ⟨18, _⟩ => ⟨S128x1x1024, .f32⟩
  | .hbm, ⟨19, _⟩ => ⟨S_, .f32⟩
  | .hbm, ⟨20, _⟩ => ⟨S128x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S128x1x1, .f32⟩
  | .hbm, ⟨29, _⟩ => ⟨S128x1x1024, .f32⟩
  | .hbm, ⟨30, _⟩ => ⟨S128x1x1024, .f32⟩
  | .hbm, ⟨31, _⟩ => ⟨S1x1x1024, .f32⟩
  | .hbm, ⟨32, _⟩ => ⟨S128x1x1024, .f32⟩
  | .hbm, ⟨33, _⟩ => ⟨S128x1x1024, .f32⟩
  | .hbm, ⟨34, _⟩ => ⟨S1024x4544, .f32⟩
  | .hbm, ⟨35, _⟩ => ⟨S128x1x4544, .f32⟩
  | .hbm, ⟨36, _⟩ => ⟨S128x1x256, .f32⟩
  | .hbm, ⟨37, _⟩ => ⟨S128x1x1824, .f32⟩
  | .hbm, ⟨38, _⟩ => ⟨S256, .f32⟩
  | .hbm, ⟨39, _⟩ => ⟨S128x1x256, .f32⟩
  | .hbm, ⟨40, _⟩ => ⟨S_, .f32⟩
  | .hbm, ⟨41, _⟩ => ⟨S128x1, .f32⟩
  | .hbm, ⟨42, _⟩ => ⟨S128x1x1, .f32⟩
  | .hbm, ⟨43, _⟩ => ⟨S_, .f32⟩
  | .hbm, ⟨44, _⟩ => ⟨S128x1x1, .f32⟩
  | .hbm, ⟨45, _⟩ => ⟨S128x1x1, .f32⟩
  | .hbm, ⟨46, _⟩ => ⟨S_, .f32⟩
  | .hbm, ⟨47, _⟩ => ⟨S128x1x1, .f32⟩
  | .hbm, ⟨48, _⟩ => ⟨S128x1x1, .f32⟩
  | .hbm, ⟨49, _⟩ => ⟨S128x1x1, .f32⟩
  | .hbm, ⟨50, _⟩ => ⟨S128x1x256, .f32⟩
  | .hbm, ⟨51, _⟩ => ⟨S128x1x256, .f32⟩
  | .hbm, ⟨52, _⟩ => ⟨S1x1x256, .f32⟩
  | .hbm, ⟨53, _⟩ => ⟨S128x1x256, .f32⟩
  | .hbm, ⟨54, _⟩ => ⟨S128x1x256, .f32⟩
  | .hbm, ⟨55, _⟩ => ⟨S1x128x1x256, .f32⟩
  | .hbm, ⟨56, _⟩ => ⟨S128x1824, .f32⟩
  | .hbm, ⟨57, _⟩ => ⟨S1x128x1824, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

set_option maxRecDepth 16384

noncomputable section

/-! # What the kernel computes with one block of keys

The five operations a grid point of the attention kernel is made of, as functions of vectors. -/

namespace Cert.KernelIdeal.Attn

open Cert.KernelIdeal Cert.KernelIdeal.Gen Idealize.ShloMosaic

section Defs
variable {F : FTy → Type} [FloatOps F] [Named F]

/-- One head's query block, scaled. -/
def query (x : Vec F S1x1024x128 .f32) : FVec F S1024x128 .bf16 := k0_pay68 x

/-- The scores of a block of keys (rows) against the query block (columns). -/
def scores (q : FVec F S1024x128 .bf16) (k : Vec F S1x1024x128 .bf16) : FVec F S1024x1024 .f32 :=
  matmul dot_S1024x128_S1024x128_S1024x1024_1_1_0_0_n_n none (shapeCast S1024x128 k shapeCasts_S1x1024x128_S1024x128 : FVec F S1024x128 .bf16) q
    (constant S1024x1024 .f32 0x00000000#32)

/-- The scores of the diagonal block: a key after the query counts for nothing. -/
def masked (s : FVec F S1024x1024 .f32) : FVec F S1024x1024 .f32 :=
  select k0_pay42 s (broadcast S1024x1024 (Scalar.ofBits .f32 0xFF800000#32 : F .f32))

/-- The largest score after a block. -/
def newMax (m : FVec F S1x1024 .f32) (s : FVec F S1024x1024 .f32) : FVec F S1x1024 .f32 := k0_pay9 m s

/-- The weighted values after a block. -/
def newAcc (m : FVec F S1x1024 .f32) (a : FVec F S128x1024 .f32) (s : FVec F S1024x1024 .f32) (v : Vec F S1x128x1024 .bf16) :
    FVec F S128x1024 .f32 := k0_pay11 m a s v

/-- The block written: per head the quotient of the first 64 lanes by lane 64, the two heads side by side. -/
def finish (a0 a1 : FVec F S128x1024 .f32) : FVec F S1024x128 .bf16 :=
  truncf .bf16 (transpose S1024x128 [1, 0] (concatenate S128x1024 0
    [⟨S64x1024, divf (extractStridedSlice S64x1024 ![0, 0] a0 slices_S128x1024_o0_0_S64x1024)
        (broadcastTo S64x1024 (extractStridedSlice S1x1024 ![64, 0] a0 slices_S128x1024_o64_0_S1x1024) broadcasts_S1x1024_S64x1024)⟩,
     ⟨S64x1024, divf (extractStridedSlice S64x1024 ![0, 0] a1 slices_S128x1024_o0_0_S64x1024)
        (broadcastTo S64x1024 (extractStridedSlice S1x1024 ![64, 0] a1 slices_S128x1024_o64_0_S1x1024) broadcasts_S1x1024_S64x1024)⟩]
    concatenates_S64x1024_S64x1024_S128x1024_d0 : FVec F S128x1024 .f32) transposes_S128x1024_p1_0_S1024x128) bitsLt_bf16_f32

end Defs

end Cert.KernelIdeal.Attn

end
-- ==== Proof.Trips.lean ====
module

public import proofs.«01_k».proof.Proof.Gen.KernelIdeal.Loops
public import proofs.«01_k».proof.Proof.Steps
public import Idealize.ShloMosaic.Lib.WholeRead
public import Idealize.ShloMosaic.Lib.WritesUnit
public import Idealize.ShloMosaic.Lib.Pointwise
public import Idealize.ShloMosaic.Lib.Pipeline.FrameBody
public import Idealize.ShloMosaic.Lib.Pipeline.ReadBack
public import Idealize.ShloMosaic.Lib.Pipeline.Value

@[expose] public section

set_option maxRecDepth 16384

noncomputable section

/-! # The kernel's loop over the key blocks

A trip of the loop takes two blocks: the scores of the first are in the first scratch buffer when it begins, and the
scores of the third are there when it ends. -/

namespace Cert.KernelIdeal.Attn

open Cert.KernelIdeal Cert.KernelIdeal.Gen Idealize.ShloMosaic Idealize.ShloMosaic.TcCoe Idealize.SL.Sem

variable {F : FTy → Type} [FloatOps F] [Named F]

/-- Block `n` of 1024 keys of one of the two heads. -/
def kblk (x1 : Vec F S2x16384x128 .bf16) (hh : Fin 2) (n : ℕ) : Vec F S1x1024x128 .bf16 :=
  fun x => x1 (ix3 hh ⟨(n * 1024 + (x 1).val) % 16384, Nat.mod_lt _ (by omega)⟩ (x 2))

/-- Block `n` of 1024 values of one of the two heads. -/
def vblk (x2 : Vec F S2x128x16384 .bf16) (hh : Fin 2) (n : ℕ) : Vec F S1x128x1024 .bf16 :=
  fun x => x2 (ix3 hh (x 1) ⟨(n * 1024 + (x 2).val) % 16384, Nat.mod_lt _ (by omega)⟩)

/-- One head's block of queries. -/
def qblk (x0 : Vec F S2x1024x128 .f32) (hh : Fin 2) : Vec F S1x1024x128 .f32 :=
  fun x => x0 (ix3 hh (x 1) (x 2))

/-- What the loop carries: for each head the largest score and the weighted values. -/
abbrev Carry (F : FTy → Type) : Type :=
  FVec F S1x1024 .f32 × FVec F S128x1024 .f32 × FVec F S1x1024 .f32 × FVec F S128x1024 .f32

/-- The carried values after a block whose scores are `s0` and `s1`. -/
def step (x2 : Vec F S2x128x16384 .bf16) (n : ℕ) (a : Carry F) (s0 s1 : FVec F S1024x1024 .f32) : Carry F :=
  (newMax a.1 s0, newAcc a.1 a.2.1 s0 (vblk x2 0 n), newMax a.2.2.1 s1, newAcc a.2.2.1 a.2.2.2 s1 (vblk x2 1 n))

/-- The carried values after `n` blocks. -/
def state (q0 q1 : FVec F S1024x128 .bf16) (x1 : Vec F S2x16384x128 .bf16) (x2 : Vec F S2x128x16384 .bf16) : ℕ → Carry F
  | 0 => (k0_pay73, k0_pay74, k0_pay75, k0_pay76)
  | n + 1 => step x2 n (state q0 q1 x1 x2 n) (scores q0 (kblk x1 0 n)) (scores q1 (kblk x1 1 n))

/-- The block of results: after the `n` blocks before the diagonal, the diagonal one masked. -/
def out (n : ℕ) (x0 : Vec F S2x1024x128 .f32) (x1 : Vec F S2x16384x128 .bf16) (x2 : Vec F S2x128x16384 .bf16) :
    FVec F S1024x128 .bf16 :=
  let q0 := query (qblk x0 0)
  let q1 := query (qblk x0 1)
  let a := step x2 n (state q0 q1 x1 x2 n) (masked (scores q0 (kblk x1 0 n))) (masked (scores q1 (kblk x1 1 n)))
  finish a.2.1 a.2.2.2

/-! ## Loads -/

theorem load_k {arg3 : Memref sig .tc .vmem S2x16384x128 .bf16} (h : arg3.IsWhole) (x1 : Vec F S2x16384x128 .bf16)
    {off : Fin 3 → ℕ} (inb : ∀ a, off a + S1x1024x128.size a ≤ S2x16384x128.size a) (hh : Fin 2) (n : ℕ)
    (e : off = ![hh.val, n * 1024, 0]) :
    View.readAt (Elt F) arg3.view (Rect.unit (s := S2x16384x128) off S1x1024x128.size inb).toLoadRect (h.unread x1) = kblk x1 hh n := by
  subst e
  funext x
  rw [h.readAt_unread]
  refine congrArg x1 (funext fun a => Fin.ext ?_)
  have h1 : n * 1024 + (x 1).val < 16384 := by
    have := inb 1; have := (x 1).isLt; simp [S1x1024x128, S2x16384x128] at *; omega
  have h0 : (x 0).val = 0 := by have := (x 0).isLt; simp [S1x1024x128] at *; omega
  fin_cases a
  · show hh.val + 1 * (x 0).val = hh.val; omega
  · show n * 1024 + 1 * (x 1).val = (n * 1024 + (x 1).val) % 16384; rw [Nat.mod_eq_of_lt h1]; omega
  · show 0 + 1 * (x 2).val = (x 2).val; omega

theorem load_v {arg4 : Memref sig .tc .vmem S2x128x16384 .bf16} (h : arg4.IsWhole) (x2 : Vec F S2x128x16384 .bf16)
    {off : Fin 3 → ℕ} (inb : ∀ a, off a + S1x128x1024.size a ≤ S2x128x16384.size a) (hh : Fin 2) (n : ℕ)
    (e : off = ![hh.val, 0, n * 1024]) :
    View.readAt (Elt F) arg4.view (Rect.unit (s := S2x128x16384) off S1x128x1024.size inb).toLoadRect (h.unread x2) = vblk x2 hh n := by
  subst e
  funext x
  rw [h.readAt_unread]
  refine congrArg x2 (funext fun a => Fin.ext ?_)
  have h1 : n * 1024 + (x 2).val < 16384 := by
    have := inb 2; have := (x 2).isLt; simp [S1x128x1024, S2x128x16384] at *; omega
  have h0 : (x 0).val = 0 := by have := (x 0).isLt; simp [S1x128x1024] at *; omega
  fin_cases a
  · show hh.val + 1 * (x 0).val = hh.val; omega
  · show 0 + 1 * (x 1).val = (x 1).val; omega
  · show n * 1024 + 1 * (x 2).val = (n * 1024 + (x 2).val) % 16384; rw [Nat.mod_eq_of_lt h1]; omega

theorem load_q {arg2 : Memref sig .tc .vmem S2x1024x128 .f32} (h : arg2.IsWhole) (x0 : Vec F S2x1024x128 .f32)
    {off : Fin 3 → ℕ} (inb : ∀ a, off a + S1x1024x128.size a ≤ S2x1024x128.size a) (hh : Fin 2)
    (e : off = ![hh.val, 0, 0]) :
    View.readAt (Elt F) arg2.view (Rect.unit (s := S2x1024x128) off S1x1024x128.size inb).toLoadRect (h.unread x0) = qblk x0 hh := by
  subst e
  funext x
  rw [h.readAt_unread]
  refine congrArg x0 (funext fun a => Fin.ext ?_)
  have h0 : (x 0).val = 0 := by have := (x 0).isLt; simp [S1x1024x128] at *; omega
  fin_cases a
  · show hh.val + 1 * (x 0).val = hh.val; omega
  · show 0 + 1 * (x 1).val = (x 1).val; omega
  · show 0 + 1 * (x 2).val = (x 2).val; omega

/-- The two score blocks a scratch buffer was last written with are what its two halves read. -/
theorem read_hi (v : View sig .tc .vmem S2x1024x1024 .f32) (f : v.ty.Contents (Elt F)) {off : Fin 3 → ℕ}
    (inb : ∀ a, off a + S1x1024x1024.size a ≤ S2x1024x1024.size a)
    (w : (Rect.unit (s := S2x1024x1024) off S1x1024x1024.size inb).shape.Idx → Elt F .f32)
    (L : List (View.Piece (Elt F) S2x1024x1024 .f32)) :
    v.readAt (Elt F) (Rect.unit (s := S2x1024x1024) off S1x1024x1024.size inb).toLoadRect
      (v.writes (Elt F) f (⟨Rect.unit (s := S2x1024x1024) off S1x1024x1024.size inb, w⟩ :: L)) = w := by
  funext x
  exact View.read_writes_cons_emb v f (Rect.unit off S1x1024x1024.size inb) w L x

theorem read_lo (v : View sig .tc .vmem S2x1024x1024 .f32) (f : v.ty.Contents (Elt F))
    (inb0 : ∀ a, (![0, 0, 0] : Fin 3 → ℕ) a + S1x1024x1024.size a ≤ S2x1024x1024.size a)
    (inb1 : ∀ a, (![1, 0, 0] : Fin 3 → ℕ) a + S1x1024x1024.size a ≤ S2x1024x1024.size a)
    (w : (Rect.unit (s := S2x1024x1024) ![1, 0, 0] S1x1024x1024.size inb1).shape.Idx → Elt F .f32)
    (L : List (View.Piece (Elt F) S2x1024x1024 .f32)) :
    v.readAt (Elt F) (Rect.unit (s := S2x1024x1024) ![0, 0, 0] S1x1024x1024.size inb0).toLoadRect
      (v.writes (Elt F) f (⟨Rect.unit (s := S2x1024x1024) ![1, 0, 0] S1x1024x1024.size inb1, w⟩ :: L))
    = v.readAt (Elt F) (Rect.unit (s := S2x1024x1024) ![0, 0, 0] S1x1024x1024.size inb0).toLoadRect (v.writes (Elt F) f L) := by
  funext x
  refine View.read_writes_cons_unit_of_not_mem v f inb1 w L _ rfl 0 (Or.inl ?_)
  have h0 : (x 0).val = 0 := by have := (x 0).isLt; simp [S1x1024x1024, Rect.unit] at *; omega
  show 0 + 1 * (x 0).val < 1
  omega

/-! ## One trip -/

section Trip
variable (𝒱 : Variants) (c : Dev nD) (bd : Option 𝒱.V) (i : grid0.Coords) (arg2 : Memref sig .tc .vmem S2x1024x128 .f32) (harg2 : arg2.IsWhole) (arg3 : Memref sig .tc .vmem S2x16384x128 .bf16) (harg3 : arg3.IsWhole) (arg4 : Memref sig .tc .vmem S2x128x16384 .bf16) (harg4 : arg4.IsWhole) (arg5 : Memref sig .tc .vmem S1024x128 .bf16) (harg5 : arg5.IsWhole) (arg6 : Memref sig .tc .vmem S2x1024x1024 .f32) (harg6 : arg6.IsWhole) (arg7 : Memref sig .tc .vmem S2x1024x1024 .f32) (harg7 : arg7.IsWhole)

theorem off_t1 (k : Fin (k0_t1_loop i).trips) :
    k0_off1 i k = ![0, (2 * k.val + 1) * 1024, 0] ∧ k0_off2 i k = ![1, (2 * k.val + 1) * 1024, 0]
    ∧ k0_off3 i k = ![0, 0, (2 * k.val) * 1024] ∧ k0_off4 i k = ![1, 0, (2 * k.val) * 1024]
    ∧ k0_off5 i k = ![0, (2 * k.val + 2) * 1024, 0] ∧ k0_off6 i k = ![1, (2 * k.val + 2) * 1024, 0]
    ∧ k0_off7 i k = ![0, 0, (2 * k.val + 1) * 1024] ∧ k0_off8 i k = ![1, 0, (2 * k.val + 1) * 1024] := by
  revert i; decide +kernel

theorem trip_value (q0 q1 : FVec F S1024x128 .bf16) (v27 v28 : BitVec 32) (v32 : FVec F S1024x1024 .f32)
    (x1 : Vec F S2x16384x128 .bf16) (x2 : Vec F S2x128x16384 .bf16) (k : Fin (k0_t1_loop i).trips) (a : Carry F)
    (f6 : arg6.view.ty.Contents (Elt F)) (f7 : arg7.view.ty.Contents (Elt F)) (s0 s1 : FVec F S1024x1024 .f32)
    (h0 : arg6.view.readAt (Elt F) (Rect.unit (s := S2x1024x1024) ![0, 0, 0] S1x1024x1024.size inb_S2x1024x1024_S1x1024x1024_0_0_0).toLoadRect f6
      = shapeCast S1x1024x1024 s0 shapeCasts_S1024x1024_S1x1024x1024)
    (h1 : arg6.view.readAt (Elt F) (Rect.unit (s := S2x1024x1024) ![1, 0, 0] S1x1024x1024.size inb_S2x1024x1024_S1x1024x1024_1_0_0).toLoadRect f6
      = shapeCast S1x1024x1024 s1 shapeCasts_S1024x1024_S1x1024x1024) :
    tripR_k0_t1 (F := F) 𝒱 c bd i arg2 harg2 arg3 harg3 arg4 harg4 arg5 harg5 arg6 harg6 arg7 harg7 q0 q1 v27 v28 v32
        (harg3.unread x1) (harg4.unread x2) k a f6 f7
      = step x2 (2 * k.val + 1) (step x2 (2 * k.val) a s0 s1) (scores q0 (kblk x1 0 (2 * k.val + 1))) (scores q1 (kblk x1 1 (2 * k.val + 1)))
    ∧ (tripL_k0_t1 (F := F) 𝒱 c bd i arg2 harg2 arg3 harg3 arg4 harg4 arg5 harg5 arg6 harg6 arg7 harg7 q0 q1 v27 v28 v32
        (harg3.unread x1) (harg4.unread x2) k a f6 f7).1
      = [⟨Rect.unit ![1, 0, 0] S1x1024x1024.size inb_S2x1024x1024_S1x1024x1024_1_0_0,
            shapeCast S1x1024x1024 (scores q1 (kblk x1 1 (2 * k.val + 2))) shapeCasts_S1024x1024_S1x1024x1024⟩,
         ⟨Rect.unit ![0, 0, 0] S1x1024x1024.size inb_S2x1024x1024_S1x1024x1024_0_0_0,
            shapeCast S1x1024x1024 (scores q0 (kblk x1 0 (2 * k.val + 2))) shapeCasts_S1024x1024_S1x1024x1024⟩] := by
  obtain ⟨e1, e2, e3, e4, e5, e6, e7, e8⟩ := off_t1 i k
  unfold tripR_k0_t1 tripL_k0_t1 trip_k0_t1
  dsimp only
  sl_unfold_run_names
  simp (disch := decide) only [↓ View.readCov_skip, ↓ View.readCov_cons_toLoadRect]
  rw [h0, h1]
  constructor
  · simp only [shapeCast_shapeCast]
    rw [load_k harg3 x1 _ 0 (2 * k.val + 1) e1, load_k harg3 x1 _ 1 (2 * k.val + 1) e2, load_v harg4 x2 _ 0 (2 * k.val) e3,
      load_v harg4 x2 _ 1 (2 * k.val) e4, load_v harg4 x2 _ 0 (2 * k.val + 1) e7, load_v harg4 x2 _ 1 (2 * k.val + 1) e8]
    rfl
  · rw [load_k harg3 x1 _ 0 (2 * k.val + 2) e5, load_k harg3 x1 _ 1 (2 * k.val + 2) e6]
    rfl

/-- What the loop has reached after `k` trips: the carried values of `2k` blocks, and the next block's scores in the
first scratch buffer. The second buffer's contents at the loop's entry play no part. -/
theorem loop_value (q0 q1 : FVec F S1024x128 .bf16) (v27 v28 : BitVec 32) (v32 : FVec F S1024x1024 .f32)
    (x1 : Vec F S2x16384x128 .bf16) (x2 : Vec F S2x128x16384 .bf16)
    (f6 : arg6.view.ty.Contents (Elt F)) (f7 : arg7.view.ty.Contents (Elt F))
    (h0 : arg6.view.readAt (Elt F) (Rect.unit (s := S2x1024x1024) ![0, 0, 0] S1x1024x1024.size inb_S2x1024x1024_S1x1024x1024_0_0_0).toLoadRect f6
      = shapeCast S1x1024x1024 (scores q0 (kblk x1 0 0)) shapeCasts_S1024x1024_S1x1024x1024)
    (h1 : arg6.view.readAt (Elt F) (Rect.unit (s := S2x1024x1024) ![1, 0, 0] S1x1024x1024.size inb_S2x1024x1024_S1x1024x1024_1_0_0).toLoadRect f6
      = shapeCast S1x1024x1024 (scores q1 (kblk x1 1 0)) shapeCasts_S1024x1024_S1x1024x1024) :
    ∀ k : ℕ, k ≤ (k0_t1_loop i).trips →
      (st_k0_t1 (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) k).1 = state q0 q1 x1 x2 (2 * k)
      ∧ arg6.view.readAt (Elt F) (Rect.unit (s := S2x1024x1024) ![0, 0, 0] S1x1024x1024.size inb_S2x1024x1024_S1x1024x1024_0_0_0).toLoadRect
          (arg6.view.writes (Elt F) f6 (st_k0_t1 (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) k).2.1)
          = shapeCast S1x1024x1024 (scores q0 (kblk x1 0 (2 * k))) shapeCasts_S1024x1024_S1x1024x1024
      ∧ arg6.view.readAt (Elt F) (Rect.unit (s := S2x1024x1024) ![1, 0, 0] S1x1024x1024.size inb_S2x1024x1024_S1x1024x1024_1_0_0).toLoadRect
          (arg6.view.writes (Elt F) f6 (st_k0_t1 (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) k).2.1)
          = shapeCast S1x1024x1024 (scores q1 (kblk x1 1 (2 * k))) shapeCasts_S1024x1024_S1x1024x1024 := by
  intro k
  induction k with
  | zero => intro _; exact ⟨rfl, h0, h1⟩
  | succ k ih =>
    intro hk
    obtain ⟨ihv, ih0, ih1⟩ := ih (by omega)
    rw [st_k0_t1_succ (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) ⟨k, hk⟩]
    obtain ⟨t1, t2⟩ := trip_value 𝒱 c bd i arg2 harg2 arg3 harg3 arg4 harg4 arg5 harg5 arg6 harg6 arg7 harg7 q0 q1 v27 v28 v32
      x1 x2 ⟨k, hk⟩ (st_k0_t1 (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) k).1 _
        (arg7.view.writes (Elt F) f7 (st_k0_t1 (F := F) 𝒱 c bd i arg2 harg2 arg3 harg3 arg4 harg4 arg5 harg5 arg6 harg6 arg7 harg7 q0 q1 v27 v28 v32
        (harg3.unread x1) (harg4.unread x2) f6 f7 (k0_pay73, k0_pay74, k0_pay75, k0_pay76) k).2.2) _ _ ih0 ih1
    refine ⟨?_, ?_, ?_⟩
    · refine t1.trans ?_
      rw [ihv]
      rfl
    · dsimp only at t2 ⊢
      rw [t2]
      simp only [List.cons_append, List.nil_append]
      rw [read_lo, read_hi]
      rfl
    · dsimp only at t2 ⊢
      rw [t2]
      simp only [List.cons_append, List.nil_append]
      rw [read_hi]
      rfl

end Trip

theorem trips_t1 : ∀ i : grid0.Coords, (k0_t1_loop i).trips = (i 1).val / 2 := by decide +kernel
theorem trips_t2 : ∀ i : grid0.Coords, (k0_t2_loop i).trips = 0 := by decide +kernel

end Cert.KernelIdeal.Attn

end
-- ==== Proof.RunA.lean ====
module

public import proofs.«01_k».proof.Proof.Gen.KernelIdeal.Frame.Runs
public import proofs.«01_k».proof.Proof.Trips

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem even_block : ∀ i : grid0.Coords, cond0_0 i → 2 * ((i 1).val / 2) = (i 1).val := by decide +kernel

set_option maxHeartbeats 4000000 in
/-- At an even block of queries the body leaves the block of results `out`, whatever the buffers it writes held. -/
theorem run_A (c : Dev nD) (i : grid0.Coords) (arg2 : Memref sig .tc .vmem S2x1024x128 .f32) (harg2 : arg2.IsWhole) (arg3 : Memref sig .tc .vmem S2x16384x128 .bf16) (harg3 : arg3.IsWhole) (arg4 : Memref sig .tc .vmem S2x128x16384 .bf16) (harg4 : arg4.IsWhole) (arg5 : Memref sig .tc .vmem S1024x128 .bf16) (harg5 : arg5.IsWhole) (arg6 : Memref sig .tc .vmem S2x1024x1024 .f32) (harg6 : arg6.IsWhole) (arg7 : Memref sig .tc .vmem S2x1024x1024 .f32) (harg7 : arg7.IsWhole) (hc0 : cond0_0 i) (hc1 : ¬cond0_1 i)
    (x0 : Vec F S2x1024x128 .f32) (x1 : Vec F S2x16384x128 .bf16) (x2 : Vec F S2x128x16384 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f [⟨Rect.unit ![0, 0] S1024x128.size inb_S1024x128_S1024x128_0_0, out (i 1).val x0 x1 x2⟩]) ∗ (∃ d, owns (c : Thread nD τ) arg6 fullShare d) ∗ (∃ d, owns (c : Thread nD τ) arg7 fullShare d)) -∗ K ⟨⟩))
          ⊢ wp frame (wpE (defs₀ (F := F)) Variants.none c none) E (cc0_mla_prompt i arg2 harg2 arg3 harg3 arg4 harg4 arg5 harg5 arg6 harg6 arg7 harg7) K := by
    intro E K
    simp only [cc0_mla_prompt_eq_skeleton]; unfold cc0_mla_prompt_skel
    simp only [k0_part10_eq_skeleton, k0_part11_eq_skeleton, k0_part12_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3
      sl_unfold_run_names
      have ht1 : Scf.trips (k0_t1_loop i).lb (k0_t1_loop i).ub (k0_t1_loop i).st = _ := trips_t1 i
      have ht2 : Scf.trips (k0_t2_loop i).lb (k0_t2_loop i).ub (k0_t2_loop i).st = 0 := trips_t2 i
      rw [ht1, ht2]
      generalize Scalar.select _ _ _ = v27
      rw [load_q harg2 x0 inb_S2x1024x128_S1x1024x128_0_0_0 0 rfl, load_q harg2 x0 inb_S2x1024x128_S1x1024x128_1_0_0 1 rfl,
        load_k harg3 x1 inb_S2x16384x128_S1x1024x128_0_0_0 0 0 rfl, load_k harg3 x1 inb_S2x16384x128_S1x1024x128_1_0_0 1 0 rfl]
      obtain ⟨hv, hl, hh⟩ := loop_value Variants.none c none i arg2 harg2 arg3 harg3 arg4 harg4 arg5 harg5 arg6 harg6 arg7 harg7
        (k0_pay68 (qblk x0 0)) (k0_pay69 (qblk x0 1)) v27 0#32 (k0_pay70 (qblk x0 0) (kblk x1 0 0)) x1 x2
        (arg6.view.writes (Elt F) arg6.view.junk
          [⟨Rect.unit ![1, 0, 0] S1x1024x1024.size inb_S2x1024x1024_S1x1024x1024_1_0_0, k0_pay72 (k0_pay69 (qblk x0 1)) (kblk x1 1 0)⟩,
           ⟨Rect.unit ![0, 0, 0] S1x1024x1024.size inb_S2x1024x1024_S1x1024x1024_0_0_0, k0_pay71 (k0_pay70 (qblk x0 0) (kblk x1 0 0))⟩])
        fs1 (by rw [read_lo, read_hi]; rfl) (by rw [read_hi]; rfl) ((i 1).val / 2) (trips_t1 i).ge
      generalize st_k0_t1 (F := F) Variants.none c none i arg2 harg2 arg3 harg3 arg4 harg4 arg5 harg5 arg6 harg6 arg7 harg7 _ _ _ _ _ _ _ _ _ _ _ = S at hv hl hh ⊢
      have e2 : 2 * ((i 1).val / 2) = (i 1).val := even_block i hc0
      rw [e2] at hv hl hh
      rw [← View.writes_append] at hl hh
      have hl' : arg6.view.readCov _ _ = _ := hl
      have hh' : arg6.view.readCov _ _ = _ := hh
      simp only [st_k0_t2, List.nil_append]
      simp only [hl', hh', hv]
      simp only [shapeCast_shapeCast]
      rw [load_v harg4 x2 _ 0 (i 1).val ((k0_off17_eq i).trans (by rw [Nat.mul_comm]; rfl)),
        load_v harg4 x2 _ 1 (i 1).val ((k0_off18_eq i).trans (by rw [Nat.mul_comm]; rfl))]
      iexact H3
    isplitl [HS0]
    · iexists _, _; isplitr; swap; · iexact HS0
      ipureintro; rfl
    iexists _, _; isplitr; swap; · iexact HS1
    ipureintro; rfl

end Cert.KernelIdeal.Attn

end
-- ==== Proof.RunB.lean ====
module

public import proofs.«01_k».proof.Proof.Gen.KernelIdeal.Frame.Runs
public import proofs.«01_k».proof.Proof.Trips

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem odd_block : ∀ i : grid0.Coords, cond0_1 i → 2 * ((i 1).val / 2) + 1 = (i 1).val := by decide +kernel

theorem off_odd : ∀ i : grid0.Coords, cond0_1 i →
    k0_off21 i = ![0, 0, 2 * ((i 1).val / 2) * 1024] ∧ k0_off22 i = ![1, 0, 2 * ((i 1).val / 2) * 1024] := by decide +kernel

/-! The payloads of an odd block in terms of the block operations. -/

theorem pay53_eq (s : FVec F S1024x1024 .f32) : k0_pay53 (shapeCast S1x1024x1024 s shapeCasts_S1024x1024_S1x1024x1024) = s := by
  unfold k0_pay53; exact shapeCast_shapeCast (s := S1024x1024) (t := S1x1024x1024) s _ _

theorem pay54_eq (s : FVec F S1024x1024 .f32) : k0_pay54 (shapeCast S1x1024x1024 s shapeCasts_S1024x1024_S1x1024x1024) = s := by
  unfold k0_pay54; exact shapeCast_shapeCast (s := S1024x1024) (t := S1x1024x1024) s _ _

theorem pay55_eq (m : FVec F S1x1024 .f32) (s : FVec F S1024x1024 .f32) :
    k0_pay55 m (shapeCast S1x1024x1024 s shapeCasts_S1024x1024_S1x1024x1024) = newMax m s := by
  have e := pay53_eq s
  unfold k0_pay55; rw [e]; rfl

theorem pay59_eq (m : FVec F S1x1024 .f32) (s : FVec F S1024x1024 .f32) :
    k0_pay59 m (k0_pay58 (shapeCast S1x1024x1024 s shapeCasts_S1024x1024_S1x1024x1024)) = newMax m s := by
  have e := pay54_eq s
  unfold k0_pay58; rw [e]; rfl

theorem pay60_eq (m : FVec F S1x1024 .f32) (a : FVec F S128x1024 .f32) (s : FVec F S1024x1024 .f32) (v : Vec F S1x128x1024 .bf16) :
    k0_pay60 a (k0_pay56 m (shapeCast S1x1024x1024 s shapeCasts_S1024x1024_S1x1024x1024))
      (k0_pay57 m (shapeCast S1x1024x1024 s shapeCasts_S1024x1024_S1x1024x1024)) v = newAcc m a s v := by
  have e := pay53_eq s
  unfold k0_pay57 k0_pay56; rw [e, pay55_eq]; rfl

theorem pay61_eq (m : FVec F S1x1024 .f32) (a : FVec F S128x1024 .f32) (s : FVec F S1024x1024 .f32) (v : Vec F S1x128x1024 .bf16) :
    k0_pay61 m a (k0_pay54 (shapeCast S1x1024x1024 s shapeCasts_S1024x1024_S1x1024x1024))
      (k0_pay58 (shapeCast S1x1024x1024 s shapeCasts_S1024x1024_S1x1024x1024)) v = newAcc m a s v := by
  have e := pay54_eq s
  unfold k0_pay58; rw [e]; rfl

theorem pay63_eq (q : FVec F S1024x128 .bf16) (k : Vec F S1x1024x128 .bf16) :
    k0_pay63 (k0_pay51 q k) = masked (scores q k) := by
  have e : shapeCast S1024x1024 (k0_pay51 q k) shapeCasts_S1x1024x1024_S1024x1024 = scores q k := shapeCast_shapeCast _ _ _
  unfold k0_pay63; rw [e]; rfl

theorem pay64_eq (q : FVec F S1024x128 .bf16) (k : Vec F S1x1024x128 .bf16) :
    k0_pay64 (k0_pay52 q k) = masked (scores q k) := by
  have e : shapeCast S1024x1024 (k0_pay52 q k) shapeCasts_S1x1024x1024_S1024x1024 = scores q k := shapeCast_shapeCast _ _ _
  unfold k0_pay64; rw [e]; rfl

theorem pay66_eq (m : FVec F S1x1024 .f32) (q : FVec F S1024x128 .bf16) (k : Vec F S1x1024x128 .bf16) :
    k0_pay66 m (k0_pay51 q k) = exp2 (subf m (newMax m (masked (scores q k)))) := by
  unfold k0_pay66 k0_pay65; rw [pay63_eq]; rfl

theorem pay67_eq (m : FVec F S1x1024 .f32) (q : FVec F S1024x128 .bf16) (k : Vec F S1x1024x128 .bf16) :
    k0_pay67 m (k0_pay51 q k) = broadcastTo S1024x1024 (newMax m (masked (scores q k))) broadcasts_S1x1024_S1024x1024 := by
  unfold k0_pay67 k0_pay65; rw [pay63_eq]; rfl

theorem finish_eq (m0 m1 : FVec F S1x1024 .f32) (a0 a1 : FVec F S128x1024 .f32) (s0 s1 : FVec F S1024x1024 .f32) (v0 v1 : Vec F S1x128x1024 .bf16) :
    k0_pay1 m1 a0 a1 s0 s1 (exp2 (subf m0 (newMax m0 s0))) (broadcastTo S1024x1024 (newMax m0 s0) broadcasts_S1x1024_S1024x1024) v0 v1
      = finish (newAcc m0 a0 s0 v0) (newAcc m1 a1 s1 v1) := rfl

/-- What an odd block writes is `finish` of the two last steps. -/
theorem payload_B (x1 : Vec F S2x16384x128 .bf16) (x2 : Vec F S2x128x16384 .bf16) (A : Carry F) (s0 s1 : FVec F S1024x1024 .f32)
    (q0 q1 : FVec F S1024x128 .bf16) (n l : ℕ) :
    k0_pay1 (k0_pay59 A.2.2.1 (k0_pay58 (shapeCast S1x1024x1024 s1 shapeCasts_S1024x1024_S1x1024x1024)))
      (k0_pay60 A.2.1 (k0_pay56 A.1 (shapeCast S1x1024x1024 s0 shapeCasts_S1024x1024_S1x1024x1024)) (k0_pay57 A.1 (shapeCast S1x1024x1024 s0 shapeCasts_S1024x1024_S1x1024x1024)) (vblk x2 0 l))
      (k0_pay61 A.2.2.1 A.2.2.2 (k0_pay54 (shapeCast S1x1024x1024 s1 shapeCasts_S1024x1024_S1x1024x1024)) (k0_pay58 (shapeCast S1x1024x1024 s1 shapeCasts_S1024x1024_S1x1024x1024)) (vblk x2 1 l))
      (k0_pay63 (k0_pay51 q0 (kblk x1 0 n))) (k0_pay64 (k0_pay52 q1 (kblk x1 1 n)))
      (k0_pay66 (k0_pay55 A.1 (shapeCast S1x1024x1024 s0 shapeCasts_S1024x1024_S1x1024x1024)) (k0_pay51 q0 (kblk x1 0 n)))
      (k0_pay67 (k0_pay55 A.1 (shapeCast S1x1024x1024 s0 shapeCasts_S1024x1024_S1x1024x1024)) (k0_pay51 q0 (kblk x1 0 n)))
      (vblk x2 0 n) (vblk x2 1 n)
    = finish
      (step x2 n (step x2 l A s0 s1) (masked (scores q0 (kblk x1 0 n))) (masked (scores q1 (kblk x1 1 n)))).2.1
      (step x2 n (step x2 l A s0 s1) (masked (scores q0 (kblk x1 0 n))) (masked (scores q1 (kblk x1 1 n)))).2.2.2 := by
  rw [pay59_eq, pay60_eq, pay61_eq, pay63_eq, pay64_eq, pay55_eq, pay66_eq, pay67_eq, finish_eq]; rfl

/-- The block of results from what the loop carries. -/
theorem out_eq {n : ℕ} (x0 : Vec F S2x1024x128 .f32) (x1 : Vec F S2x16384x128 .bf16) (x2 : Vec F S2x128x16384 .bf16) {a : Carry F}
    (h : state (k0_pay68 (qblk x0 0)) (k0_pay69 (qblk x0 1)) x1 x2 n = a) :
    out n x0 x1 x2 = finish
      (step x2 n a (masked (scores (k0_pay68 (qblk x0 0)) (kblk x1 0 n))) (masked (scores (k0_pay69 (qblk x0 1)) (kblk x1 1 n)))).2.1
      (step x2 n a (masked (scores (k0_pay68 (qblk x0 0)) (kblk x1 0 n))) (masked (scores (k0_pay69 (qblk x0 1)) (kblk x1 1 n)))).2.2.2 := by
  subst h; rfl

set_option maxHeartbeats 4000000 in
/-- At an odd block of queries the body leaves the block of results `out`, whatever the buffers it writes held. -/
theorem run_B (c : Dev nD) (i : grid0.Coords) (arg2 : Memref sig .tc .vmem S2x1024x128 .f32) (harg2 : arg2.IsWhole) (arg3 : Memref sig .tc .vmem S2x16384x128 .bf16) (harg3 : arg3.IsWhole) (arg4 : Memref sig .tc .vmem S2x128x16384 .bf16) (harg4 : arg4.IsWhole) (arg5 : Memref sig .tc .vmem S1024x128 .bf16) (harg5 : arg5.IsWhole) (arg6 : Memref sig .tc .vmem S2x1024x1024 .f32) (harg6 : arg6.IsWhole) (arg7 : Memref sig .tc .vmem S2x1024x1024 .f32) (harg7 : arg7.IsWhole) (hc0 : ¬cond0_0 i) (hc1 : cond0_1 i)
    (x0 : Vec F S2x1024x128 .f32) (x1 : Vec F S2x16384x128 .bf16) (x2 : Vec F S2x128x16384 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f [⟨Rect.unit ![0, 0] S1024x128.size inb_S1024x128_S1024x128_0_0, out (i 1).val x0 x1 x2⟩]) ∗ (∃ d, owns (c : Thread nD τ) arg6 fullShare d) ∗ (∃ d, owns (c : Thread nD τ) arg7 fullShare d)) -∗ K ⟨⟩))
          ⊢ wp frame (wpE (defs₀ (F := F)) Variants.none c none) E (cc0_mla_prompt i arg2 harg2 arg3 harg3 arg4 harg4 arg5 harg5 arg6 harg6 arg7 harg7) K := by
    intro E K
    simp only [cc0_mla_prompt_eq_skeleton]; unfold cc0_mla_prompt_skel
    simp only [k0_part10_eq_skeleton, k0_part11_eq_skeleton, k0_part12_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3
      sl_unfold_run_names
      have ht1 : Scf.trips (k0_t1_loop i).lb (k0_t1_loop i).ub (k0_t1_loop i).st = _ := trips_t1 i
      have ht2 : Scf.trips (k0_t2_loop i).lb (k0_t2_loop i).ub (k0_t2_loop i).st = 0 := trips_t2 i
      rw [ht1, ht2]
      generalize Scalar.select _ _ _ = v27
      rw [load_q harg2 x0 inb_S2x1024x128_S1x1024x128_0_0_0 0 rfl, load_q harg2 x0 inb_S2x1024x128_S1x1024x128_1_0_0 1 rfl,
        load_k harg3 x1 inb_S2x16384x128_S1x1024x128_0_0_0 0 0 rfl, load_k harg3 x1 inb_S2x16384x128_S1x1024x128_1_0_0 1 0 rfl]
      obtain ⟨hv, hl, hh⟩ := loop_value Variants.none c none i arg2 harg2 arg3 harg3 arg4 harg4 arg5 harg5 arg6 harg6 arg7 harg7
        (k0_pay68 (qblk x0 0)) (k0_pay69 (qblk x0 1)) v27 0#32 (k0_pay70 (qblk x0 0) (kblk x1 0 0)) x1 x2
        (arg6.view.writes (Elt F) arg6.view.junk
          [⟨Rect.unit ![1, 0, 0] S1x1024x1024.size inb_S2x1024x1024_S1x1024x1024_1_0_0, k0_pay72 (k0_pay69 (qblk x0 1)) (kblk x1 1 0)⟩,
           ⟨Rect.unit ![0, 0, 0] S1x1024x1024.size inb_S2x1024x1024_S1x1024x1024_0_0_0, k0_pay71 (k0_pay70 (qblk x0 0) (kblk x1 0 0))⟩])
        fs1 (by rw [read_lo, read_hi]; rfl) (by rw [read_hi]; rfl) ((i 1).val / 2) (trips_t1 i).ge
      generalize st_k0_t1 (F := F) Variants.none c none i arg2 harg2 arg3 harg3 arg4 harg4 arg5 harg5 arg6 harg6 arg7 harg7 _ _ _ _ _ _ _ _ _ _ _ = S at hv hl hh ⊢
      have e2 : 2 * ((i 1).val / 2) + 1 = (i 1).val := odd_block i hc1
      rw [← View.writes_append] at hl hh
      have hl' : arg6.view.readCov _ _ = _ := hl
      have hh' : arg6.view.readCov _ _ = _ := hh
      simp only [st_k0_t2, List.nil_append]
      simp only [hl', hh', hv]
      simp (disch := decide) only [↓ View.readCov_skip, ↓ View.readCov_cons_toLoadRect]
      obtain ⟨e21, e22⟩ := off_odd i hc1
      simp only [load_v harg4 x2 _ 0 _ e21, load_v harg4 x2 _ 1 _ e22,
        load_k harg3 x1 _ 0 (i 1).val ((k0_off19_eq i).trans (by rw [Nat.mul_comm]; rfl)),
        load_k harg3 x1 _ 1 (i 1).val ((k0_off20_eq i).trans (by rw [Nat.mul_comm]; rfl)),
        load_v harg4 x2 _ 0 (i 1).val ((k0_off23_eq i).trans (by rw [Nat.mul_comm]; rfl)),
        load_v harg4 x2 _ 1 (i 1).val ((k0_off24_eq i).trans (by rw [Nat.mul_comm]; rfl))]
      have hst : state (k0_pay68 (qblk x0 0)) (k0_pay69 (qblk x0 1)) x1 x2 (i 1).val
          = step x2 (2 * ((i 1).val / 2)) (state (k0_pay68 (qblk x0 0)) (k0_pay69 (qblk x0 1)) x1 x2 (2 * ((i 1).val / 2)))
            (scores (k0_pay68 (qblk x0 0)) (kblk x1 0 (2 * ((i 1).val / 2)))) (scores (k0_pay69 (qblk x0 1)) (kblk x1 1 (2 * ((i 1).val / 2)))) :=
        congrArg (state (k0_pay68 (qblk x0 0)) (k0_pay69 (qblk x0 1)) x1 x2) e2.symm
      have ho := out_eq x0 x1 x2 hst
      rw [ho]
      generalize state (k0_pay68 (qblk x0 0)) (k0_pay69 (qblk x0 1)) x1 x2 (2 * ((i 1).val / 2)) = A
      generalize scores (k0_pay68 (qblk x0 0)) (kblk x1 0 (2 * ((i 1).val / 2))) = s0
      generalize scores (k0_pay69 (qblk x0 1)) (kblk x1 1 (2 * ((i 1).val / 2))) = s1
      generalize k0_pay68 (qblk x0 0) = q0
      generalize k0_pay69 (qblk x0 1) = q1
      generalize (i 1).val = n
      clear * -
      rw [← payload_B]
      iexact H3
    isplitl [HS0]
    · iexists _, _; isplitr; swap; · iexact HS0
      ipureintro; rfl
    iexists _, _; isplitr; swap; · iexact HS1
    ipureintro; rfl

end Cert.KernelIdeal.Attn

end
-- ==== Proof.Frame.lean ====
module

public import proofs.«01_k».proof.Proof.RunA
public import proofs.«01_k».proof.Proof.RunB
public import Idealize.ShloMosaic.Lib.Claim
public import Idealize.ShloMosaic.Lib.VecWindow
public import Idealize.ShloMosaic.Lib.Pipeline.Value

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! What the launch holds point by point: after a point each input's buffer holds its block, the result's the block `out`. -/

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (grid0.coords t 1).val (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out (grid0.coords t 1).val (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: an even block of queries runs as `run_A`, an odd one as `run_B`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 2 = 0
  · have h1 : ¬t.val % 2 = 1 := by omega
    rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
    iintro ⟨⟨⟨HS0, HS1⟩, Hg⟩, Ho, ⟨%d0, H0⟩, ⟨%d1, H1⟩, ⟨%d2, H2⟩, ⟨%d3, H3⟩⟩
    iapply (run_A c (grid0.coords t) _ _ _ _ _ _ _ _ _ _ _ _ ((hcond0_0 t).mpr h0) (fun h => h1 ((hcond0_1 t).mp h)) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    unfold owns; iexists _; isplitr
    swap; · iexact H3
    ipureintro; exact View.read_writes_full _ _ _ _ _
  · have h1 : t.val % 2 = 1 := by omega
    rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
    iintro ⟨⟨⟨HS0, HS1⟩, Hg⟩, Ho, ⟨%d0, H0⟩, ⟨%d1, H1⟩, ⟨%d2, H2⟩, ⟨%d3, H3⟩⟩
    iapply (run_B c (grid0.coords t) _ _ _ _ _ _ _ _ _ _ _ _ (fun h => h0 ((hcond0_0 t).mp h)) ((hcond0_1 t).mpr h1) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    unfold owns; iexists _; isplitr
    swap; · iexact H3
    ipureintro; exact View.read_writes_full _ _ _ _ _

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, every counter at zero, and the arrays are at what the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Argument 0 ends as it was. -/
theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 ends as it was. -/
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 ends as it was. -/
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 ends as it was. -/
theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 ends as it was. -/
theorem kept4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 ends as it was. -/
theorem kept5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame: every run ends with every counter at zero and the arguments as they were. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨kept0 m r h.1 c, kept1 m r h.1 c, kept2 m r h.1 c, kept3 m r h.1 c, kept4 m r h.1 c, kept5 m r h.1 c⟩, h.2⟩)
    (run_main_quiescent m ρ)

/-! The array of results, block by block. -/

theorem flushed3 (c : Dev nD) (t : Fin cfg0.N) : (dats m 0 c).flushed 3 t
    = (cfg0.win 3).cut (grid0.coords t) (out (grid0.coords t 1).val (iblk m c 0 t) (iblk m c 1 t) (iblk m c 2 t)) := by
  show (cfg0.win 3).cut (grid0.coords t) ((dats m 0 c).after 3 t) = _
  rw [after0_3]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- The run with the array of results named. -/
theorem run_blocks : θ_run defs (onTc (τ := τ) (main (F := F))) ⟨m, fun _ => 0, ρ⟩ fun r => ∀ c : Dev nD,
      r.2.mem ((c : Thread nD τ).loc main_v32) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 3, kept0 m r h.1 c, kept1 m r h.1 c, kept2 m r h.1 c, kept3 m r h.1 c, kept4 m r h.1 c, kept5 m r h.1 c⟩)
    (run_main_quiescent m ρ)

end Cert.KernelIdeal.Attn

end
-- ==== Proof.Windows.lean ====
module

public import proofs.«01_k».proof.Proof.Frame
public import Idealize.ShloMosaic.Lib.Pipeline.ValueKit
public import Idealize.ShloMosaic.Lib.Pointwise

@[expose] public section

set_option maxRecDepth 16384

noncomputable section

/-! # Which part of an array a point of the grid works on

Point `t` works on the pair of heads `t / 16` and on the block `t % 16` of 1024 queries. -/

namespace Cert.KernelIdeal.Attn

open Cert.KernelIdeal Cert.KernelIdeal.Gen Idealize.ShloMosaic Idealize.ShloMosaic.TcCoe Idealize.SL.Sem

theorem coord1 : ∀ t : Fin cfg0.N, (grid0.coords t 1).val = t.val % 16 :=
  (by decide +kernel : ∀ t : Fin grid0.N, (grid0.coords t 1).val = t.val % 16)

theorem index0 : ∀ t : Fin cfg0.N, (cfg0.win 0).index t = ![t.val / 16, t.val % 16, 0] :=
  (by decide +kernel : ∀ t : Fin grid0.N, win0_0.index t = ![t.val / 16, t.val % 16, 0])
theorem index1 : ∀ t : Fin cfg0.N, (cfg0.win 1).index t = ![t.val / 16, 0, 0] :=
  (by decide +kernel : ∀ t : Fin grid0.N, win0_1.index t = ![t.val / 16, 0, 0])
theorem index2 : ∀ t : Fin cfg0.N, (cfg0.win 2).index t = ![t.val / 16, 0, 0] :=
  (by decide +kernel : ∀ t : Fin grid0.N, win0_2.index t = ![t.val / 16, 0, 0])
theorem index3 : ∀ t : Fin cfg0.N, (cfg0.win 3).index t = ![t.val % 16, t.val / 16] :=
  (by decide +kernel : ∀ t : Fin grid0.N, win0_3.index t = ![t.val % 16, t.val / 16])

variable (m : (ℓ : Loc nD τ sig) → Buf (Elt Ideal) ℓ) (c : Dev nD) (t : Fin cfg0.N)

theorem t_lt : t.val < 64 := t.isLt

theorem iblk0 (hh : Fin 2) (y : Fin 1024) (d : Fin 128) : iblk m c 0 t (ix3 hh y d)
    = V m c main_v4 (ix3 ⟨t.val / 16 * 2 + hh.val, by have := t_lt t; omega⟩ ⟨t.val % 16 * 1024 + y.val, by omega⟩ d) := by
  blk_ext [iblk, index0 t]

theorem iblk1 (hh : Fin 2) (j : Fin 16384) (d : Fin 128) : iblk m c 1 t (ix3 hh j d)
    = V m c main_v22 (ix3 ⟨t.val / 16 * 2 + hh.val, by have := t_lt t; omega⟩ j d) := by
  blk_ext [iblk, index1 t]

theorem iblk2 (hh : Fin 2) (d : Fin 128) (j : Fin 16384) : iblk m c 2 t (ix3 hh d j)
    = V m c main_v31 (ix3 ⟨t.val / 16 * 2 + hh.val, by have := t_lt t; omega⟩ d j) := by
  blk_ext [iblk, index2 t]

/-- A result is what its point's body left there. -/
theorem result_apply (y : Fin 1024) (e : Fin 128) :
    ((dats m 0 c).arrAt 3 cfg0.N : S16384x512.Idx → EReal) (ix2 ⟨t.val % 16 * 1024 + y.val, by omega⟩ ⟨t.val / 16 * 128 + e.val, by have := t_lt t; omega⟩)
      = out (F := Ideal) (t.val % 16) (iblk m c 0 t) (iblk m c 1 t) (iblk m c 2 t) (ix2 y e) := by
  have h := congrFun ((blocks3 m c t (flush0_3 t)).trans (flushed3 m c t)) (ix2 y e)
  rw [coord1] at h
  refine Eq.trans ?_ h
  blk_ext [index3 t]

end Cert.KernelIdeal.Attn

end
-- ==== Proof.Consts.lean ====
module

public import Idealize.ShloMosaic.PureOps.Ideal

@[expose] public section

noncomputable section

/-! # The float constants of the programs, as extended reals, and the comparison of two positions -/

namespace Cert.Consts

open Idealize.ShloMosaic

/-- The pattern of minus infinity is `⊥`. -/
theorem ofBits_neg_inf : Ideal.ofBits .f32 0xFF800000#32 = ⊥ := by simp [Ideal.ofBits, Ideal.ieee]

/-- The pattern of `96.0`. -/
theorem ofBits_96 : Ideal.ofBits .f32 0x42C00000#32 = ((96 : ℝ) : EReal) := by
  simp [Ideal.ofBits, Ideal.ieee, -EReal.coe_mul]; norm_num

/-- Choosing by a signed comparison of two positions is choosing by their order. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have h1 : (BitVec.ofNat 32 a).toInt = (a : Int) := by
    rw [BitVec.toInt_eq_toNat_of_lt] <;> simp [BitVec.toNat_ofNat] <;> omega
  have h2 : (BitVec.ofNat 32 b).toInt = (b : Int) := by
    rw [BitVec.toInt_eq_toNat_of_lt] <;> simp [BitVec.toNat_ofNat] <;> omega
  have h3 : (BitVec.ofNat 32 a).sle (BitVec.ofNat 32 b) = decide (a ≤ b) := by
    rw [BitVec.sle, h1, h2]; simp
  by_cases h : a ≤ b <;> simp [Scalar.select, IntOp.cmpi, h3, h]

end Cert.Consts

end
-- ==== Proof.Blocks.lean ====
module

public import proofs.«01_k».proof.Proof.Steps
public import Idealize.ShloMosaic.Lib.Pointwise
public import proofs.«01_k».proof.Proof.Consts

@[expose] public section

set_option maxRecDepth 16384

noncomputable section

/-! # The values of the kernel's block operations over the extended reals -/

namespace Cert.KernelIdeal.Attn

open Cert.KernelIdeal Cert.KernelIdeal.Gen Idealize.ShloMosaic

/-! ## Over the extended reals -/

/-- The scale of the queries: one over the root of 96 and the logarithm of two. -/
def scale : EReal := (((Real.sqrt 96)⁻¹ * (Real.log 2)⁻¹ : ℝ) : EReal)

theorem query_apply (x : Vec Ideal S1x1024x128 .f32) (y : Fin 1024) (d : Fin 128) :
    query (F := Ideal) x (ix2 y d) = scale * x (ix3 0 y d) := by
  unfold query k0_pay68
  pointwise
  rw [IdealRules.named_const.ideal_named_scalar _ _ _ _ rfl]
  rfl

theorem scores_apply (q : FVec Ideal S1024x128 .bf16) (k : Vec Ideal S1x1024x128 .bf16) (j y : Fin 1024) :
    scores q k (ix2 j y) = ∑ d : Fin 128, k (ix3 0 j d) * q (ix2 y d) := by
  unfold scores
  pointwise

theorem masked_apply (s : FVec Ideal S1024x1024 .f32) (j y : Fin 1024) :
    masked s (ix2 j y) = if j.val ≤ y.val then s (ix2 j y) else ⊥ := by
  unfold masked k0_pay42
  pointwise
  rw [show IntOp.addi (BitVec.ofNat 32 y.val) 0#32 = BitVec.ofNat 32 y.val from BitVec.add_zero _,
    Consts.select_sle _ _ (by omega) (by omega), Consts.ofBits_neg_inf]

theorem newMax_apply (m : FVec Ideal S1x1024 .f32) (s : FVec Ideal S1024x1024 .f32) (y : Fin 1024) :
    newMax m s (ix2 0 y) = max (m (ix2 0 y)) (Finset.univ.sup fun j : Fin 1024 => s (ix2 j y)) := by
  unfold newMax k0_pay9
  pointwise
  rw [Consts.ofBits_neg_inf]
  rfl

theorem newAcc_apply (m : FVec Ideal S1x1024 .f32) (a : FVec Ideal S128x1024 .f32) (s : FVec Ideal S1024x1024 .f32)
    (v : Vec Ideal S1x128x1024 .bf16) (d : Fin 128) (y : Fin 1024) :
    newAcc m a s v (ix2 d y) = a (ix2 d y) * Ideal.exp2 (m (ix2 0 y) - newMax m s (ix2 0 y))
      + ∑ j : Fin 1024, v (ix3 0 d j) * Ideal.exp2 (s (ix2 j y) - newMax m s (ix2 0 y)) := by
  unfold newAcc k0_pay11
  pointwise
  rfl

theorem finish_apply_lo (a0 a1 : FVec Ideal S128x1024 .f32) (y : Fin 1024) (d : Fin 128) (h : d.val < 64) :
    finish a0 a1 (ix2 y d) = Ideal.div (a0 (ix2 d y)) (a0 (ix2 64 y)) := by
  unfold finish
  pointwise
  rw [dif_pos h]

theorem finish_apply_hi (a0 a1 : FVec Ideal S128x1024 .f32) (y : Fin 1024) (d : Fin 128) (h : 64 ≤ d.val) :
    finish a0 a1 (ix2 y d) = Ideal.div (a1 (ix2 ⟨d.val - 64, by omega⟩ y)) (a1 (ix2 64 y)) := by
  unfold finish
  pointwise
  rw [dif_neg (by omega)]

end Cert.KernelIdeal.Attn

end
-- ==== Proof.Flash.lean ====
module

public import Idealize.ShloMosaic.PureOps.Ideal
public import Mathlib.Data.EReal.Operations
public import Mathlib.Analysis.SpecialFunctions.Pow.Real
public import Mathlib.Algebra.BigOperators.Group.Finset.Basic

@[expose] public section

noncomputable section

/-! # The running softmax over the extended reals

Attention keeps, block after block of keys, the largest score so far and the sum of the values weighted by
`2 ^ (score - largest)`. These lemmas say that one such step takes the pair for the first `n` keys to the pair for the
first `n + L` keys, and that the quotient at the end is the softmax of the scores applied to the values. The scores are
never `⊤` (a masked one is `⊥`); the values may be infinite. -/

namespace Cert.Flash

open Idealize.ShloMosaic

/-- The largest score of the first `n` keys. -/
def top (s : ℕ → EReal) (n : ℕ) : EReal := (Finset.range n).sup s

/-- The values of the first `n` keys, weighted by two to the power of score minus largest score. -/
def acc (s v : ℕ → EReal) (n : ℕ) : EReal := ∑ j ∈ Finset.range n, v j * Ideal.exp2 (s j - top s n)

theorem top_zero (s : ℕ → EReal) : top s 0 = ⊥ := by simp [top]

theorem acc_zero (s v : ℕ → EReal) : acc s v 0 = 0 := by simp [acc]

theorem top_ne_top {s : ℕ → EReal} (h : ∀ j, s j ≠ ⊤) (n : ℕ) : top s n ≠ ⊤ := by
  have : top s n < ⊤ := (Finset.sup_lt_iff bot_lt_top).mpr fun j _ => lt_top_iff_ne_top.mpr (h j)
  exact this.ne

theorem le_top {s : ℕ → EReal} {n j : ℕ} (h : j < n) : s j ≤ top s n :=
  Finset.le_sup (f := s) (Finset.mem_range.mpr h)

theorem top_add (s : ℕ → EReal) (n L : ℕ) :
    top s (n + L) = max (top s n) (Finset.univ.sup fun k : Fin L => s (n + k.val)) := by
  apply le_antisymm
  · refine Finset.sup_le fun j hj => ?_
    have hj := Finset.mem_range.mp hj
    by_cases h : j < n
    · exact le_trans (le_top h) (le_max_left _ _)
    · refine le_trans ?_ (le_max_right _ _)
      have := Finset.le_sup (f := fun k : Fin L => s (n + k.val)) (Finset.mem_univ ⟨j - n, by omega⟩)
      simpa [Nat.add_sub_cancel' (Nat.le_of_not_lt h)] using this
  · refine max_le (Finset.sup_mono (by simp)) (Finset.sup_le fun k _ => le_top (by omega))

/-- Weighing by a nonnegative real distributes over any sum. -/
theorem sum_mul_coe {ι : Type*} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, ← ih,
      EReal.right_distrib_of_nonneg_of_ne_top (by exact_mod_cast hc) (EReal.coe_ne_top c)]

/-- The sum of reals, as an extended real. -/
theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A weight against a real largest score is a nonnegative real. -/
theorem exp2_sub {a : EReal} (ha : a ≠ ⊤) (m : ℝ) : ∃ w : ℝ, 0 ≤ w ∧ Ideal.exp2 (a - (m : EReal)) = (w : EReal) := by
  induction a using EReal.rec with
  | bot => exact ⟨0, le_rfl, by simp⟩
  | top => exact absurd rfl ha
  | coe r =>
    refine ⟨Real.rpow 2 (r - m), (Real.rpow_nonneg (by norm_num) _), ?_⟩
    rw [← EReal.coe_sub, Ideal.exp2_coe]

/-- Weights multiply: from `a` to `m` and on from `m` to `m'`. -/
theorem exp2_sub_mul {a : EReal} (ha : a ≠ ⊤) (m m' : ℝ) :
    Ideal.exp2 (a - (m : EReal)) * Ideal.exp2 ((m : EReal) - (m' : EReal)) = Ideal.exp2 (a - (m' : EReal)) := by
  induction a using EReal.rec with
  | bot => simp
  | top => exact absurd rfl ha
  | coe r =>
    rw [← EReal.coe_sub, ← EReal.coe_sub, ← EReal.coe_sub, Ideal.exp2_coe, Ideal.exp2_coe, Ideal.exp2_coe,
      ← EReal.coe_mul]
    congr 1
    have := Real.rpow_add (x := 2) (by norm_num) (r - m) (m - m')
    rw [show r - m + (m - m') = r - m' by ring] at this
    exact this.symm

/-- What the first keys gave, weighed anew against a larger largest score. -/
theorem acc_rescale {s v : ℕ → EReal} (hs : ∀ j, s j ≠ ⊤) (n : ℕ) (m' : ℝ) :
    acc s v n * Ideal.exp2 (top s n - (m' : EReal)) = ∑ j ∈ Finset.range n, v j * Ideal.exp2 (s j - (m' : EReal)) := by
  by_cases hb : top s n = ⊥
  · have h0 : ∀ j ∈ Finset.range n, v j * Ideal.exp2 (s j - (m' : EReal)) = 0 := fun j hj => by
      have : s j = ⊥ := le_bot_iff.mp (hb ▸ le_top (Finset.mem_range.mp hj))
      simp [this]
    rw [Finset.sum_eq_zero h0, hb]; simp
  · obtain ⟨m, hm⟩ : ∃ m : ℝ, top s n = (m : EReal) :=
      ⟨(top s n).toReal, (EReal.coe_toReal (top_ne_top hs n) hb).symm⟩
    obtain ⟨w, hw, he⟩ := exp2_sub (EReal.coe_ne_top m) m'
    rw [acc, hm, he, sum_mul_coe _ _ hw]
    refine Finset.sum_congr rfl fun j _ => ?_
    rw [mul_assoc, ← he, exp2_sub_mul (hs j)]

/-- ONE STEP: the pair for the first `n` keys, taken over the next `L` keys, is the pair for the first `n + L`. -/
theorem acc_add {s v : ℕ → EReal} (hs : ∀ j, s j ≠ ⊤) (n L : ℕ) (hb : top s (n + L) ≠ ⊥) :
    acc s v n * Ideal.exp2 (top s n - top s (n + L)) + ∑ k : Fin L, v (n + k.val) * Ideal.exp2 (s (n + k.val) - top s (n + L))
      = acc s v (n + L) := by
  obtain ⟨m, hm⟩ : ∃ m : ℝ, top s (n + L) = (m : EReal) :=
    ⟨(top s (n + L)).toReal, (EReal.coe_toReal (top_ne_top hs _) hb).symm⟩
  conv_rhs => rw [acc]
  rw [hm, acc_rescale hs, Finset.sum_range_add, Finset.sum_range fun k => v (n + k) * Ideal.exp2 (s (n + k) - (m : EReal))]

/-- A base-two weight of scaled scores is the natural exponential of the scores. -/
theorem exp2_eq_exp {a : EReal} (ha : a ≠ ⊤) (m : ℝ) :
    Ideal.exp2 ((((Real.log 2)⁻¹ : ℝ) : EReal) * a - (((Real.log 2)⁻¹ * m : ℝ) : EReal)) = Ideal.exp (a - (m : EReal)) := by
  have hl : 0 < Real.log 2 := Real.log_pos (by norm_num)
  induction a using EReal.rec with
  | bot => rw [EReal.coe_mul_bot_of_pos (inv_pos.mpr hl)]; simp
  | top => exact absurd rfl ha
  | coe r =>
    rw [← EReal.coe_mul, ← EReal.coe_sub, ← EReal.coe_sub, Ideal.exp2_coe, Ideal.exp_coe]
    congr 1
    show (2 : ℝ) ^ ((Real.log 2)⁻¹ * r - (Real.log 2)⁻¹ * m) = _
    rw [Real.rpow_def_of_pos (by norm_num)]
    congr 1
    field_simp

theorem exp_sub {a : EReal} (ha : a ≠ ⊤) (m : ℝ) : ∃ w : ℝ, 0 ≤ w ∧ Ideal.exp (a - (m : EReal)) = (w : EReal) := by
  induction a using EReal.rec with
  | bot => exact ⟨0, le_rfl, by simp⟩
  | top => exact absurd rfl ha
  | coe r => exact ⟨Real.exp (r - m), (Real.exp_pos _).le, by rw [← EReal.coe_sub, Ideal.exp_coe]⟩

/-- THE QUOTIENT: the weighted values over the weights' sum, of scores scaled by `1 / log 2`, is the softmax of the scores
    themselves (over all `T` keys, those from `N` on being masked) applied to the values. -/
theorem quotient {r v : ℕ → EReal} (hr : ∀ j, r j ≠ ⊤) {N T : ℕ} (hNT : N ≤ T) (hmask : ∀ j, N ≤ j → r j = ⊥)
    (hb : top r T ≠ ⊥) :
    Ideal.div (acc (fun j => (((Real.log 2)⁻¹ : ℝ) : EReal) * r j) v N)
        (acc (fun j => (((Real.log 2)⁻¹ : ℝ) : EReal) * r j) (fun _ => 1) N)
      = ∑ j ∈ Finset.range T, v j * Ideal.div (Ideal.exp (r j - top r T)) (0 + ∑ j ∈ Finset.range T, Ideal.exp (r j - top r T)) := by
  have hl : 0 < (Real.log 2)⁻¹ := inv_pos.mpr (Real.log_pos (by norm_num))
  -- the largest score, over all keys and over the first `N`
  obtain ⟨m, hm⟩ : ∃ m : ℝ, top r T = (m : EReal) :=
    ⟨(top r T).toReal, (EReal.coe_toReal (top_ne_top hr _) hb).symm⟩
  have hatt : ∃ j ∈ Finset.range T, r j = (m : EReal) := by
    have hne : (Finset.range T).Nonempty := by
      rw [Finset.nonempty_iff_ne_empty]; intro h; rw [top, h] at hb; exact hb rfl
    obtain ⟨j, hj, he⟩ := Finset.exists_mem_eq_sup _ hne r
    exact ⟨j, hj, by rw [← hm, top, he]⟩
  obtain ⟨j₀, hj₀, hm₀⟩ := hatt
  have hj₀N : j₀ < N := by
    by_contra h
    rw [hmask j₀ (Nat.le_of_not_lt h)] at hm₀
    exact EReal.bot_ne_coe m hm₀
  have htop : top (fun j => (((Real.log 2)⁻¹ : ℝ) : EReal) * r j) N = (((Real.log 2)⁻¹ * m : ℝ) : EReal) := by
    rw [EReal.coe_mul]
    apply le_antisymm
    · refine Finset.sup_le fun j hj => ?_
      have hjm : r j ≤ (m : EReal) := hm ▸ le_top (lt_of_lt_of_le (Finset.mem_range.mp hj) hNT)
      exact mul_le_mul_of_nonneg_left hjm (by exact_mod_cast hl.le)
    · have := le_top (s := fun j => (((Real.log 2)⁻¹ : ℝ) : EReal) * r j) hj₀N
      simpa [hm₀] using this
  have hacc : ∀ u : ℕ → EReal, acc (fun j => (((Real.log 2)⁻¹ : ℝ) : EReal) * r j) u N
      = ∑ j ∈ Finset.range T, u j * Ideal.exp (r j - (m : EReal)) := fun u => by
    rw [acc, htop]
    simp only [exp2_eq_exp (hr _)]
    refine Finset.sum_subset (by simpa using hNT) fun j _ hj => ?_
    rw [hmask j (by simpa using hj)]; simp
  choose w hw0 hw using fun j => exp_sub (hr j) m
  have hsum : ∑ j ∈ Finset.range T, Ideal.exp (r j - (m : EReal)) = ((∑ j ∈ Finset.range T, w j : ℝ) : EReal) := by
    rw [coe_sum]
    exact Finset.sum_congr rfl fun j _ => hw j
  have hpos : 0 < ∑ j ∈ Finset.range T, w j := by
    refine Finset.sum_pos' (fun j _ => hw0 j) ⟨j₀, hj₀, ?_⟩
    have h1 := hw j₀
    rw [hm₀, ← EReal.coe_sub, sub_self, Ideal.exp_coe, Real.exp_zero] at h1
    have : (1 : ℝ) = w j₀ := EReal.coe_injective h1
    rw [← this]; norm_num
  rw [hm, hacc, hacc]
  simp only [one_mul, zero_add, hsum, Ideal.div_coe hpos.ne']
  rw [sum_mul_coe _ _ (by positivity)]
  exact Finset.sum_congr rfl fun j _ => mul_assoc _ _ _

end Cert.Flash

end
-- ==== Proof.Rows.lean ====
module

public import proofs.«01_k».proof.Proof.Blocks
public import proofs.«01_k».proof.Proof.Trips
public import proofs.«01_k».proof.Proof.Flash

@[expose] public section

set_option maxRecDepth 16384

noncomputable section

/-! # A row of a block of results

What the loop carries at one query is the largest of the scores met so far and the sums of values weighted by them; the row of
the results is the quotient of two such sums. -/

namespace Cert.KernelIdeal.Attn

open Cert.KernelIdeal Cert.KernelIdeal.Gen Idealize.ShloMosaic

/-- The score of a key at the query `y` of block `n`, `⊥` where the key comes after the query. -/
def rowScore (n : ℕ) (x0 : Vec Ideal S2x1024x128 .f32) (x1 : Vec Ideal S2x16384x128 .bf16) (hh : Fin 2) (y : Fin 1024) (j : ℕ) : EReal :=
  if j ≤ n * 1024 + y.val then
    ∑ d : Fin 128, x1 (ix3 hh ⟨j % 16384, Nat.mod_lt _ (by omega)⟩ d) * (scale * x0 (ix3 hh y d))
  else ⊥

/-- Lane `d` of a key's value. -/
def rowValue (x2 : Vec Ideal S2x128x16384 .bf16) (hh : Fin 2) (d : Fin 128) (j : ℕ) : EReal :=
  x2 (ix3 hh d ⟨j % 16384, Nat.mod_lt _ (by omega)⟩)

/-- One block of keys, at one query of one head. -/
theorem block_step {s v : ℕ → EReal} (hs : ∀ j, s j ≠ ⊤) (h0 : s 0 ≠ ⊥) (n : ℕ) (M : FVec Ideal S1x1024 .f32)
    (A : FVec Ideal S128x1024 .f32) (S : FVec Ideal S1024x1024 .f32) (V : Vec Ideal S1x128x1024 .bf16) (d : Fin 128) (y : Fin 1024)
    (hM : M (ix2 0 y) = Flash.top s (n * 1024)) (hA : A (ix2 d y) = Flash.acc s v (n * 1024))
    (hS : ∀ j : Fin 1024, S (ix2 j y) = s (n * 1024 + j.val)) (hV : ∀ j : Fin 1024, V (ix3 0 d j) = v (n * 1024 + j.val)) :
    newMax M S (ix2 0 y) = Flash.top s ((n + 1) * 1024) ∧ newAcc M A S V (ix2 d y) = Flash.acc s v ((n + 1) * 1024) := by
  have e : (n + 1) * 1024 = n * 1024 + 1024 := by omega
  have hm : newMax M S (ix2 0 y) = Flash.top s ((n + 1) * 1024) := by
    rw [newMax_apply, hM, e, Flash.top_add]
    simp only [hS]
  refine ⟨hm, ?_⟩
  rw [newAcc_apply, hm, hM, hA, e]
  simp only [hS, hV]
  refine Flash.acc_add hs _ _ fun hb => h0 ?_
  exact le_bot_iff.mp (hb ▸ Flash.le_top (s := s) (n := n * 1024 + 1024) (j := 0) (by omega))

/-- What one head carries at the query `y`. -/
def Holds (s : ℕ → EReal) (v : Fin 128 → ℕ → EReal) (n : ℕ) (y : Fin 1024) (M : FVec Ideal S1x1024 .f32) (A : FVec Ideal S128x1024 .f32) : Prop :=
  M (ix2 0 y) = Flash.top s (n * 1024) ∧ ∀ d, A (ix2 d y) = Flash.acc s (v d) (n * 1024)

theorem holds_step {s : ℕ → EReal} {v : Fin 128 → ℕ → EReal} (hs : ∀ j, s j ≠ ⊤) (h0 : s 0 ≠ ⊥) {n : ℕ} {y : Fin 1024}
    {M : FVec Ideal S1x1024 .f32} {A : FVec Ideal S128x1024 .f32} (h : Holds s v n y M A) (S : FVec Ideal S1024x1024 .f32)
    (V : Vec Ideal S1x128x1024 .bf16)
    (hS : ∀ j : Fin 1024, S (ix2 j y) = s (n * 1024 + j.val)) (hV : ∀ (d : Fin 128) (j : Fin 1024), V (ix3 0 d j) = v d (n * 1024 + j.val)) :
    Holds s v (n + 1) y (newMax M S) (newAcc M A S V) :=
  ⟨(block_step hs h0 n M A S V 0 y h.1 (h.2 0) hS (hV 0)).1, fun d => (block_step hs h0 n M A S V d y h.1 (h.2 d) hS (hV d)).2⟩

section

variable (n : ℕ) (x0 : Vec Ideal S2x1024x128 .f32) (x1 : Vec Ideal S2x16384x128 .bf16) (x2 : Vec Ideal S2x128x16384 .bf16)

theorem scores_row (hh : Fin 2) (k : ℕ) (j y : Fin 1024) : scores (query (qblk x0 hh)) (kblk x1 hh k) (ix2 j y)
    = ∑ d : Fin 128, x1 (ix3 hh ⟨(k * 1024 + j.val) % 16384, Nat.mod_lt _ (by omega)⟩ d) * (scale * x0 (ix3 hh y d)) := by
  rw [scores_apply]
  refine Finset.sum_congr rfl fun d _ => ?_
  rw [query_apply]
  rfl

theorem start0 (y : Fin 1024) (s : ℕ → EReal) (v : Fin 128 → ℕ → EReal) : Holds s v 0 y (k0_pay73 (F := Ideal)) (k0_pay74 (F := Ideal)) := by
  refine ⟨?_, fun d => ?_⟩
  · rw [Nat.zero_mul, Flash.top_zero]
    unfold k0_pay73
    pointwise
    exact Consts.ofBits_neg_inf
  · rw [Nat.zero_mul, Flash.acc_zero]
    unfold k0_pay74
    pointwise

theorem start1 (y : Fin 1024) (s : ℕ → EReal) (v : Fin 128 → ℕ → EReal) : Holds s v 0 y (k0_pay75 (F := Ideal)) (k0_pay76 (F := Ideal)) := by
  refine ⟨?_, fun d => ?_⟩
  · rw [Nat.zero_mul, Flash.top_zero]
    unfold k0_pay75
    pointwise
    exact Consts.ofBits_neg_inf
  · rw [Nat.zero_mul, Flash.acc_zero]
    unfold k0_pay76
    pointwise

theorem state_holds (y : Fin 1024) (hs : ∀ hh j, rowScore n x0 x1 hh y j ≠ ⊤) (h0 : ∀ hh, rowScore n x0 x1 hh y 0 ≠ ⊥) (k : ℕ) (hk : k ≤ n) :
    let a := state (query (qblk x0 0)) (query (qblk x0 1)) x1 x2 k
    Holds (rowScore n x0 x1 0 y) (rowValue x2 0) k y a.1 a.2.1 ∧ Holds (rowScore n x0 x1 1 y) (rowValue x2 1) k y a.2.2.1 a.2.2.2 := by
  induction k with
  | zero => exact ⟨start0 y _ _, start1 y _ _⟩
  | succ k ih =>
    have h := ih (by omega)
    have e : ∀ (hh : Fin 2) (j : Fin 1024), scores (query (qblk x0 hh)) (kblk x1 hh k) (ix2 j y) = rowScore n x0 x1 hh y (k * 1024 + j.val) := fun hh j => by
      rw [scores_row, rowScore, if_pos (by omega)]
    exact ⟨holds_step (hs 0) (h0 0) h.1 _ _ (e 0) fun _ _ => rfl, holds_step (hs 1) (h0 1) h.2 _ _ (e 1) fun _ _ => rfl⟩

/-- The last step, whose block of scores is masked. -/
theorem masked_row (hh : Fin 2) (j y : Fin 1024) :
    masked (scores (query (qblk x0 hh)) (kblk x1 hh n)) (ix2 j y) = rowScore n x0 x1 hh y (n * 1024 + j.val) := by
  rw [masked_apply, scores_row, rowScore]
  by_cases h : j.val ≤ y.val
  · rw [if_pos h, if_pos (by omega)]
  · rw [if_neg h, if_neg (by omega)]

theorem out_apply (y : Fin 1024) (hs : ∀ hh j, rowScore n x0 x1 hh y j ≠ ⊤) (h0 : ∀ hh, rowScore n x0 x1 hh y 0 ≠ ⊥) (hh : Fin 2) (d : Fin 64) :
    out n x0 x1 x2 (ix2 y ⟨hh.val * 64 + d.val, by omega⟩)
      = Ideal.div (Flash.acc (rowScore n x0 x1 hh y) (rowValue x2 hh ⟨d.val, by omega⟩) ((n + 1) * 1024))
          (Flash.acc (rowScore n x0 x1 hh y) (rowValue x2 hh 64) ((n + 1) * 1024)) := by
  have h := state_holds n x0 x1 x2 y hs h0 n le_rfl
  have e0 := holds_step (hs 0) (h0 0) h.1 _ (vblk x2 0 n) (fun j => masked_row n x0 x1 0 j y) fun _ _ => rfl
  have e1 := holds_step (hs 1) (h0 1) h.2 _ (vblk x2 1 n) (fun j => masked_row n x0 x1 1 j y) fun _ _ => rfl
  unfold out
  obtain rfl | rfl : hh = 0 ∨ hh = 1 := by omega
  · refine (finish_apply_lo _ _ y _ (by simp)).trans ?_
    rw [← e0.2, ← e0.2]
    congr 2
    simp only [Nat.zero_mul, Nat.one_mul, Nat.zero_add, Fin.val_zero, Fin.val_one, Nat.add_sub_cancel_left]
    rfl
  · refine (finish_apply_hi _ _ y _ (by simp)).trans ?_
    rw [← e1.2, ← e1.2]
    congr 2
    simp only [Nat.zero_mul, Nat.one_mul, Nat.zero_add, Fin.val_zero, Fin.val_one, Nat.add_sub_cancel_left]
    rfl

end

end Cert.KernelIdeal.Attn

end
-- ==== Proof.Host.lean ====
module

public import proofs.«01_k».proof.Proof.Gen.KernelIdeal.Frame.Runs
public import Idealize.ShloMosaic.Lib.Pointwise
public import proofs.«01_k».proof.Proof.Consts

@[expose] public section

set_option maxRecDepth 16384

noncomputable section

/-! # The arrays that the host lays out for the kernel -/

namespace Cert.KernelIdeal.Attn

open Cert.KernelIdeal Cert.KernelIdeal.Gen Idealize.ShloMosaic Idealize.ShloMosaic.TcCoe Idealize.SL.Sem

/-- The queries, head first, 32 empty lanes after a head's 96. -/
def qArr (qn : FVec Ideal S1x16384x8x64 .f32) (qp : FVec Ideal S1x16384x8x32 .f32) : FVec Ideal S8x16384x128 .f32 :=
  transpose S8x16384x128 [1, 0, 2]
    (concatenate S16384x8x128 2
      [⟨S16384x8x64, (shapeCast S16384x8x64 qn shapeCasts_S1x16384x8x64_S16384x8x64 : FVec Ideal S16384x8x64 .f32)⟩,
        ⟨S16384x8x32, (shapeCast S16384x8x32 qp shapeCasts_S1x16384x8x32_S16384x8x32 : FVec Ideal S16384x8x32 .f32)⟩,
        ⟨S16384x8x32, (broadcastInDim S16384x8x32 ![] bcast_S_S16384x8x32 (constant (F := Ideal) S_ .f32 0#32))⟩]
      concatenates_S16384x8x64_S16384x8x32_S16384x8x32_S16384x8x128_d2)
    transposes_S16384x8x128_S8x16384x128_1_0_2

/-- A weight, 64 zero lanes after a head's 64. -/
def padded (w : FVec Ideal S256x8x64 .f32) : FVec Ideal S256x8x128 .f32 :=
  pad S256x8x128 ![0, 0, 0] ![0, 0, 64] ![0, 0, 0] w (sitofp FTy.f32 (constantI S_ 32 0#32)) pads_S256x8x64_S256x8x128_000_000_0640 h_S_

/-- The latents times a weight. -/
def proj (ck : FVec Ideal S1x16384x256 .f32) (w : FVec Ideal S256x8x128 .f32) : FVec Ideal S16384x8x128 .f32 :=
  shapeCast S16384x8x128
    (Host.dotGeneral dot_S16384x256_S256x1024_S16384x1024_1_0_0_1_n_n none
      (truncf FTy.bf16 (shapeCast S16384x256 ck shapeCasts_S1x16384x256_S16384x256) bitsLt_bf16_f32)
      (truncf FTy.bf16 (shapeCast S256x1024 w shapeCasts_S256x8x128_S256x1024) bitsLt_bf16_f32) : FVec Ideal S16384x1024 .f32)
    shapeCasts_S16384x1024_S16384x8x128

/-- The shared key of a position, at the lanes 64 to 95 of every head. -/
def shared (kp : FVec Ideal S1x16384x32 .f32) : FVec Ideal S16384x8x128 .f32 :=
  broadcastInDim S16384x8x128 ![0, 1, 2] bcast_S16384x1x128_S16384x8x128_0_1_2
    (broadcastInDim S16384x1x128 ![0, 2] bcast_S16384x128_S16384x1x128_0_2
      (pad S16384x128 ![0, 64] ![0, 32] ![0, 0] (shapeCast S16384x32 kp shapeCasts_S1x16384x32_S16384x32)
        (sitofp FTy.f32 (constantI S_ 32 0#32)) pads_S16384x32_S16384x128_000_64320 h_S_))

/-- A one at lane 64 of every head. -/
def lane : FVec Ideal S16384x8x128 .f32 :=
  select
    (cmpi CmpIPredicate.eq (iotaInDim S16384x8x128 32 2)
      (broadcastInDim S16384x8x128 ![] bcast_S_S16384x8x128 (constantI S_ 32 64#32)))
    (broadcastInDim S16384x8x128 ![] bcast_S_S16384x8x128 (constant S_ FTy.f32 1065353216#32))
    (broadcastInDim S16384x8x128 ![] bcast_S_S16384x8x128 (constant S_ FTy.f32 0#32))

/-- The keys, head first. -/
def kArr (ck : FVec Ideal S1x16384x256 .f32) (kp : FVec Ideal S1x16384x32 .f32) (w : FVec Ideal S256x8x64 .f32) :
    FVec Ideal S8x16384x128 .bf16 :=
  transpose S8x16384x128 [1, 0, 2] (truncf FTy.bf16 (addf (proj ck (padded w)) (shared kp)) bitsLt_bf16_f32)
    transposes_S16384x8x128_S8x16384x128_1_0_2

/-- The values, head first and positions last. -/
def vArr (ck : FVec Ideal S1x16384x256 .f32) (w : FVec Ideal S256x8x64 .f32) : FVec Ideal S8x128x16384 .bf16 :=
  transpose S8x128x16384 [1, 2, 0] (truncf FTy.bf16 (addf (proj ck (padded w)) lane) bitsLt_bf16_f32)
    transposes_S16384x8x128_S8x128x16384_1_2_0

theorem zero_word : (FloatOps.sitofp FTy.f32 0#32 : Ideal .f32) = 0 := by
  show (((0#32 : BitVec 32).toInt : ℝ) : EReal) = 0
  simp

theorem qArr_apply (qn qp) (h : Fin 8) (t : Fin 16384) (d : Fin 128) :
    qArr qn qp (ix3 h t d) = if hd : d.val < 64 then qn (ix4 0 t h ⟨d.val, hd⟩)
      else if hd' : d.val < 96 then qp (ix4 0 t h ⟨d.val - 64, by omega⟩) else 0 := by
  unfold qArr
  pointwise
  by_cases h1 : d.val < 64
  · rw [dif_pos h1, dif_pos h1]
  · by_cases h2 : d.val < 96
    · have h3 : d.val - 64 < 32 := by omega
      rw [dif_neg h1, dif_neg h1, dif_pos h2]
      exact dif_pos h3
    · have h3 : ¬ d.val - 64 < 32 := by omega
      rw [dif_neg h1, dif_neg h1, dif_neg h2]
      exact dif_neg h3

theorem padded_apply (w) (r : Fin 256) (h : Fin 8) (d : Fin 128) :
    padded w (ix3 r h d) = if hd : d.val < 64 then w (ix3 r h ⟨d.val, hd⟩) else 0 := by
  unfold padded
  pointwise
  rw [zero_word]

theorem proj_apply (ck w) (t : Fin 16384) (h : Fin 8) (d : Fin 128) :
    proj ck w (ix3 t h d) = ∑ r : Fin 256, ck (ix3 0 t r) * w (ix3 r h d) := by
  unfold proj
  pointwise

theorem shared_apply (kp) (t : Fin 16384) (h : Fin 8) (d : Fin 128) :
    shared kp (ix3 t h d) = if hd : 64 ≤ d.val ∧ d.val < 96 then kp (ix3 0 t ⟨d.val - 64, by omega⟩) else 0 := by
  unfold shared
  pointwise
  rw [zero_word]
  split_ifs <;> first | rfl | omega

theorem lane_apply (t : Fin 16384) (h : Fin 8) (d : Fin 128) :
    lane (ix3 t h d) = if d.val = 64 then 1 else 0 := by
  unfold lane
  pointwise
  have e : IntOp.cmpi CmpIPredicate.eq (BitVec.ofNat 32 d.val) 64#32 = if d.val = 64 then 1#1 else 0#1 := by
    revert d; decide
  rw [e]
  split_ifs <;> rfl

theorem kArr_apply (ck kp w) (h : Fin 8) (t : Fin 16384) (d : Fin 128) :
    kArr ck kp w (ix3 h t d) = proj ck (padded w) (ix3 t h d) + shared kp (ix3 t h d) := by
  unfold kArr
  pointwise

theorem vArr_apply (ck w) (h : Fin 8) (t : Fin 16384) (d : Fin 128) :
    vArr ck w (ix3 h d t) = proj ck (padded w) (ix3 t h d) + lane (ix3 t h d) := by
  unfold vArr
  pointwise

variable (m : (ℓ : Loc nD τ sig) → Buf (Elt Ideal) ℓ) (c : Dev nD)

theorem V_q : V m c main_v4 = qArr (m ((c.tc : Thread nD τ).loc main_arg0)) (m ((c.tc : Thread nD τ).loc main_arg1)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.ternary,
    StableHlo.TRef.binary, StableHlo.TRef.unary, StableHlo.TRef.toBuf, StableHlo.TRef.ofBuf, cast_eq]
  after_results_simp
  rfl

theorem V_k : V m c main_v22 = kArr (m ((c.tc : Thread nD τ).loc main_arg2)) (m ((c.tc : Thread nD τ).loc main_arg3)) (m ((c.tc : Thread nD τ).loc main_arg4)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.ternary,
    StableHlo.TRef.binary, StableHlo.TRef.unary, StableHlo.TRef.toBuf, StableHlo.TRef.ofBuf, cast_eq]
  after_results_simp
  rfl

theorem V_v : V m c main_v31 = vArr (m ((c.tc : Thread nD τ).loc main_arg2)) (m ((c.tc : Thread nD τ).loc main_arg5)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.ternary,
    StableHlo.TRef.binary, StableHlo.TRef.unary, StableHlo.TRef.toBuf, StableHlo.TRef.ofBuf, cast_eq]
  after_results_simp
  rfl

end Cert.KernelIdeal.Attn

end
-- ==== Proof.Pre.lean ====
module

public import proofs.«01_k».proof.Defs
public import Idealize.ShloMosaic.Lib.ReduceAll
public import Idealize.ShloMosaic.Lib.Pointwise
public import Idealize.ShloMosaic.Lib.StableHlo.Predicate

@[expose] public section

set_option maxRecDepth 16384

noncomputable section

/-! # What the precondition says: the arrays that the scores are made of are finite -/

namespace Cert.Pre_finite_scores.Attn

open Cert.Pre_finite_scores Cert.Pre_finite_scores.Facts Idealize.ShloMosaic

variable [Cert.Pre_finite_scores.Facts]

/-- Every element is a real number. -/
def Finite {s : Shape} {φ : FTy} (x : FVec Ideal s φ) : Prop := ∀ i, ∃ r : ℝ, x i = (r : EReal)

theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem finite_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant (F := Ideal) S_ .f32 0x7F800000#32))) (constantI S_ 1 1#1) hr h_S_ j = 1#1) :
    Finite x := by
  intro i
  have h := Host.reduce_andi_all _ _ _ _ j e i
  have e0 : Ideal.ofBits .f32 0x7F800000#32 = ⊤ := by simp [Ideal.ofBits, Ideal.ieee]
  refine real_of_abs_lt (x i) ?_
  rw [← e0]
  exact h

theorem andi_one {a b : BitVec 1} (h : IntOp.andi a b = 1#1) : a = 1#1 ∧ b = 1#1 := by
  revert a b; decide

theorem finite_args (a0 a1 a2 a3 a4 a5) (h : fn (F := Ideal) a0 a1 a2 a3 a4 a5 = fun _ => 1#1) :
    Finite a0 ∧ Finite a1 ∧ Finite a2 ∧ Finite a3 ∧ Finite a4 := by
  have h0 := congrFun h (Shape.Idx.first h_S_)
  unfold fn fn_part1 at h0
  obtain ⟨h0, e4⟩ := andi_one h0
  obtain ⟨h0, e3⟩ := andi_one h0
  obtain ⟨h0, e2⟩ := andi_one h0
  obtain ⟨e0, e1⟩ := andi_one h0
  exact ⟨finite_of_all _ _ _ _ e0, finite_of_all _ _ _ _ e1, finite_of_all _ _ _ _ e2, finite_of_all _ _ _ _ e3, finite_of_all _ _ _ _ e4⟩

end Cert.Pre_finite_scores.Attn

end
-- ==== Proof.Ref.lean ====
module

public import proofs.«01_k».proof.Proof.Gen.ReferenceIdeal.Run
public import Idealize.ShloMosaic.Lib.Pointwise
public import proofs.«01_k».proof.Proof.Consts

@[expose] public section

set_option maxRecDepth 16384

noncomputable section

/-! # What the reference computes, operation by operation -/

namespace Cert.ReferenceIdeal.Attn

open Cert.ReferenceIdeal Cert.ReferenceIdeal.Gen Cert.ReferenceIdeal.Value Idealize.ShloMosaic Idealize.ShloMosaic.TcCoe Idealize.SL.Sem

/-- The queries: the nope lanes, then the rope lanes. -/
def queries (qn : FVec Ideal S1x16384x8x64 .f32) (qp : FVec Ideal S1x16384x8x32 .f32) : FVec Ideal S1x16384x8x96 .f32 :=
  concatenate S1x16384x8x96 3 [⟨S1x16384x8x64, qn⟩, ⟨S1x16384x8x32, qp⟩] concatenates_S1x16384x8x64_S1x16384x8x32_S1x16384x8x96_d3

/-- The keys: the latents through `w_uk`, then the rope keys that the heads share. -/
def keys (ck : FVec Ideal S1x16384x256 .f32) (kp : FVec Ideal S1x16384x32 .f32) (wk : FVec Ideal S256x8x64 .f32) : FVec Ideal S1x16384x8x96 .f32 :=
  concatenate S1x16384x8x96 3 [⟨S1x16384x8x64, (Host.dotGeneral dot_S1x16384x256_S256x8x64_S1x16384x8x64_2_0_01_12_n_n none ck wk)⟩, ⟨S1x16384x8x32, (broadcastInDim S1x16384x8x32 ![0, 1, 2, 3] bcast_S1x16384x1x32_S1x16384x8x32_0_1_2_3 (broadcastInDim S1x16384x1x32 ![0, 1, 3] bcast_S1x16384x32_S1x16384x1x32_0_1_3 kp))⟩] concatenates_S1x16384x8x64_S1x16384x8x32_S1x16384x8x96_d3

/-- The values: the latents through `w_uv`. -/
def values (ck : FVec Ideal S1x16384x256 .f32) (wv : FVec Ideal S256x8x64 .f32) : FVec Ideal S1x16384x8x64 .f32 :=
  Host.dotGeneral dot_S1x16384x256_S256x8x64_S1x16384x8x64_2_0_01_12_n_n none ck wv

/-- The masked scores. -/
def scores (q k : FVec Ideal S1x16384x8x96 .f32) : FVec Ideal S1x8x16384x16384 .f32 :=
  select (broadcastInDim S1x8x16384x16384 ![2, 3] bcast_S16384x16384_S1x8x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (Host.divf (Host.dotGeneral dot_S1x16384x8x96_S1x16384x8x96_S1x8x16384x16384_3_3_1_1_02_02 none q k) (broadcastInDim S1x8x16384x16384 ![] bcast_S_S1x8x16384x16384 (Host.sqrt (constant S_ .f32 0x42C00000#32)))) (broadcastInDim S1x8x16384x16384 ![] bcast_S_S1x8x16384x16384 (id (constant S_ .f32 0xFF800000#32)))

/-- The largest score of a row. -/
def top (s : FVec Ideal S1x8x16384x16384 .f32) : FVec Ideal S1x8x16384 .f32 :=
  Host.reduce FloatOps.maximumf s (constant S_ .f32 0xFF800000#32) reducesTo_S1x8x16384x16384_S1x8x16384_d3 h_S_

/-- The exponentials of the scores less their largest. -/
def weights (s : FVec Ideal S1x8x16384x16384 .f32) : FVec Ideal S1x8x16384x16384 .f32 :=
  Host.exp (subf s (broadcastInDim S1x8x16384x16384 ![0, 1, 2, 3] bcast_S1x8x16384x1_S1x8x16384x16384_0_1_2_3 (broadcastInDim S1x8x16384x1 ![0, 1, 2] bcast_S1x8x16384_S1x8x16384x1_0_1_2 (maximumf (broadcastInDim S1x8x16384 ![] bcast_S_S1x8x16384 (constant S_ .f32 0xFF800000#32)) (top s)))))

/-- The weighted values. -/
def mix (s : FVec Ideal S1x8x16384x16384 .f32) (v : FVec Ideal S1x16384x8x64 .f32) : FVec Ideal S16384x512 .bf16 :=
  truncf .bf16 (shapeCast S16384x512 (transpose S1x16384x8x64 [0, 3, 1, 2] (Host.dotGeneral dot_S1x16384x8x64_S1x8x16384x16384_S1x8x64x16384_1_3_3_2_02_01 none v (Host.divf (weights s) (broadcastInDim S1x8x16384x16384 ![0, 1, 2, 3] bcast_S1x8x16384x1_S1x8x16384x16384_0_1_2_3 (broadcastInDim S1x8x16384x1 ![0, 1, 2] bcast_S1x8x16384_S1x8x16384x1_0_1_2 (Host.reduceAdd (weights s) (constant S_ .f32 0x00000000#32) reducesTo_S1x8x16384x16384_S1x8x16384_d3 h_S_))))) transposes_S1x8x64x16384_S1x16384x8x64_0_3_1_2) shapeCasts_S1x16384x8x64_S16384x512) bitsLt_bf16_f32

theorem res_eq (m : (ℓ : Loc nD τ sig) → Buf (Elt Ideal) ℓ) (c : Dev nD) :
    res_main_v31 m c = mix (scores (queries (m ((c.tc : Thread nD τ).loc main_arg0)) (m ((c.tc : Thread nD τ).loc main_arg1)))
      (keys (m ((c.tc : Thread nD τ).loc main_arg2)) (m ((c.tc : Thread nD τ).loc main_arg3)) (m ((c.tc : Thread nD τ).loc main_arg4))))
      (values (m ((c.tc : Thread nD τ).loc main_arg2)) (m ((c.tc : Thread nD τ).loc main_arg5))) := by
  unfold res_main_v31 mix weights top scores queries keys values
  rfl

end Cert.ReferenceIdeal.Attn

end
-- ==== Proof.RefScores.lean ====
module

public import proofs.«01_k».proof.Proof.Ref
public import Idealize.ShloMosaic.Lib.Pointwise
public import proofs.«01_k».proof.Proof.Consts

@[expose] public section

set_option maxRecDepth 16384

noncomputable section

/-! # What the reference computes, read at an index -/

namespace Cert.ReferenceIdeal.Attn

open Cert.ReferenceIdeal Cert.ReferenceIdeal.Gen Cert.ReferenceIdeal.Value Idealize.ShloMosaic Idealize.ShloMosaic.TcCoe Idealize.SL.Sem

theorem queries_apply (qn : FVec Ideal S1x16384x8x64 .f32) (qp : FVec Ideal S1x16384x8x32 .f32) (i : Fin 16384) (h : Fin 8) (d : Fin 96) :
    queries qn qp (ix4 0 i h d) = if hd : d.val < 64 then qn (ix4 0 i h ⟨d.val, hd⟩) else qp (ix4 0 i h ⟨d.val - 64, by omega⟩) := by
  unfold queries
  pointwise

theorem keys_apply (ck : FVec Ideal S1x16384x256 .f32) (kp : FVec Ideal S1x16384x32 .f32) (wk : FVec Ideal S256x8x64 .f32)
    (i : Fin 16384) (h : Fin 8) (d : Fin 96) :
    keys ck kp wk (ix4 0 i h d) = if hd : d.val < 64 then ∑ r : Fin 256, ck (ix3 0 i r) * wk (ix3 r h ⟨d.val, hd⟩)
      else kp (ix3 0 i ⟨d.val - 64, by omega⟩) := by
  unfold keys
  pointwise

theorem values_apply (ck : FVec Ideal S1x16384x256 .f32) (wv : FVec Ideal S256x8x64 .f32) (i : Fin 16384) (h : Fin 8) (d : Fin 64) :
    values ck wv (ix4 0 i h d) = ∑ r : Fin 256, ck (ix3 0 i r) * wv (ix3 r h d) := by
  unfold values
  pointwise

theorem scores_apply (q k : FVec Ideal S1x16384x8x96 .f32) (h : Fin 8) (i j : Fin 16384) :
    scores q k (ix4 0 h i j) = if j.val ≤ i.val then
      Ideal.div (∑ d : Fin 96, q (ix4 0 i h d) * k (ix4 0 j h d)) (Ideal.sqrt (96 : ℝ)) else ⊥ := by
  unfold scores
  pointwise
  rw [Consts.select_sle _ _ (by omega) (by omega), Consts.ofBits_96, show (id (constant (F := Ideal) S_ .f32 0xFF800000#32) ix0 : EReal) = ⊥ from Consts.ofBits_neg_inf]

end Cert.ReferenceIdeal.Attn

end
-- ==== Proof.RefMix.lean ====
module

public import proofs.«01_k».proof.Proof.Ref
public import Idealize.ShloMosaic.Lib.Pointwise
public import proofs.«01_k».proof.Proof.Consts

@[expose] public section

set_option maxRecDepth 16384

noncomputable section

/-! # What the reference computes, read at an index -/

namespace Cert.ReferenceIdeal.Attn

open Cert.ReferenceIdeal Cert.ReferenceIdeal.Gen Cert.ReferenceIdeal.Value Idealize.ShloMosaic Idealize.ShloMosaic.TcCoe Idealize.SL.Sem

theorem mix_apply (s : FVec Ideal S1x8x16384x16384 .f32) (v : FVec Ideal S1x16384x8x64 .f32) (i : Fin 16384) (e : Fin 512) :
    mix s v (ix2 i e) = ∑ j : Fin 16384, v (ix4 0 j ⟨e.val / 64, by omega⟩ ⟨e.val % 64, by omega⟩)
      * Ideal.div (weights s (ix4 0 ⟨e.val / 64, by omega⟩ i j)) (0 + ∑ j : Fin 16384, weights s (ix4 0 ⟨e.val / 64, by omega⟩ i j)) := by
  unfold mix
  pointwise

end Cert.ReferenceIdeal.Attn

end
-- ==== Proof.RefWeights.lean ====
module

public import proofs.«01_k».proof.Proof.Ref
public import Idealize.ShloMosaic.Lib.Pointwise
public import proofs.«01_k».proof.Proof.Consts

@[expose] public section

set_option maxRecDepth 16384

noncomputable section

/-! # What the reference computes, read at an index -/

namespace Cert.ReferenceIdeal.Attn

open Cert.ReferenceIdeal Cert.ReferenceIdeal.Gen Cert.ReferenceIdeal.Value Idealize.ShloMosaic Idealize.ShloMosaic.TcCoe Idealize.SL.Sem

/-- A largest value along the last of four axes, whatever the sizes. -/
theorem reduce_max {a b n : ℕ} {u : Shape} (x : (⟨4, ![1, a, b, n]⟩ : Shape).Idx → EReal) (init : u.Idx → EReal)
    (h : (⟨4, ![1, a, b, n]⟩ : Shape).ReducesTo [3] ⟨3, ![1, a, b]⟩) (hu : 0 < u.numel)
    (hi : init (Shape.Idx.first hu) = ⊥) (p : Fin a) (i : Fin b) :
    Host.reduce (FloatOps.maximumf : Ideal .f32 → Ideal .f32 → Ideal .f32) x init h hu (ix3 0 p i)
      = (Finset.univ : Finset (Fin n)).sup fun k => x (ix4 0 p i k) := by
  rw [Ideal.maximumf_eq_max, Host.reduce_eq_fold, h.fold_fiber_r4_a3, hi]
  rfl

theorem top_apply (s : FVec Ideal S1x8x16384x16384 .f32) (h : Fin 8) (i : Fin 16384) :
    top s (ix3 0 h i) = Finset.univ.sup fun j : Fin 16384 => s (ix4 0 h i j) := by
  unfold top
  exact reduce_max (a := 8) (b := 16384) (n := 16384) s (constant (F := Ideal) S_ .f32 0xFF800000#32) _ h_S_ Consts.ofBits_neg_inf h i

/-- An exponential of a score less a given largest one. -/
theorem exp_less (s : FVec Ideal S1x8x16384x16384 .f32) (t : FVec Ideal S1x8x16384 .f32) (h : Fin 8) (i j : Fin 16384)
    (z : EReal) (e : t (ix3 0 h i) = z) :
    Host.exp (subf s (broadcastInDim S1x8x16384x16384 ![0, 1, 2, 3] bcast_S1x8x16384x1_S1x8x16384x16384_0_1_2_3 (broadcastInDim S1x8x16384x1 ![0, 1, 2] bcast_S1x8x16384_S1x8x16384x1_0_1_2 (maximumf (broadcastInDim S1x8x16384 ![] bcast_S_S1x8x16384 (constant S_ .f32 0xFF800000#32)) t)))) (ix4 0 h i j)
      = Ideal.exp (s (ix4 0 h i j) - z) := by
  pointwise
  rw [e, Consts.ofBits_neg_inf, max_eq_right bot_le]

theorem weights_apply (s : FVec Ideal S1x8x16384x16384 .f32) (h : Fin 8) (i j : Fin 16384) :
    weights s (ix4 0 h i j) = Ideal.exp (s (ix4 0 h i j) - Finset.univ.sup fun j : Fin 16384 => s (ix4 0 h i j)) := by
  unfold weights
  exact exp_less s (top s) h i j _ (top_apply s h i)

end Cert.ReferenceIdeal.Attn

end
-- ==== Proof.Equation.lean ====
module

public import proofs.«01_k».proof.Proof.Windows
public import proofs.«01_k».proof.Proof.Rows
public import proofs.«01_k».proof.Proof.Host
public import proofs.«01_k».proof.Proof.Pre
public import proofs.«01_k».proof.Proof.RefScores
public import proofs.«01_k».proof.Proof.RefMix
public import proofs.«01_k».proof.Proof.RefWeights

@[expose] public section

set_option maxRecDepth 16384

noncomputable section

/-! # The kernel's results are the reference's -/

namespace Cert.Equation

open Idealize.ShloMosaic Cert.Pre_finite_scores.Attn
open Cert.KernelIdeal.Attn (scale qArr kArr vArr padded proj shared lane rowScore rowValue)
open Cert.ReferenceIdeal.Attn (queries keys values scores weights mix)

/-- A sum of products of real numbers is real. -/
theorem real_sum {n : ℕ} (f g : Fin n → EReal) (hf : ∀ d, ∃ r : ℝ, f d = r) (hg : ∀ d, ∃ r : ℝ, g d = r) :
    ∃ r : ℝ, ∑ d, f d * g d = (r : EReal) := by
  choose a ha using hf
  choose b hb using hg
  refine ⟨∑ d, a d * b d, ?_⟩
  rw [Flash.coe_sum]
  exact Finset.sum_congr rfl fun d _ => by rw [ha, hb, EReal.coe_mul]

/-- The scaled score over 128 lanes, 32 of them empty, is the reference's over its 96 lanes, in powers of two. -/
theorem score_eq (q k : Fin 96 → EReal) (hq : ∀ d, ∃ r : ℝ, q d = r) (hk : ∀ d, ∃ r : ℝ, k d = r) (Q K : Fin 128 → EReal)
    (hQ : ∀ d : Fin 128, Q d = if h : d.val < 96 then q ⟨d.val, h⟩ else 0)
    (hK : ∀ d : Fin 128, (h : d.val < 96) → K d = k ⟨d.val, h⟩) :
    ∑ d, K d * (scale * Q d) = (((Real.log 2)⁻¹ : ℝ) : EReal) * Ideal.div (∑ d, q d * k d) (Ideal.sqrt ((96 : ℝ) : EReal)) := by
  choose a ha using hq
  choose b hb using hk
  have e1 : ∑ d : Fin 128, K d * (scale * Q d) = ∑ d : Fin 96, k d * (scale * q d) := by
    have : ∀ d : Fin 128, K d * (scale * Q d) = if h : d.val < 96 then k ⟨d.val, h⟩ * (scale * q ⟨d.val, h⟩) else 0 := fun d => by
      rw [hQ]
      by_cases h : d.val < 96
      · rw [dif_pos h, dif_pos h, hK d h]
      · rw [dif_neg h, dif_neg h, mul_zero, mul_zero]
    simp only [this]
    rw [show (∑ d : Fin 128, if h : d.val < 96 then k ⟨d.val, h⟩ * (scale * q ⟨d.val, h⟩) else 0) = ∑ d : Fin (96 + 32), if h : d.val < 96 then k ⟨d.val, h⟩ * (scale * q ⟨d.val, h⟩) else 0 from rfl,
      Fin.sum_univ_add]
    rw [Finset.sum_eq_zero (s := (Finset.univ : Finset (Fin 32))) fun d _ => by rw [dif_neg]; simp, add_zero]
    exact Finset.sum_congr rfl fun d _ => by rw [dif_pos (by simp)]; rfl
  have h96 : Ideal.sqrt ((96 : ℝ) : EReal) = ((Real.sqrt 96 : ℝ) : EReal) := by
    rw [Ideal.sqrt_coe, if_neg (by norm_num)]
  have hs : Real.sqrt 96 ≠ 0 := (Real.sqrt_pos.mpr (by norm_num)).ne'
  rw [e1, h96, Ideal.div_coe hs, scale]
  simp only [ha, hb, ← EReal.coe_mul, ← Flash.coe_sum]
  rw [EReal.coe_eq_coe_iff, Finset.sum_mul, Finset.mul_sum]
  exact Finset.sum_congr rfl fun d _ => by rw [one_div]; ring

/-- The largest score of a row, over the positions as numbers. -/
theorem top_eq (r : ℕ → EReal) (T : ℕ) : Flash.top r T = Finset.univ.sup fun j : Fin T => r j.val := by
  apply le_antisymm
  · exact Finset.sup_le fun j hj => Finset.le_sup (f := fun j : Fin T => r j.val) (Finset.mem_univ (⟨j, Finset.mem_range.mp hj⟩ : Fin T))
  · exact Finset.sup_le fun j _ => Flash.le_top j.isLt

section

variable (qn : FVec Ideal Cert.KernelIdeal.S1x16384x8x64 .f32) (qp : FVec Ideal Cert.KernelIdeal.S1x16384x8x32 .f32)
  (ck : FVec Ideal Cert.KernelIdeal.S1x16384x256 .f32) (kp : FVec Ideal Cert.KernelIdeal.S1x16384x32 .f32)
  (wk wv : FVec Ideal Cert.KernelIdeal.S256x8x64 .f32)

theorem queries_real (h0 : Finite qn) (h1 : Finite qp) (i : Fin 16384) (h : Fin 8) (d : Fin 96) : ∃ r : ℝ, queries qn qp (ix4 0 i h d) = (r : EReal) := by
  rw [Cert.ReferenceIdeal.Attn.queries_apply]
  split_ifs
  · exact h0 _
  · exact h1 _

theorem keys_real (h2 : Finite ck) (h3 : Finite kp) (h4 : Finite wk) (i : Fin 16384) (h : Fin 8) (d : Fin 96) : ∃ r : ℝ, keys ck kp wk (ix4 0 i h d) = (r : EReal) := by
  rw [Cert.ReferenceIdeal.Attn.keys_apply]
  split_ifs
  · exact real_sum _ _ (fun _ => h2 _) fun _ => h4 _
  · exact h3 _

theorem qArr_eq (h : Fin 8) (i : Fin 16384) (d : Fin 128) :
    qArr qn qp (ix3 h i d) = if hd : d.val < 96 then queries qn qp (ix4 0 i h ⟨d.val, hd⟩) else 0 := by
  rw [Cert.KernelIdeal.Attn.qArr_apply]
  by_cases h2 : d.val < 96
  · rw [dif_pos h2, Cert.ReferenceIdeal.Attn.queries_apply]
    by_cases h1 : d.val < 64
    · rw [dif_pos h1, dif_pos h1]
    · rw [dif_neg h1, dif_neg h1, dif_pos h2]
  · rw [dif_neg h2, dif_neg (show ¬ d.val < 64 by omega), dif_neg h2]

theorem kArr_eq (h : Fin 8) (i : Fin 16384) (d : Fin 128) (hd : d.val < 96) :
    kArr ck kp wk (ix3 h i d) = keys ck kp wk (ix4 0 i h ⟨d.val, hd⟩) := by
  rw [Cert.KernelIdeal.Attn.kArr_apply, Cert.KernelIdeal.Attn.proj_apply, Cert.KernelIdeal.Attn.shared_apply, Cert.ReferenceIdeal.Attn.keys_apply]
  simp only [Cert.KernelIdeal.Attn.padded_apply]
  by_cases h1 : d.val < 64
  · rw [dif_neg (by omega), dif_pos h1, add_zero]
    simp only [dif_pos h1]
  · rw [dif_pos (by omega), dif_neg h1]
    simp only [dif_neg h1, mul_zero, Finset.sum_const_zero, zero_add]

theorem vArr_eq (h : Fin 8) (i : Fin 16384) (d : Fin 64) :
    vArr ck wv (ix3 h ⟨d.val, by omega⟩ i) = values ck wv (ix4 0 i h d) := by
  rw [Cert.KernelIdeal.Attn.vArr_apply, Cert.KernelIdeal.Attn.proj_apply, Cert.KernelIdeal.Attn.lane_apply, Cert.ReferenceIdeal.Attn.values_apply]
  simp only [Cert.KernelIdeal.Attn.padded_apply]
  rw [if_neg (by have := d.isLt; omega), add_zero]
  exact Finset.sum_congr rfl fun r _ => by rw [dif_pos d.isLt]

theorem vArr_one (h : Fin 8) (i : Fin 16384) : vArr ck wv (ix3 h 64 i) = 1 := by
  rw [Cert.KernelIdeal.Attn.vArr_apply, Cert.KernelIdeal.Attn.proj_apply, Cert.KernelIdeal.Attn.lane_apply]
  simp only [Cert.KernelIdeal.Attn.padded_apply]
  rw [if_pos (show ((64 : Fin 128) : ℕ) = 64 from rfl), Finset.sum_eq_zero, zero_add]
  intro r _
  rw [dif_neg (by decide), mul_zero]

/-- The reference's score of a position, masked, the positions as numbers. -/
def refScore (i : Fin 16384) (h : Fin 8) (j : ℕ) : EReal :=
  if j ≤ i.val then
    Ideal.div (∑ d : Fin 96, queries qn qp (ix4 0 i h d) * keys ck kp wk (ix4 0 ⟨j % 16384, Nat.mod_lt _ (by omega)⟩ h d)) (Ideal.sqrt ((96 : ℝ) : EReal))
  else ⊥

theorem scores_eq (i j : Fin 16384) (h : Fin 8) :
    scores (queries qn qp) (keys ck kp wk) (ix4 0 h i j) = refScore qn qp ck kp wk i h j.val := by
  rw [Cert.ReferenceIdeal.Attn.scores_apply, refScore]
  have e : (⟨j.val % 16384, Nat.mod_lt _ (by omega)⟩ : Fin 16384) = j := Fin.ext (Nat.mod_eq_of_lt j.isLt)
  rw [e]

theorem refScore_real (h0 : Finite qn) (h1 : Finite qp) (h2 : Finite ck) (h3 : Finite kp) (h4 : Finite wk) (i : Fin 16384) (h : Fin 8)
    (j : ℕ) (hj : j ≤ i.val) : ∃ r : ℝ, refScore qn qp ck kp wk i h j = (r : EReal) := by
  obtain ⟨r, hr⟩ := real_sum (fun d : Fin 96 => queries qn qp (ix4 0 i h d)) (fun d => keys ck kp wk (ix4 0 ⟨j % 16384, Nat.mod_lt _ (by omega)⟩ h d))
    (queries_real qn qp h0 h1 i h) (keys_real ck kp wk h2 h3 h4 _ h)
  have hs : Real.sqrt 96 ≠ 0 := (Real.sqrt_pos.mpr (by norm_num)).ne'
  refine ⟨r * (1 / Real.sqrt 96), ?_⟩
  rw [refScore, if_pos hj, hr, Ideal.sqrt_coe, if_neg (by norm_num), Ideal.div_coe hs, EReal.coe_mul]

/-- The reference's result. -/
theorem ref_apply (i : Fin 16384) (h : Fin 8) (d : Fin 64) :
    mix (scores (queries qn qp) (keys ck kp wk)) (values ck wv) (ix2 i ⟨h.val * 64 + d.val, by omega⟩)
      = ∑ j ∈ Finset.range 16384, values ck wv (ix4 0 ⟨j % 16384, Nat.mod_lt _ (by omega)⟩ h d)
          * Ideal.div (Ideal.exp (refScore qn qp ck kp wk i h j - Flash.top (refScore qn qp ck kp wk i h) 16384))
              (0 + ∑ j ∈ Finset.range 16384, Ideal.exp (refScore qn qp ck kp wk i h j - Flash.top (refScore qn qp ck kp wk i h) 16384)) := by
  have e1 : (⟨(h.val * 64 + d.val) / 64, by omega⟩ : Fin 8) = h := Fin.ext (by show (h.val * 64 + d.val) / 64 = h.val; omega)
  have e2 : (⟨(h.val * 64 + d.val) % 64, Nat.mod_lt _ (by omega)⟩ : Fin 64) = d := Fin.ext (by show (h.val * 64 + d.val) % 64 = d.val; omega)
  rw [Cert.ReferenceIdeal.Attn.mix_apply, e1, e2, Finset.sum_range, Finset.sum_range]
  have hm : ∀ j : Fin 16384, (⟨j.val % 16384, Nat.mod_lt _ (by omega)⟩ : Fin 16384) = j := fun j => Fin.ext (Nat.mod_eq_of_lt j.isLt)
  simp only [Cert.ReferenceIdeal.Attn.weights_apply, scores_eq, top_eq, hm]

/-- One result of the kernel, from the blocks that its point is given. -/
theorem row_eq (h0 : Finite qn) (h1 : Finite qp) (h2 : Finite ck) (h3 : Finite kp) (h4 : Finite wk) (n : ℕ) (hn : n < 16) (hh : Fin 2) (h : Fin 2 → Fin 8)
    (y : Fin 1024) (d : Fin 64) (x0 : Vec Ideal Cert.KernelIdeal.S2x1024x128 .f32) (x1 : Vec Ideal Cert.KernelIdeal.S2x16384x128 .bf16)
    (x2 : Vec Ideal Cert.KernelIdeal.S2x128x16384 .bf16)
    (e0 : ∀ hh d, x0 (ix3 hh y d) = qArr qn qp (ix3 (h hh) ⟨n * 1024 + y.val, by omega⟩ d))
    (e1 : ∀ hh j d, x1 (ix3 hh j d) = kArr ck kp wk (ix3 (h hh) j d))
    (e2 : ∀ hh d j, x2 (ix3 hh d j) = vArr ck wv (ix3 (h hh) d j)) :
    Cert.KernelIdeal.Attn.out n x0 x1 x2 (ix2 y ⟨hh.val * 64 + d.val, by omega⟩)
      = mix (scores (queries qn qp) (keys ck kp wk)) (values ck wv) (ix2 ⟨n * 1024 + y.val, by omega⟩ ⟨(h hh).val * 64 + d.val, by omega⟩) := by
  have hl : 0 < (Real.log 2)⁻¹ := inv_pos.mpr (Real.log_pos (by norm_num))
  have es : ∀ hh, rowScore n x0 x1 hh y = fun j => (((Real.log 2)⁻¹ : ℝ) : EReal) * refScore qn qp ck kp wk ⟨n * 1024 + y.val, by omega⟩ (h hh) j := by
    intro hh
    funext j
    rw [rowScore, refScore]
    by_cases hj : j ≤ n * 1024 + y.val
    · rw [if_pos hj, if_pos hj]
      simp only [e0, e1]
      exact score_eq _ _ (queries_real qn qp h0 h1 _ _) (keys_real ck kp wk h2 h3 h4 _ _) _ _ (qArr_eq qn qp _ _) (kArr_eq ck kp wk _ _)
    · rw [if_neg hj, if_neg hj, EReal.coe_mul_bot_of_pos hl]
  have ev : rowValue x2 hh ⟨d.val, by omega⟩ = fun j => values ck wv (ix4 0 ⟨j % 16384, Nat.mod_lt _ (by omega)⟩ (h hh) d) := by
    funext j
    rw [rowValue, e2, vArr_eq]
  have eo : rowValue x2 hh 64 = fun _ => 1 := by
    funext j
    rw [rowValue, e2, vArr_one]
  have hr : ∀ h' j, refScore qn qp ck kp wk ⟨n * 1024 + y.val, by omega⟩ h' j ≠ ⊤ := by
    intro h' j
    by_cases hj : j ≤ n * 1024 + y.val
    · obtain ⟨r, e⟩ := refScore_real qn qp ck kp wk h0 h1 h2 h3 h4 ⟨n * 1024 + y.val, by omega⟩ h' j hj
      rw [e]
      exact EReal.coe_ne_top r
    · rw [refScore, if_neg hj]
      exact bot_ne_top
  have hz : ∀ h', refScore qn qp ck kp wk ⟨n * 1024 + y.val, by omega⟩ h' 0 ≠ ⊥ := by
    intro h'
    obtain ⟨r, e⟩ := refScore_real qn qp ck kp wk h0 h1 h2 h3 h4 ⟨n * 1024 + y.val, by omega⟩ h' 0 (Nat.zero_le _)
    rw [e]
    exact EReal.coe_ne_bot r
  have hs : ∀ hh j, rowScore n x0 x1 hh y j ≠ ⊤ := by
    intro hh j
    rw [es]
    by_cases hj : j ≤ n * 1024 + y.val
    · obtain ⟨r, e⟩ := refScore_real qn qp ck kp wk h0 h1 h2 h3 h4 ⟨n * 1024 + y.val, by omega⟩ (h hh) j hj
      simp only [e, ← EReal.coe_mul]
      exact EReal.coe_ne_top _
    · simp only [refScore, if_neg hj, EReal.coe_mul_bot_of_pos hl]
      exact bot_ne_top
  have hs0 : ∀ hh, rowScore n x0 x1 hh y 0 ≠ ⊥ := by
    intro hh
    rw [es]
    obtain ⟨r, e⟩ := refScore_real qn qp ck kp wk h0 h1 h2 h3 h4 ⟨n * 1024 + y.val, by omega⟩ (h hh) 0 (Nat.zero_le _)
    simp only [e, ← EReal.coe_mul]
    exact EReal.coe_ne_bot _
  rw [Cert.KernelIdeal.Attn.out_apply n x0 x1 x2 y hs hs0 hh d, es, ev, eo, ref_apply]
  refine Flash.quotient (hr _) (by omega) (fun j hj => ?_) fun hb => hz (h hh) ?_
  · rw [refScore, if_neg (by simp only; omega)]
  · exact le_bot_iff.mp (hb ▸ Flash.le_top (n := 16384) (j := 0) (by omega))

end

end Cert.Equation

end
-- ==== Proof.Result.lean ====
module

public import proofs.«01_k».proof.Proof.Equation

@[expose] public section

set_option maxRecDepth 16384

noncomputable section

/-! # The kernel's array of results -/

namespace Cert.Equation

open Idealize.ShloMosaic Idealize.ShloMosaic.TcCoe Cert.Pre_finite_scores.Attn
open Cert.KernelIdeal Cert.KernelIdeal.Gen
open Cert.ReferenceIdeal.Attn (queries keys values scores mix)

variable (m : (ℓ : Loc nD τ sig) → Buf (Elt Ideal) ℓ) (c : Dev nD)

/-- One result, at the place that its point, its query and its lane give it. -/
theorem result_at
    (h0 : Finite (s := S1x16384x8x64) (φ := .f32) (m ((c.tc : Thread nD τ).loc main_arg0)))
    (h1 : Finite (s := S1x16384x8x32) (φ := .f32) (m ((c.tc : Thread nD τ).loc main_arg1)))
    (h2 : Finite (s := S1x16384x256) (φ := .f32) (m ((c.tc : Thread nD τ).loc main_arg2)))
    (h3 : Finite (s := S1x16384x32) (φ := .f32) (m ((c.tc : Thread nD τ).loc main_arg3)))
    (h4 : Finite (s := S256x8x64) (φ := .f32) (m ((c.tc : Thread nD τ).loc main_arg4)))
    (t : Fin cfg0.N) (hh : Fin 2) (y : Fin 1024) (d : Fin 64) (ht : t.val < 64) :
    ((Attn.dats m 0 c).arrAt 3 cfg0.N : S16384x512.Idx → EReal)
        (ix2 ⟨t.val % 16 * 1024 + y.val, by omega⟩ ⟨t.val / 16 * 128 + (hh.val * 64 + d.val), by omega⟩)
      = mix (scores (queries (m ((c.tc : Thread nD τ).loc main_arg0)) (m ((c.tc : Thread nD τ).loc main_arg1)))
          (keys (m ((c.tc : Thread nD τ).loc main_arg2)) (m ((c.tc : Thread nD τ).loc main_arg3)) (m ((c.tc : Thread nD τ).loc main_arg4))))
        (values (m ((c.tc : Thread nD τ).loc main_arg2)) (m ((c.tc : Thread nD τ).loc main_arg5)))
        (ix2 ⟨t.val % 16 * 1024 + y.val, by omega⟩ ⟨(t.val / 16 * 2 + hh.val) * 64 + d.val, by omega⟩) :=
  (Attn.result_apply m c t y ⟨hh.val * 64 + d.val, by omega⟩).trans
    (row_eq _ _ _ _ _ (m ((c.tc : Thread nD τ).loc main_arg5)) h0 h1 h2 h3 h4 (t.val % 16) (Nat.mod_lt _ (by omega)) hh
      (fun hh => ⟨t.val / 16 * 2 + hh.val, by omega⟩) y d (iblk m c 0 t) (iblk m c 1 t) (iblk m c 2 t)
      (fun hh d => (Attn.iblk0 m c t hh y d).trans (congrFun (Attn.V_q m c) _))
      (fun hh j d => (Attn.iblk1 m c t hh j d).trans (congrFun (Attn.V_k m c) _))
      (fun hh d j => (Attn.iblk2 m c t hh d j).trans (congrFun (Attn.V_v m c) _)))

/-- The kernel's array of results is the reference's function of the arguments. -/
theorem result_eq
    (h0 : Finite (s := S1x16384x8x64) (φ := .f32) (m ((c.tc : Thread nD τ).loc main_arg0)))
    (h1 : Finite (s := S1x16384x8x32) (φ := .f32) (m ((c.tc : Thread nD τ).loc main_arg1)))
    (h2 : Finite (s := S1x16384x256) (φ := .f32) (m ((c.tc : Thread nD τ).loc main_arg2)))
    (h3 : Finite (s := S1x16384x32) (φ := .f32) (m ((c.tc : Thread nD τ).loc main_arg3)))
    (h4 : Finite (s := S256x8x64) (φ := .f32) (m ((c.tc : Thread nD τ).loc main_arg4))) :
    ((Attn.dats m 0 c).arrAt 3 cfg0.N : S16384x512.Idx → EReal)
      = mix (scores (queries (m ((c.tc : Thread nD τ).loc main_arg0)) (m ((c.tc : Thread nD τ).loc main_arg1)))
          (keys (m ((c.tc : Thread nD τ).loc main_arg2)) (m ((c.tc : Thread nD τ).loc main_arg3)) (m ((c.tc : Thread nD τ).loc main_arg4))))
        (values (m ((c.tc : Thread nD τ).loc main_arg2)) (m ((c.tc : Thread nD τ).loc main_arg5))) := by
  funext ι
  obtain ⟨i, e, rfl⟩ : ∃ (i : Fin 16384) (e : Fin 512), ι = ix2 i e := ⟨ι 0, ι 1, eq_ix2 ι⟩
  have hlt : e.val / 128 * 16 + i.val / 1024 < 64 := by omega
  have key := result_at m c h0 h1 h2 h3 h4 (⟨e.val / 128 * 16 + i.val / 1024, hlt⟩ : Fin cfg0.N)
    ⟨e.val % 128 / 64, by omega⟩ ⟨i.val % 1024, Nat.mod_lt _ (by omega)⟩ ⟨e.val % 64, Nat.mod_lt _ (by omega)⟩ hlt
  have index : ∀ (i' : Fin 16384) (e' e'' : Fin 512), i'.val = i.val → e'.val = e.val → e''.val = e.val →
      ∀ f g : S16384x512.Idx → EReal, f (ix2 i' e') = g (ix2 i' e'') → f (ix2 i e) = g (ix2 i e) := by
    intro i' e' e'' hi he he' f g hfg
    rw [Fin.ext hi, Fin.ext he, Fin.ext he'] at hfg
    exact hfg
  exact index _ _ _ (by show (e.val / 128 * 16 + i.val / 1024) % 16 * 1024 + i.val % 1024 = i.val; omega)
    (by show (e.val / 128 * 16 + i.val / 1024) / 16 * 128 + (e.val % 128 / 64 * 64 + e.val % 64) = e.val; omega)
    (by show ((e.val / 128 * 16 + i.val / 1024) / 16 * 2 + e.val % 128 / 64) * 64 + e.val % 64 = e.val; omega) _ _ key

end Cert.Equation

end
-- ==== Proof.Layer.lean ====
module

public import Idealize.ShloMosaic.Lib.Pointwise

@[expose] public section

noncomputable section

/-! # Rows of 1024 numbers: the normalisation by the root of the mean square, a product, the last part of the layer -/

namespace Cert.Layer

open Idealize.ShloMosaic

/-- A row divided by the root of its mean square (plus a small number), times a gain. -/
def norm (f g : Fin 1024 → EReal) (k : Fin 1024) : EReal :=
  f k * Ideal.rsqrt (Ideal.div (∑ j, f j * f j) (Ideal.ofBits FTy.f32 0x44800000#32) + Ideal.ofBits FTy.f32 0x358637BD#32) * g k

/-- A row times a matrix. -/
def mat {n p : ℕ} (f : Fin n → EReal) (w : Fin n → Fin p → EReal) (k : Fin p) : EReal :=
  ∑ j, f j * w j k

/-- The square of the positive part. -/
def square {n : ℕ} (f : Fin n → EReal) (j : Fin n) : EReal :=
  max (f j) 0 * max (f j) 0

/-- A row plus what it reads from the memory, put through `w` and normalised. -/
def read (x o : Fin 1024 → EReal) (w : Fin 1024 → Fin 1024 → EReal) (g : Fin 1024 → EReal) (k : Fin 1024) : EReal :=
  x k + norm (mat o w) g k

/-- A row of the feed-forward part, before its normalisation. -/
def forward (h : Fin 1024 → EReal) (up : Fin 1024 → Fin 4096 → EReal) (down : Fin 4096 → Fin 1024 → EReal) : Fin 1024 → EReal :=
  mat (square (mat h up)) down

/-- The layer's last part, one row. -/
def last (x o : Fin 1024 → EReal) (w : Fin 1024 → Fin 1024 → EReal) (g g' : Fin 1024 → EReal)
    (up : Fin 1024 → Fin 4096 → EReal) (down : Fin 4096 → Fin 1024 → EReal) (g'' : Fin 1024 → EReal) (k : Fin 1024) : EReal :=
  read x o w g k + norm (forward (norm (read x o w g) g') up down) g'' k

theorem last_congr {x x' o o' g₁ g₁' g₂ g₂' g₃ g₃' : Fin 1024 → EReal} {w w' : Fin 1024 → Fin 1024 → EReal}
    {up up' : Fin 1024 → Fin 4096 → EReal} {down down' : Fin 4096 → Fin 1024 → EReal}
    (hx : ∀ j, x j = x' j) (ho : ∀ j, o j = o' j) (hw : ∀ j l, w j l = w' j l) (h₁ : ∀ j, g₁ j = g₁' j) (h₂ : ∀ j, g₂ j = g₂' j)
    (hu : ∀ j l, up j l = up' j l) (hd : ∀ j l, down j l = down' j l) (h₃ : ∀ j, g₃ j = g₃' j) (k : Fin 1024) :
    last x o w g₁ g₂ up down g₃ k = last x' o' w' g₁' g₂' up' down' g₃' k := by
  rw [funext hx, funext ho, funext fun j => funext (hw j), funext h₁, funext h₂, funext fun j => funext (hu j),
    funext fun j => funext (hd j), funext h₃]

theorem mat_norm_congr {x x' g g' : Fin 1024 → EReal} {w w' : Fin 1024 → Fin 1024 → EReal} (hx : ∀ j, x j = x' j) (hg : ∀ j, g j = g' j)
    (hw : ∀ j l, w j l = w' j l) (k : Fin 1024) : mat (norm x g) w k = mat (norm x' g') w' k := by
  rw [funext hx, funext hg, funext fun j => funext (hw j)]

end Cert.Layer

end
-- ==== Proof.Tail.Ref.lean ====
module

public import proofs.«01_k».proof.Proof.Gen.TailReferenceIdeal.Run
public import proofs.«01_k».proof.Proof.Layer
public import Idealize.ShloMosaic.Lib.Pointwise

@[expose] public section

set_option maxRecDepth 16384

noncomputable section

/-! # The last part: what the reference computes, operation by operation -/

namespace Cert.TailReferenceIdeal.Attn

open Cert.TailReferenceIdeal Cert.TailReferenceIdeal.Gen Cert.TailReferenceIdeal.Value Idealize.ShloMosaic Idealize.ShloMosaic.TcCoe Idealize.SL.Sem

/-- The rows divided by the roots of their mean squares, times a gain. -/
def normed (x : FVec Ideal S1x16384x1024 .f32) (g : FVec Ideal S1x1024 .f32) : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))

/-- What is read from the memory, put through a matrix. -/
def through (o : FVec Ideal S1x16384x1024 .f32) (w : FVec Ideal S1x1024x1024 .f32) : FVec Ideal S1x16384x1024 .f32 :=
  Host.dotGeneral dot_S1x16384x1024_S1024x1024_S1x16384x1024_2_0_01_1_n_n none o (shapeCast _ w shapeCasts_S1x1024x1024_S1024x1024)

/-- The feed-forward part, before its normalisation. -/
def forward (h : FVec Ideal S1x16384x1024 .f32) (up : FVec Ideal S1x1024x4096 .f32) : FVec Ideal S1x16384x4096 .f32 :=
  Host.dotGeneral dot_S1x16384x1024_S1024x4096_S1x16384x4096_2_0_01_1_n_n none h (shapeCast _ up shapeCasts_S1x1024x4096_S1024x4096)

/-- The square of the positive part, put through a matrix. -/
def back (f : FVec Ideal S1x16384x4096 .f32) (down : FVec Ideal S1x4096x1024 .f32) : FVec Ideal S1x16384x1024 .f32 :=
  Host.dotGeneral dot_S1x16384x4096_S4096x1024_S1x16384x1024_2_0_01_1_n_n none (mulf (maximumf f (broadcastInDim S1x16384x4096 ![] bcast_S_S1x16384x4096 (constant S_ .f32 0x00000000#32))) (maximumf f (broadcastInDim S1x16384x4096 ![] bcast_S_S1x16384x4096 (constant S_ .f32 0x00000000#32)))) (shapeCast _ down shapeCasts_S1x4096x1024_S4096x1024)

/-- The rows with what they read from the memory. -/
def withRead (x o : FVec Ideal S1x16384x1024 .f32) (w : FVec Ideal S1x1024x1024 .f32) (g : FVec Ideal S1x1024 .f32) : FVec Ideal S1x16384x1024 .f32 :=
  addf x (normed (through o w) g)

/-- The layer's result. -/
def result (x o : FVec Ideal S1x16384x1024 .f32) (w : FVec Ideal S1x1024x1024 .f32) (g g' : FVec Ideal S1x1024 .f32)
    (up : FVec Ideal S1x1024x4096 .f32) (down : FVec Ideal S1x4096x1024 .f32) (g'' : FVec Ideal S1x1024 .f32) : FVec Ideal S1x16384x1024 .f32 :=
  addf (withRead x o w g) (normed (back (forward (normed (withRead x o w g) g') up) down) g'')

theorem res_eq (m : (ℓ : Loc nD τ sig) → Buf (Elt Ideal) ℓ) (c : Dev nD) :
    res_main_v51 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v51 result back forward withRead normed through
  rfl

section
variable (i : Fin 16384) (k : Fin 1024) (l : Fin 4096)

theorem normed_apply (x : FVec Ideal S1x16384x1024 .f32) (g : FVec Ideal S1x1024 .f32) :
    normed x g (ix3 0 i k) = Layer.norm (fun j => x (ix3 0 i j)) (fun j => g (ix2 0 j)) k := by
  unfold normed
  pointwise
  rfl

theorem through_apply (o : FVec Ideal S1x16384x1024 .f32) (w : FVec Ideal S1x1024x1024 .f32) :
    through o w (ix3 0 i k) = Layer.mat (fun j => o (ix3 0 i j)) (fun j l => w (ix3 0 j l)) k := by
  unfold through
  pointwise
  rfl

theorem forward_apply (h : FVec Ideal S1x16384x1024 .f32) (up : FVec Ideal S1x1024x4096 .f32) :
    forward h up (ix3 0 i l) = Layer.mat (fun j => h (ix3 0 i j)) (fun j l => up (ix3 0 j l)) l := by
  unfold forward
  pointwise
  rfl

theorem back_apply (f : FVec Ideal S1x16384x4096 .f32) (down : FVec Ideal S1x4096x1024 .f32) :
    back f down (ix3 0 i k) = Layer.mat (Layer.square (fun j => f (ix3 0 i j))) (fun j l => down (ix3 0 j l)) k := by
  unfold back
  pointwise
  rfl

theorem withRead_apply (x o : FVec Ideal S1x16384x1024 .f32) (w : FVec Ideal S1x1024x1024 .f32) (g : FVec Ideal S1x1024 .f32) :
    withRead x o w g (ix3 0 i k)
      = Layer.read (fun j => x (ix3 0 i j)) (fun j => o (ix3 0 i j)) (fun j l => w (ix3 0 j l)) (fun j => g (ix2 0 j)) k := by
  unfold withRead
  pointwise
  rw [normed_apply]
  simp only [through_apply]
  rfl

/-- One number of the reference's result. -/
theorem result_apply (x o : FVec Ideal S1x16384x1024 .f32) (w : FVec Ideal S1x1024x1024 .f32) (g g' : FVec Ideal S1x1024 .f32)
    (up : FVec Ideal S1x1024x4096 .f32) (down : FVec Ideal S1x4096x1024 .f32) (g'' : FVec Ideal S1x1024 .f32) :
    result x o w g g' up down g'' (ix3 0 i k)
      = Layer.last (fun j => x (ix3 0 i j)) (fun j => o (ix3 0 i j)) (fun j l => w (ix3 0 j l)) (fun j => g (ix2 0 j))
          (fun j => g' (ix2 0 j)) (fun j l => up (ix3 0 j l)) (fun j l => down (ix3 0 j l)) (fun j => g'' (ix2 0 j)) k := by
  unfold result
  pointwise
  rw [normed_apply, withRead_apply]
  simp only [back_apply, forward_apply, normed_apply, withRead_apply]
  rfl
end

end Cert.TailReferenceIdeal.Attn

end
-- ==== Proof.Tail.Block.lean ====
module

public import proofs.«01_k».proof.Proof.Gen.TailKernelIdeal.Frame
public import proofs.«01_k».proof.Proof.Layer
public import Idealize.ShloMosaic.Lib.Pipeline.ValueKit

@[expose] public section

set_option maxRecDepth 16384

noncomputable section

/-! # The last part: what one block of 512 rows becomes -/

namespace Cert.TailKernelIdeal.Attn

open Cert.TailKernelIdeal Cert.TailKernelIdeal.Gen Idealize.ShloMosaic

theorem read_apply (x : Vec Ideal S512x1024 .f32) (o : Vec Ideal S512x1024 .bf16) (w : Vec Ideal S1024x1024 .bf16)
    (g : Vec Ideal S1x1024 .f32) (i : Fin 512) (k : Fin 1024) :
    k0_pay2 (F := Ideal) x o w g (ix2 i k)
      = Layer.read (fun j => x (ix2 i j)) (fun j => o (ix2 i j)) (fun j l => w (ix2 j l)) (fun j => g (ix2 0 j)) k := by
  unfold k0_pay2
  pointwise
  rfl

theorem norm_apply (x : Vec Ideal S512x1024 .f32) (o : Vec Ideal S512x1024 .bf16) (w : Vec Ideal S1024x1024 .bf16)
    (g g' : Vec Ideal S1x1024 .f32) (i : Fin 512) (k : Fin 1024) :
    k0_pay3 (F := Ideal) x o w g g' (ix2 i k)
      = Layer.norm (fun j => k0_pay2 (F := Ideal) x o w g (ix2 i j)) (fun j => g' (ix2 0 j)) k := by
  unfold k0_pay3
  generalize k0_pay2 x o w g = y
  pointwise
  rfl

theorem last_apply (x : Vec Ideal S512x1024 .f32) (h : Vec Ideal S512x1024 .bf16) (up : Vec Ideal S1024x4096 .bf16)
    (down : Vec Ideal S4096x1024 .bf16) (g : Vec Ideal S1x1024 .f32) (i : Fin 512) (k : Fin 1024) :
    k0_pay1 (F := Ideal) x h up (constant S512x4096 .f32 0x00000000#32) down g (ix2 i k)
      = x (ix2 i k) + Layer.norm (Layer.forward (fun j => h (ix2 i j)) (fun j l => up (ix2 j l)) (fun j l => down (ix2 j l)))
          (fun j => g (ix2 0 j)) k := by
  unfold k0_pay1
  pointwise
  rfl

/-- One number of the block. -/
theorem block_apply (x : Vec Ideal S512x1024 .f32) (o : Vec Ideal S512x1024 .bf16) (w : Vec Ideal S1024x1024 .bf16)
    (g g' : Vec Ideal S1x1024 .f32) (up : Vec Ideal S1024x4096 .bf16) (down : Vec Ideal S4096x1024 .bf16)
    (g'' : Vec Ideal S1x1024 .f32) (i : Fin 512) (k : Fin 1024) :
    k0_pay1 (F := Ideal) (k0_pay2 x o w g) (k0_pay3 x o w g g') (k0_pay4 up) (constant S512x4096 .f32 0x00000000#32) down g'' (ix2 i k)
      = Layer.last (fun j => x (ix2 i j)) (fun j => o (ix2 i j)) (fun j l => w (ix2 j l)) (fun j => g (ix2 0 j))
          (fun j => g' (ix2 0 j)) (fun j l => up (ix2 j l)) (fun j l => down (ix2 j l)) (fun j => g'' (ix2 0 j)) k := by
  have e : ∀ j l, k0_pay4 (F := Ideal) up (ix2 j l) = up (ix2 j l) := by
    intro j l
    unfold k0_pay4
    pointwise
  rw [last_apply]
  simp only [norm_apply, read_apply, e]
  rfl

end Cert.TailKernelIdeal.Attn

end
-- ==== Proof.Tail.Array.lean ====
module

public import proofs.«01_k».proof.Proof.Tail.Block

@[expose] public section

set_option maxRecDepth 16384

noncomputable section

/-! # The last part: the array of results

Point `t` of the grid works on the rows from `512 t` on. -/

namespace Cert.TailKernelIdeal.Attn

open Cert.TailKernelIdeal Cert.TailKernelIdeal.Gen Idealize.ShloMosaic Idealize.ShloMosaic.TcCoe Idealize.SL.Sem

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])
theorem index7 : ∀ t : Fin cfg0.N, (cfg0.win 7).index t = ![0, 0] :=
  (by decide +kernel : ∀ t : Fin grid0.N, win0_7.index t = ![0, 0])
theorem index8 : ∀ t : Fin cfg0.N, (cfg0.win 8).index t = ![t.val, 0] :=
  (by decide +kernel : ∀ t : Fin grid0.N, win0_8.index t = ![t.val, 0])

variable (m : (ℓ : Loc nD τ sig) → Buf (Elt Ideal) ℓ) (c : Dev nD)

theorem t_lt (t : Fin cfg0.N) : t.val < 32 := t.isLt

section
variable (t : Fin cfg0.N) (i : Fin 512) (j : Fin 1024) (l : Fin 4096)

theorem iblk0 : iblk m c 0 t (ix2 i j) = V m c main_v0 (ix2 ⟨t.val * 512 + i.val, by have := t_lt t; omega⟩ j) := by
  blk_ext [iblk, index0 t]
theorem iblk1 : iblk m c 1 t (ix2 i j) = V m c main_v2 (ix2 ⟨t.val * 512 + i.val, by have := t_lt t; omega⟩ j) := by
  blk_ext [iblk, index1 t]
theorem iblk2 (i : Fin 1024) : iblk m c 2 t (ix2 i j) = V m c main_v4 (ix2 i j) := by
  blk_ext [iblk, index2 t]
theorem iblk3 : iblk m c 3 t (ix2 0 j) = V m c main_v6 (ix2 0 j) := by
  blk_ext [iblk, index3 t]
theorem iblk4 : iblk m c 4 t (ix2 0 j) = V m c main_v8 (ix2 0 j) := by
  blk_ext [iblk, index4 t]
theorem iblk5 : iblk m c 5 t (ix2 j l) = V m c main_v10 (ix2 j l) := by
  blk_ext [iblk, index5 t]
theorem iblk6 : iblk m c 6 t (ix2 l j) = V m c main_v12 (ix2 l j) := by
  blk_ext [iblk, index6 t]
theorem iblk7 : iblk m c 7 t (ix2 0 j) = V m c main_v14 (ix2 0 j) := by
  blk_ext [iblk, index7 t]
end

/-! The arrays that the blocks are parts of. -/

section
variable (i : Fin 16384) (j k : Fin 1024) (l : Fin 4096)

theorem V_x : V m c main_v0 (ix2 i j) = (m ((c.tc : Thread nD τ).loc main_arg0) : S1x16384x1024.Idx → EReal) (ix3 0 i j) := by
  unfold V V0
  simp only [hostOps0, List.flatten_cons, List.flatten_nil, List.append_nil, List.cons_append, List.nil_append]
  after_results_simp
  pointwise
theorem V_o : V m c main_v2 (ix2 i j) = (m ((c.tc : Thread nD τ).loc main_arg1) : S1x16384x1024.Idx → EReal) (ix3 0 i j) := by
  unfold V V0
  simp only [hostOps0, List.flatten_cons, List.flatten_nil, List.append_nil, List.cons_append, List.nil_append]
  after_results_simp
  pointwise
theorem V_w : V m c main_v4 (ix2 k j) = (m ((c.tc : Thread nD τ).loc main_arg2) : S1x1024x1024.Idx → EReal) (ix3 0 k j) := by
  unfold V V0
  simp only [hostOps0, List.flatten_cons, List.flatten_nil, List.append_nil, List.cons_append, List.nil_append]
  after_results_simp
  pointwise
theorem V_g : V m c main_v6 (ix2 0 j) = (m ((c.tc : Thread nD τ).loc main_arg3) : S1x1024.Idx → EReal) (ix2 0 j) := by
  unfold V V0
  simp only [hostOps0, List.flatten_cons, List.flatten_nil, List.append_nil, List.cons_append, List.nil_append]
  after_results_simp
  pointwise
theorem V_g' : V m c main_v8 (ix2 0 j) = (m ((c.tc : Thread nD τ).loc main_arg4) : S1x1024.Idx → EReal) (ix2 0 j) := by
  unfold V V0
  simp only [hostOps0, List.flatten_cons, List.flatten_nil, List.append_nil, List.cons_append, List.nil_append]
  after_results_simp
  pointwise
theorem V_up : V m c main_v10 (ix2 j l) = (m ((c.tc : Thread nD τ).loc main_arg5) : S1x1024x4096.Idx → EReal) (ix3 0 j l) := by
  unfold V V0
  simp only [hostOps0, List.flatten_cons, List.flatten_nil, List.append_nil, List.cons_append, List.nil_append]
  after_results_simp
  pointwise
theorem V_down : V m c main_v12 (ix2 l j) = (m ((c.tc : Thread nD τ).loc main_arg6) : S1x4096x1024.Idx → EReal) (ix3 0 l j) := by
  unfold V V0
  simp only [hostOps0, List.flatten_cons, List.flatten_nil, List.append_nil, List.cons_append, List.nil_append]
  after_results_simp
  pointwise
theorem V_g'' : V m c main_v14 (ix2 0 j) = (m ((c.tc : Thread nD τ).loc main_arg7) : S1x1024.Idx → EReal) (ix2 0 j) := by
  unfold V V0
  simp only [hostOps0, List.flatten_cons, List.flatten_nil, List.append_nil, List.cons_append, List.nil_append]
  after_results_simp
  pointwise
end

/-- The last part as a function of its arguments. -/
def whole (x o : S1x16384x1024.Idx → EReal) (w : S1x1024x1024.Idx → EReal) (g g' : S1x1024.Idx → EReal)
    (up : S1x1024x4096.Idx → EReal) (down : S1x4096x1024.Idx → EReal) (g'' : S1x1024.Idx → EReal) (i : Fin 16384) (k : Fin 1024) : EReal :=
  Layer.last (fun j => x (ix3 0 i j)) (fun j => o (ix3 0 i j)) (fun j l => w (ix3 0 j l)) (fun j => g (ix2 0 j))
    (fun j => g' (ix2 0 j)) (fun j l => up (ix3 0 j l)) (fun j l => down (ix3 0 j l)) (fun j => g'' (ix2 0 j)) k

/-- Where a number of a block stands in the array. -/
theorem place (t : Fin cfg0.N) (i : Fin 512) (k : Fin 1024) :
    (((cfg0.win 8).blk t).view.emb (ix2 i k) : S16384x1024.Idx) = ix2 ⟨t.val * 512 + i.val, by have := t_lt t; omega⟩ k := by
  blk_ext [index8 t]

theorem at_index (G : Fin 16384 → Fin 1024 → EReal) (ι : S16384x1024.Idx) (i : Fin 16384) (k : Fin 1024) (h : ι = ix2 i k) :
    G i k = G (ι 0) (ι 1) := by
  subst h
  rfl

/-- A row of a block is a row of the arrays. -/
theorem row_eq (t : Fin cfg0.N) (i : Fin 512) (k : Fin 1024) :
    Layer.last (fun j => iblk m c 0 t (ix2 i j)) (fun j => iblk m c 1 t (ix2 i j)) (fun j l => iblk m c 2 t (ix2 j l))
        (fun j => iblk m c 3 t (ix2 0 j)) (fun j => iblk m c 4 t (ix2 0 j)) (fun j l => iblk m c 5 t (ix2 j l))
        (fun j l => iblk m c 6 t (ix2 j l)) (fun j => iblk m c 7 t (ix2 0 j)) k
      = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) ⟨t.val * 512 + i.val, by have := t_lt t; omega⟩ k :=
  Layer.last_congr (fun j => (iblk0 m c t i j).trans (V_x m c _ j)) (fun j => (iblk1 m c t i j).trans (V_o m c _ j))
    (fun j l => (iblk2 m c t l j).trans (V_w m c l j)) (fun j => (iblk3 m c t j).trans (V_g m c j)) (fun j => (iblk4 m c t j).trans (V_g' m c j))
    (fun j l => (iblk5 m c t j l).trans (V_up m c j l)) (fun j l => (iblk6 m c t l j).trans (V_down m c l j))
    (fun j => (iblk7 m c t j).trans (V_g'' m c j)) k

/-- The kernel's array. -/
theorem array_eq : ((dats m 0 c).arrAt 8 cfg0.N : S16384x1024.Idx → EReal)
    = fun ι => whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (ι 0) (ι 1) := by
  refine (dats m 0 c).arrAt_eq_of_covers 8 _ (by decide +kernel) fun t hf y => ?_
  blk_simp
  rw [after0_8]
  frame_out
  obtain ⟨i, k, rfl⟩ : ∃ (i : Fin 512) (k : Fin 1024), y = ix2 i k := ⟨y 0, y 1, eq_ix2 y⟩
  rw [block_apply]
  exact (row_eq m c t i k).trans (at_index (whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) _ _ _ (place t i k))

end Cert.TailKernelIdeal.Attn

end
-- ==== Proof.Tail.Result.lean ====
module

public import proofs.«01_k».proof.Proof.Tail.Array
public import Idealize.ShloMosaic.Lib.Pointwise

@[expose] public section

set_option maxRecDepth 16384

noncomputable section

/-! # The last part: what a run of the kernel leaves -/

namespace Cert.TailKernelIdeal.Attn

open Cert.TailKernelIdeal Cert.TailKernelIdeal.Gen Idealize.ShloMosaic Idealize.ShloMosaic.TcCoe Idealize.SL.Sem

variable (m : (ℓ : Loc nD τ sig) → Buf (Elt Ideal) ℓ) (ρ : Dev nD → PrngReg) (c : Dev nD)

/-- What the host leaves in the result. -/
def result : S1x16384x1024.Idx → EReal := Pipeline.afterTail₀ cfgs (dats m) 0 (V0 m) [hostOps1] c main_v16

/-- The result is the array with one more dimension of length 1. -/
theorem reshaped : result m c
    = shapeCast S1x16384x1024 ((dats m 0 c).arrAt 8 cfg0.N : S16384x1024.Idx → EReal) shapeCasts_S16384x1024_S1x16384x1024 := by
  unfold result Pipeline.afterTail₀
  simp only [hostOps1, List.flatten_cons, List.flatten_nil, List.append_nil, List.cons_append, List.nil_append]
  after_results_simp
  exact congrArg (fun A : S16384x1024.Idx → EReal => shapeCast S1x16384x1024 A shapeCasts_S16384x1024_S1x16384x1024)
    (Pipeline.withArrays_arr spec0 launch0.win.arr_inj c (V0 m c) (fun w => (dats m 0 c).arrAt w cfg0.N) 8)

theorem cast_apply (A : S16384x1024.Idx → EReal) (i : Fin 16384) (k : Fin 1024) :
    shapeCast S1x16384x1024 A shapeCasts_S16384x1024_S1x16384x1024 (ix3 0 i k) = A (ix2 i k) := by
  pointwise

/-- The result at a row and a lane. -/
theorem value (i : Fin 16384) (k : Fin 1024) : result m c (ix3 0 i k)
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) i k := by
  rw [reshaped, cast_apply, array_eq]
  rfl

/-- A run leaves the result and the arguments. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).2 main_v16 (Pipeline.mem_restRefs_of main_v16 (by decide) (by decide)), h.2 c⟩)
    (θ_run_and (run_main m ρ) (unchanged m ρ))

end Cert.TailKernelIdeal.Attn

end
-- ==== Proof.Mem.Ref.lean ====
module

public import proofs.«01_k».proof.Proof.Gen.MemReferenceIdeal.Run
public import proofs.«01_k».proof.Proof.Layer
public import Idealize.ShloMosaic.Lib.Pointwise

@[expose] public section

set_option maxRecDepth 16384

noncomputable section

/-! # The memory: what the reference computes -/

namespace Cert.MemReferenceIdeal.Attn

open Cert.MemReferenceIdeal Cert.MemReferenceIdeal.Gen Cert.MemReferenceIdeal.Value Idealize.ShloMosaic Idealize.ShloMosaic.TcCoe Idealize.SL.Sem

/-- The rows divided by the roots of their mean squares, times a gain. -/
def normed (x : FVec Ideal S1x256x1024 .f32) (g : FVec Ideal S1x1024 .f32) : FVec Ideal S1x256x1024 .f32 :=
  mulf (mulf x (broadcastInDim S1x256x1024 ![0, 1, 2] bcast_S1x256x1_S1x256x1024_0_1_2 (Host.rsqrt (addf (Host.divf (broadcastInDim S1x256x1 ![0, 1] bcast_S1x256_S1x256x1_0_1 (Host.reduceAdd (mulf x x) (constant S_ .f32 0x00000000#32) reducesTo_S1x256x1024_S1x256_d2 h_S_)) (broadcastInDim S1x256x1 ![] bcast_S_S1x256x1 (constant S_ .f32 0x44800000#32))) (broadcastInDim S1x256x1 ![] bcast_S_S1x256x1 (constant S_ .f32 0x358637BD#32)))))) (broadcastInDim S1x256x1024 ![0, 1, 2] bcast_S1x1x1024_S1x256x1024_0_1_2 (broadcastInDim S1x1x1024 ![2] bcast_S1024_S1x1x1024_2 (shapeCast _ g shapeCasts_S1x1024_S1024)))

/-- The normalised rows through a matrix. -/
def through (x : FVec Ideal S1x256x1024 .f32) (w : FVec Ideal S1x1024x1024 .f32) : FVec Ideal S1x256x1024 .f32 :=
  Host.dotGeneral dot_S1x256x1024_S1024x1024_S1x256x1024_2_0_01_1_n_n none x (shapeCast _ w shapeCasts_S1x1024x1024_S1024x1024)

/-- Split into four heads. -/
def heads (x : FVec Ideal S1x256x1024 .f32) : FVec Ideal S1x1x256x4x256 .f32 :=
  broadcastInDim S1x1x256x4x256 ![1, 2, 3, 4] bcast_S1x256x4x256_S1x1x256x4x256_1_2_3_4 (shapeCast _ x shapeCasts_S1x256x1024_S1x256x4x256)

/-- The run with the results so named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = heads (through (normed (m ((c.tc : Thread nD τ).loc main_arg0)) (m ((c.tc : Thread nD τ).loc main_arg1))) (m ((c.tc : Thread nD τ).loc main_arg2)))
      ∧ r.2.mem ((c.tc : Thread nD τ).loc main_v21) = heads (through (normed (m ((c.tc : Thread nD τ).loc main_arg0)) (m ((c.tc : Thread nD τ).loc main_arg1))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

section
variable (i : Fin 256) (k : Fin 1024)

theorem normed_apply (x : FVec Ideal S1x256x1024 .f32) (g : FVec Ideal S1x1024 .f32) :
    normed x g (ix3 0 i k) = Layer.norm (fun j => x (ix3 0 i j)) (fun j => g (ix2 0 j)) k := by
  unfold normed
  pointwise
  rfl

theorem through_apply (x : FVec Ideal S1x256x1024 .f32) (w : FVec Ideal S1x1024x1024 .f32) :
    through x w (ix3 0 i k) = Layer.mat (fun j => x (ix3 0 i j)) (fun j l => w (ix3 0 j l)) k := by
  unfold through
  pointwise
  rfl
end

theorem heads_apply (x : FVec Ideal S1x256x1024 .f32) (i : Fin 256) (h : Fin 4) (d : Fin 256) :
    heads x (ix5 0 0 i h d) = x (ix3 0 i ⟨h.val * 256 + d.val, by omega⟩) := by
  unfold heads
  pointwise

/-- One number of a result. -/
theorem result_apply (x : FVec Ideal S1x256x1024 .f32) (g : FVec Ideal S1x1024 .f32) (w : FVec Ideal S1x1024x1024 .f32)
    (i : Fin 256) (h : Fin 4) (d : Fin 256) :
    heads (through (normed x g) w) (ix5 0 0 i h d)
      = Layer.mat (Layer.norm (fun j => x (ix3 0 i j)) (fun j => g (ix2 0 j))) (fun j l => w (ix3 0 j l)) ⟨h.val * 256 + d.val, by omega⟩ := by
  rw [heads_apply, through_apply]
  simp only [normed_apply]

end Cert.MemReferenceIdeal.Attn

end
-- ==== Proof.Mem.Block.lean ====
module

public import proofs.«01_k».proof.Proof.Gen.MemKernelIdeal.Frame
public import proofs.«01_k».proof.Proof.Layer
public import Idealize.ShloMosaic.Lib.Pipeline.ValueKit

@[expose] public section

set_option maxRecDepth 16384

noncomputable section

/-! # The memory: what its one block of 256 rows becomes -/

namespace Cert.MemKernelIdeal.Attn

open Cert.MemKernelIdeal Cert.MemKernelIdeal.Gen Idealize.ShloMosaic

variable (x : Vec Ideal S256x1024 .f32) (g : Vec Ideal S1x1024 .f32) (w : Vec Ideal S1024x1024 .bf16) (i : Fin 256) (k : Fin 1024)

theorem norm_apply : k0_pay1 (F := Ideal) x g (ix2 i k) = Layer.norm (fun j => x (ix2 i j)) (fun j => g (ix2 0 j)) k := by
  unfold k0_pay1
  pointwise
  rfl

theorem keys_apply : k0_pay2 (F := Ideal) x g w (ix2 i k)
    = Layer.mat (Layer.norm (fun j => x (ix2 i j)) (fun j => g (ix2 0 j))) (fun j l => w (ix2 j l)) k := by
  unfold k0_pay2
  pointwise
  simp only [norm_apply]
  rfl

theorem values_apply : k0_pay3 (F := Ideal) x g w (ix2 i k)
    = Layer.mat (Layer.norm (fun j => x (ix2 i j)) (fun j => g (ix2 0 j))) (fun j l => w (ix2 j l)) k := by
  unfold k0_pay3
  pointwise
  simp only [norm_apply]
  rfl

end Cert.MemKernelIdeal.Attn

end
-- ==== Proof.Mem.Array.lean ====
module

public import proofs.«01_k».proof.Proof.Mem.Block

@[expose] public section

set_option maxRecDepth 16384

noncomputable section

/-! # The memory: the arrays of keys and of values -/

namespace Cert.MemKernelIdeal.Attn

open Cert.MemKernelIdeal Cert.MemKernelIdeal.Gen Idealize.ShloMosaic Idealize.ShloMosaic.TcCoe Idealize.SL.Sem

theorem index0 : ∀ t : Fin cfg0.N, (cfg0.win 0).index t = ![0, 0] :=
  (by decide +kernel : ∀ t : Fin grid0.N, win0_0.index t = ![0, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![0, 0] :=
  (by decide +kernel : ∀ t : Fin grid0.N, win0_5.index t = ![0, 0])

variable (m : (ℓ : Loc nD τ sig) → Buf (Elt Ideal) ℓ) (c : Dev nD)

section
variable (t : Fin cfg0.N) (i : Fin 256) (j k : Fin 1024)

theorem iblk0 : iblk m c 0 t (ix2 i j) = V m c main_v0 (ix2 i j) := by
  blk_ext [iblk, index0 t]
theorem iblk1 : iblk m c 1 t (ix2 0 j) = V m c main_v2 (ix2 0 j) := by
  blk_ext [iblk, index1 t]
theorem iblk2 : iblk m c 2 t (ix2 j k) = V m c main_v4 (ix2 j k) := by
  blk_ext [iblk, index2 t]
theorem iblk3 : iblk m c 3 t (ix2 j k) = V m c main_v6 (ix2 j k) := by
  blk_ext [iblk, index3 t]
end

/-! The arrays that the blocks are. -/

section
variable (i : Fin 256) (j k : Fin 1024)

theorem V_x : V m c main_v0 (ix2 i j) = (m ((c.tc : Thread nD τ).loc main_arg0) : S1x256x1024.Idx → EReal) (ix3 0 i j) := by
  unfold V V0
  simp only [hostOps0, List.flatten_cons, List.flatten_nil, List.append_nil, List.cons_append, List.nil_append]
  after_results_simp
  pointwise
theorem V_g : V m c main_v2 (ix2 0 j) = (m ((c.tc : Thread nD τ).loc main_arg1) : S1x1024.Idx → EReal) (ix2 0 j) := by
  unfold V V0
  simp only [hostOps0, List.flatten_cons, List.flatten_nil, List.append_nil, List.cons_append, List.nil_append]
  after_results_simp
  pointwise
theorem V_k : V m c main_v4 (ix2 j k) = (m ((c.tc : Thread nD τ).loc main_arg2) : S1x1024x1024.Idx → EReal) (ix3 0 j k) := by
  unfold V V0
  simp only [hostOps0, List.flatten_cons, List.flatten_nil, List.append_nil, List.cons_append, List.nil_append]
  after_results_simp
  pointwise
theorem V_v : V m c main_v6 (ix2 j k) = (m ((c.tc : Thread nD τ).loc main_arg3) : S1x1024x1024.Idx → EReal) (ix3 0 j k) := by
  unfold V V0
  simp only [hostOps0, List.flatten_cons, List.flatten_nil, List.append_nil, List.cons_append, List.nil_append]
  after_results_simp
  pointwise
end

/-- The normalised rows of the memory through a matrix. -/
def whole (x : S1x256x1024.Idx → EReal) (g : S1x1024.Idx → EReal) (w : S1x1024x1024.Idx → EReal) (i : Fin 256) (k : Fin 1024) : EReal :=
  Layer.mat (Layer.norm (fun j => x (ix3 0 i j)) (fun j => g (ix2 0 j))) (fun j l => w (ix3 0 j l)) k

theorem place4 (t : Fin cfg0.N) (i : Fin 256) (k : Fin 1024) : (((cfg0.win 4).blk t).view.emb (ix2 i k) : S256x1024.Idx) = ix2 i k := by
  blk_ext [index4 t]
theorem place5 (t : Fin cfg0.N) (i : Fin 256) (k : Fin 1024) : (((cfg0.win 5).blk t).view.emb (ix2 i k) : S256x1024.Idx) = ix2 i k := by
  blk_ext [index5 t]

theorem at_index (G : Fin 256 → Fin 1024 → EReal) (ι : S256x1024.Idx) (i : Fin 256) (k : Fin 1024) (h : ι = ix2 i k) :
    G i k = G (ι 0) (ι 1) := by
  subst h
  rfl

theorem keys_row (t : Fin cfg0.N) (i : Fin 256) (k : Fin 1024) :
    Layer.mat (Layer.norm (fun j => iblk m c 0 t (ix2 i j)) (fun j => iblk m c 1 t (ix2 0 j))) (fun j l => iblk m c 2 t (ix2 j l)) k
      = whole (m ((c.tc : Thread nD τ).loc main_arg0)) (m ((c.tc : Thread nD τ).loc main_arg1)) (m ((c.tc : Thread nD τ).loc main_arg2)) i k :=
  Layer.mat_norm_congr (fun j => (iblk0 m c t i j).trans (V_x m c i j)) (fun j => (iblk1 m c t j).trans (V_g m c j))
    (fun j l => (iblk2 m c t j l).trans (V_k m c j l)) k

theorem values_row (t : Fin cfg0.N) (i : Fin 256) (k : Fin 1024) :
    Layer.mat (Layer.norm (fun j => iblk m c 0 t (ix2 i j)) (fun j => iblk m c 1 t (ix2 0 j))) (fun j l => iblk m c 3 t (ix2 j l)) k
      = whole (m ((c.tc : Thread nD τ).loc main_arg0)) (m ((c.tc : Thread nD τ).loc main_arg1)) (m ((c.tc : Thread nD τ).loc main_arg3)) i k :=
  Layer.mat_norm_congr (fun j => (iblk0 m c t i j).trans (V_x m c i j)) (fun j => (iblk1 m c t j).trans (V_g m c j))
    (fun j l => (iblk3 m c t j l).trans (V_v m c j l)) k

/-- The keys. -/
theorem keys_eq : ((dats m 0 c).arrAt 4 cfg0.N : S256x1024.Idx → EReal)
    = fun ι => whole (m ((c.tc : Thread nD τ).loc main_arg0)) (m ((c.tc : Thread nD τ).loc main_arg1)) (m ((c.tc : Thread nD τ).loc main_arg2)) (ι 0) (ι 1) := by
  refine (dats m 0 c).arrAt_eq_of_covers 4 _ (by decide +kernel) fun t hf y => ?_
  blk_simp
  rw [after0_4]
  frame_out
  obtain ⟨i, k, rfl⟩ : ∃ (i : Fin 256) (k : Fin 1024), y = ix2 i k := ⟨y 0, y 1, eq_ix2 y⟩
  rw [keys_apply]
  exact (keys_row m c t i k).trans (at_index (whole (m ((c.tc : Thread nD τ).loc main_arg0)) (m ((c.tc : Thread nD τ).loc main_arg1))
    (m ((c.tc : Thread nD τ).loc main_arg2))) _ _ _ (place4 t i k))

/-- The values. -/
theorem values_eq : ((dats m 0 c).arrAt 5 cfg0.N : S256x1024.Idx → EReal)
    = fun ι => whole (m ((c.tc : Thread nD τ).loc main_arg0)) (m ((c.tc : Thread nD τ).loc main_arg1)) (m ((c.tc : Thread nD τ).loc main_arg3)) (ι 0) (ι 1) := by
  refine (dats m 0 c).arrAt_eq_of_covers 5 _ (by decide +kernel) fun t hf y => ?_
  blk_simp
  rw [after0_5]
  frame_out
  obtain ⟨i, k, rfl⟩ : ∃ (i : Fin 256) (k : Fin 1024), y = ix2 i k := ⟨y 0, y 1, eq_ix2 y⟩
  rw [values_apply]
  exact (values_row m c t i k).trans (at_index (whole (m ((c.tc : Thread nD τ).loc main_arg0)) (m ((c.tc : Thread nD τ).loc main_arg1))
    (m ((c.tc : Thread nD τ).loc main_arg3))) _ _ _ (place5 t i k))

end Cert.MemKernelIdeal.Attn

end
-- ==== Proof.Mem.Result.lean ====
module

public import proofs.«01_k».proof.Proof.Mem.Array
public import Idealize.ShloMosaic.Lib.Pointwise

@[expose] public section

set_option maxRecDepth 16384

noncomputable section

/-! # The memory: what a run of the kernel leaves -/

namespace Cert.MemKernelIdeal.Attn

open Cert.MemKernelIdeal Cert.MemKernelIdeal.Gen Idealize.ShloMosaic Idealize.ShloMosaic.TcCoe Idealize.SL.Sem

variable (m : (ℓ : Loc nD τ sig) → Buf (Elt Ideal) ℓ) (ρ : Dev nD → PrngReg) (c : Dev nD)

/-- An array split into four heads. -/
def heads (A : S256x1024.Idx → EReal) : S1x1x256x4x256.Idx → EReal :=
  broadcastInDim S1x1x256x4x256 ![1, 2, 3, 4] bcast_S1x256x4x256_S1x1x256x4x256_1_2_3_4 (shapeCast S1x256x4x256 A shapeCasts_S256x1024_S1x256x4x256)

theorem heads_apply (A : S256x1024.Idx → EReal) (i : Fin 256) (h : Fin 4) (d : Fin 256) :
    heads A (ix5 0 0 i h d) = A (ix2 i ⟨h.val * 256 + d.val, by omega⟩) := by
  unfold heads
  pointwise

/-- What the host leaves in the two results. -/
def keys : S1x1x256x4x256.Idx → EReal := Pipeline.afterTail₀ cfgs (dats m) 0 (V0 m) [hostOps1] c main_v9
def values : S1x1x256x4x256.Idx → EReal := Pipeline.afterTail₀ cfgs (dats m) 0 (V0 m) [hostOps1] c main_v11

theorem keys_heads : keys m c = heads ((dats m 0 c).arrAt 4 cfg0.N : S256x1024.Idx → EReal) := by
  unfold keys Pipeline.afterTail₀
  simp only [hostOps1, List.flatten_cons, List.flatten_nil, List.append_nil, List.cons_append, List.nil_append]
  after_results_simp
  exact congrArg heads (Pipeline.withArrays_arr spec0 launch0.win.arr_inj c (V0 m c) (fun w => (dats m 0 c).arrAt w cfg0.N) 4)

theorem values_heads : values m c = heads ((dats m 0 c).arrAt 5 cfg0.N : S256x1024.Idx → EReal) := by
  unfold values Pipeline.afterTail₀
  simp only [hostOps1, List.flatten_cons, List.flatten_nil, List.append_nil, List.cons_append, List.nil_append]
  after_results_simp
  exact congrArg heads (Pipeline.withArrays_arr spec0 launch0.win.arr_inj c (V0 m c) (fun w => (dats m 0 c).arrAt w cfg0.N) 5)

theorem keys_value (i : Fin 256) (h : Fin 4) (d : Fin 256) : keys m c (ix5 0 0 i h d)
    = whole (m ((c.tc : Thread nD τ).loc main_arg0)) (m ((c.tc : Thread nD τ).loc main_arg1)) (m ((c.tc : Thread nD τ).loc main_arg2))
        i ⟨h.val * 256 + d.val, by omega⟩ := by
  rw [keys_heads, heads_apply, keys_eq]
  rfl

theorem values_value (i : Fin 256) (h : Fin 4) (d : Fin 256) : values m c (ix5 0 0 i h d)
    = whole (m ((c.tc : Thread nD τ).loc main_arg0)) (m ((c.tc : Thread nD τ).loc main_arg1)) (m ((c.tc : Thread nD τ).loc main_arg3))
        i ⟨h.val * 256 + d.val, by omega⟩ := by
  rw [values_heads, heads_apply, values_eq]
  rfl

/-- A run leaves the results and the arguments. -/
theorem run : θ_run defs (onTc (τ := τ) (main (F := Ideal))) ⟨m, fun _ => 0, ρ⟩ (fun r => ∀ c : Dev nD,
      r.2.mem ((c.tc : Thread nD τ).loc main_v9) = keys m c
      ∧ r.2.mem ((c.tc : Thread nD τ).loc main_v11) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v9 (Pipeline.mem_restRefs_of main_v9 (by decide) (by decide)),
      (h.1 c).2 main_v11 (Pipeline.mem_restRefs_of main_v11 (by decide) (by decide)), h.2 c⟩)
    (θ_run_and (run_main m ρ) (unchanged m ρ))

end Cert.MemKernelIdeal.Attn

end
-- ==== Proof.Rest.lean ====
module

public import proofs.«01_k».proof.Proof.Tail.Ref
public import proofs.«01_k».proof.Proof.Tail.Result
public import proofs.«01_k».proof.Proof.Mem.Ref
public import proofs.«01_k».proof.Proof.Mem.Result

@[expose] public section

set_option maxRecDepth 16384

noncomputable section

/-! # The memory and the last part: the kernels' results are the references' -/

namespace Cert.Equation

open Idealize.ShloMosaic Idealize.ShloMosaic.TcCoe

section
variable (m : (ℓ : Loc Cert.MemKernelIdeal.nD Cert.MemKernelIdeal.τ Cert.MemKernelIdeal.sig) → Buf (Elt Ideal) ℓ) (c : Dev Cert.MemKernelIdeal.nD)

open Cert.MemKernelIdeal Cert.MemReferenceIdeal.Attn

theorem keys_eq : Attn.keys m c = heads (through (normed (m ((c.tc : Thread nD τ).loc main_arg0)) (m ((c.tc : Thread nD τ).loc main_arg1)))
    (m ((c.tc : Thread nD τ).loc main_arg2))) := by
  funext y
  obtain ⟨i, h, d, rfl⟩ : ∃ (i : Fin 256) (h : Fin 4) (d : Fin 256), y = ix5 0 0 i h d := by
    refine ⟨y 2, y 3, y 4, (eq_ix5 y).trans ?_⟩
    rw [Fin.fin_one_eq_zero (y 0), Fin.fin_one_eq_zero (y 1)]
  rw [result_apply, Attn.keys_value]
  rfl

theorem values_eq : Attn.values m c = heads (through (normed (m ((c.tc : Thread nD τ).loc main_arg0)) (m ((c.tc : Thread nD τ).loc main_arg1)))
    (m ((c.tc : Thread nD τ).loc main_arg3))) := by
  funext y
  obtain ⟨i, h, d, rfl⟩ : ∃ (i : Fin 256) (h : Fin 4) (d : Fin 256), y = ix5 0 0 i h d := by
    refine ⟨y 2, y 3, y 4, (eq_ix5 y).trans ?_⟩
    rw [Fin.fin_one_eq_zero (y 0), Fin.fin_one_eq_zero (y 1)]
  rw [result_apply, Attn.values_value]
  rfl
end

section
variable (m : (ℓ : Loc Cert.TailKernelIdeal.nD Cert.TailKernelIdeal.τ Cert.TailKernelIdeal.sig) → Buf (Elt Ideal) ℓ) (c : Dev Cert.TailKernelIdeal.nD)

open Cert.TailKernelIdeal

theorem last_eq : Attn.result m c = Cert.TailReferenceIdeal.Attn.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  funext y
  obtain ⟨i, k, rfl⟩ : ∃ (i : Fin 16384) (k : Fin 1024), y = ix3 0 i k := by
    refine ⟨y 1, y 2, (eq_ix3 y).trans ?_⟩
    rw [Fin.fin_one_eq_zero (y 0)]
  rw [Cert.TailReferenceIdeal.Attn.result_apply, Attn.value]
  rfl
end

end Cert.Equation

end
-- ==== Proof.Last.Ref.lean ====
module

public import proofs.«01_k».proof.Proof.Gen.LastReferenceIdeal.Run
public import proofs.«01_k».proof.Proof.Layer
public import Idealize.ShloMosaic.Lib.Pointwise

@[expose] public section

set_option maxRecDepth 16384

noncomputable section

/-! # The last part, for the sample: what the reference computes, operation by operation -/

namespace Cert.LastReferenceIdeal.Attn

open Cert.LastReferenceIdeal Cert.LastReferenceIdeal.Gen Cert.LastReferenceIdeal.Value Idealize.ShloMosaic Idealize.ShloMosaic.TcCoe Idealize.SL.Sem

/-- The rows divided by the roots of their mean squares, times a gain. -/
def normed (x : FVec Ideal S128x1x1024 .f32) (g : FVec Ideal S1x1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024)))

/-- What is read from the memory, put through a matrix. -/
def through (o : FVec Ideal S128x1x1024 .f32) (w : FVec Ideal S1x1024x1024 .f32) : FVec Ideal S128x1x1024 .f32 :=
  Host.dotGeneral dot_S128x1x1024_S1024x1024_S128x1x1024_2_0_01_1_n_n none o (shapeCast _ w shapeCasts_S1x1024x1024_S1024x1024)

/-- The feed-forward part, before its normalisation. -/
def forward (h : FVec Ideal S128x1x1024 .f32) (up : FVec Ideal S1x1024x4096 .f32) : FVec Ideal S128x1x4096 .f32 :=
  Host.dotGeneral dot_S128x1x1024_S1024x4096_S128x1x4096_2_0_01_1_n_n none h (shapeCast _ up shapeCasts_S1x1024x4096_S1024x4096)

/-- The square of the positive part, put through a matrix. -/
def back (f : FVec Ideal S128x1x4096 .f32) (down : FVec Ideal S1x4096x1024 .f32) : FVec Ideal S128x1x1024 .f32 :=
  Host.dotGeneral dot_S128x1x4096_S4096x1024_S128x1x1024_2_0_01_1_n_n none (mulf (maximumf f (broadcastInDim S128x1x4096 ![] bcast_S_S128x1x4096 (constant S_ .f32 0x00000000#32))) (maximumf f (broadcastInDim S128x1x4096 ![] bcast_S_S128x1x4096 (constant S_ .f32 0x00000000#32)))) (shapeCast _ down shapeCasts_S1x4096x1024_S4096x1024)

/-- The rows with what they read from the memory. -/
def withRead (x o : FVec Ideal S128x1x1024 .f32) (w : FVec Ideal S1x1024x1024 .f32) (g : FVec Ideal S1x1024 .f32) : FVec Ideal S128x1x1024 .f32 :=
  addf x (normed (through o w) g)

/-- The layer's result. -/
def result (x o : FVec Ideal S128x1x1024 .f32) (w : FVec Ideal S1x1024x1024 .f32) (g g' : FVec Ideal S1x1024 .f32)
    (up : FVec Ideal S1x1024x4096 .f32) (down : FVec Ideal S1x4096x1024 .f32) (g'' : FVec Ideal S1x1024 .f32) : FVec Ideal S128x1x1024 .f32 :=
  addf (withRead x o w g) (normed (back (forward (normed (withRead x o w g) g') up) down) g'')

theorem res_eq (m : (ℓ : Loc nD τ sig) → Buf (Elt Ideal) ℓ) (c : Dev nD) :
    res_main_v51 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v51 result back forward withRead normed through
  rfl

section
variable (i : Fin 128) (k : Fin 1024) (l : Fin 4096)

theorem normed_apply (x : FVec Ideal S128x1x1024 .f32) (g : FVec Ideal S1x1024 .f32) :
    normed x g (ix3 i 0 k) = Layer.norm (fun j => x (ix3 i 0 j)) (fun j => g (ix2 0 j)) k := by
  unfold normed
  pointwise
  rfl

theorem through_apply (o : FVec Ideal S128x1x1024 .f32) (w : FVec Ideal S1x1024x1024 .f32) :
    through o w (ix3 i 0 k) = Layer.mat (fun j => o (ix3 i 0 j)) (fun j l => w (ix3 0 j l)) k := by
  unfold through
  pointwise
  rfl

theorem forward_apply (h : FVec Ideal S128x1x1024 .f32) (up : FVec Ideal S1x1024x4096 .f32) :
    forward h up (ix3 i 0 l) = Layer.mat (fun j => h (ix3 i 0 j)) (fun j l => up (ix3 0 j l)) l := by
  unfold forward
  pointwise
  rfl

theorem back_apply (f : FVec Ideal S128x1x4096 .f32) (down : FVec Ideal S1x4096x1024 .f32) :
    back f down (ix3 i 0 k) = Layer.mat (Layer.square (fun j => f (ix3 i 0 j))) (fun j l => down (ix3 0 j l)) k := by
  unfold back
  pointwise
  rfl

theorem withRead_apply (x o : FVec Ideal S128x1x1024 .f32) (w : FVec Ideal S1x1024x1024 .f32) (g : FVec Ideal S1x1024 .f32) :
    withRead x o w g (ix3 i 0 k)
      = Layer.read (fun j => x (ix3 i 0 j)) (fun j => o (ix3 i 0 j)) (fun j l => w (ix3 0 j l)) (fun j => g (ix2 0 j)) k := by
  unfold withRead
  pointwise
  rw [normed_apply]
  simp only [through_apply]
  rfl

/-- One number of the reference's result. -/
theorem result_apply (x o : FVec Ideal S128x1x1024 .f32) (w : FVec Ideal S1x1024x1024 .f32) (g g' : FVec Ideal S1x1024 .f32)
    (up : FVec Ideal S1x1024x4096 .f32) (down : FVec Ideal S1x4096x1024 .f32) (g'' : FVec Ideal S1x1024 .f32) :
    result x o w g g' up down g'' (ix3 i 0 k)
      = Layer.last (fun j => x (ix3 i 0 j)) (fun j => o (ix3 i 0 j)) (fun j l => w (ix3 0 j l)) (fun j => g (ix2 0 j))
          (fun j => g' (ix2 0 j)) (fun j l => up (ix3 0 j l)) (fun j l => down (ix3 0 j l)) (fun j => g'' (ix2 0 j)) k := by
  unfold result
  pointwise
  rw [normed_apply, withRead_apply]
  simp only [back_apply, forward_apply, normed_apply, withRead_apply]
  rfl
end

end Cert.LastReferenceIdeal.Attn

end
-- ==== Proof.Last.Block.lean ====
module

public import proofs.«01_k».proof.Proof.Gen.LastKernelIdeal.Frame
public import proofs.«01_k».proof.Proof.Layer
public import Idealize.ShloMosaic.Lib.Pipeline.ValueKit

@[expose] public section

set_option maxRecDepth 16384

noncomputable section

/-! # The last part, for the sample: what one block, all 128 rows becomes -/

namespace Cert.LastKernelIdeal.Attn

open Cert.LastKernelIdeal Cert.LastKernelIdeal.Gen Idealize.ShloMosaic

theorem read_apply (x : Vec Ideal S128x1024 .f32) (o : Vec Ideal S128x1024 .bf16) (w : Vec Ideal S1024x1024 .bf16)
    (g : Vec Ideal S1x1024 .f32) (i : Fin 128) (k : Fin 1024) :
    k0_pay2 (F := Ideal) x o w g (ix2 i k)
      = Layer.read (fun j => x (ix2 i j)) (fun j => o (ix2 i j)) (fun j l => w (ix2 j l)) (fun j => g (ix2 0 j)) k := by
  unfold k0_pay2
  pointwise
  rfl

theorem norm_apply (x : Vec Ideal S128x1024 .f32) (o : Vec Ideal S128x1024 .bf16) (w : Vec Ideal S1024x1024 .bf16)
    (g g' : Vec Ideal S1x1024 .f32) (i : Fin 128) (k : Fin 1024) :
    k0_pay3 (F := Ideal) x o w g g' (ix2 i k)
      = Layer.norm (fun j => k0_pay2 (F := Ideal) x o w g (ix2 i j)) (fun j => g' (ix2 0 j)) k := by
  unfold k0_pay3
  generalize k0_pay2 x o w g = y
  pointwise
  rfl

theorem last_apply (x : Vec Ideal S128x1024 .f32) (h : Vec Ideal S128x1024 .bf16) (up : Vec Ideal S1024x4096 .bf16)
    (down : Vec Ideal S4096x1024 .bf16) (g : Vec Ideal S1x1024 .f32) (i : Fin 128) (k : Fin 1024) :
    k0_pay1 (F := Ideal) x h up (constant S128x4096 .f32 0x00000000#32) down g (ix2 i k)
      = x (ix2 i k) + Layer.norm (Layer.forward (fun j => h (ix2 i j)) (fun j l => up (ix2 j l)) (fun j l => down (ix2 j l)))
          (fun j => g (ix2 0 j)) k := by
  unfold k0_pay1
  pointwise
  rfl

/-- One number of the block. -/
theorem block_apply (x : Vec Ideal S128x1024 .f32) (o : Vec Ideal S128x1024 .bf16) (w : Vec Ideal S1024x1024 .bf16)
    (g g' : Vec Ideal S1x1024 .f32) (up : Vec Ideal S1024x4096 .bf16) (down : Vec Ideal S4096x1024 .bf16)
    (g'' : Vec Ideal S1x1024 .f32) (i : Fin 128) (k : Fin 1024) :
    k0_pay1 (F := Ideal) (k0_pay2 x o w g) (k0_pay3 x o w g g') (k0_pay4 up) (constant S128x4096 .f32 0x00000000#32) down g'' (ix2 i k)
      = Layer.last (fun j => x (ix2 i j)) (fun j => o (ix2 i j)) (fun j l => w (ix2 j l)) (fun j => g (ix2 0 j))
          (fun j => g' (ix2 0 j)) (fun j l => up (ix2 j l)) (fun j l => down (ix2 j l)) (fun j => g'' (ix2 0 j)) k := by
  have e : ∀ j l, k0_pay4 (F := Ideal) up (ix2 j l) = up (ix2 j l) := by
    intro j l
    unfold k0_pay4
    pointwise
  rw [last_apply]
  simp only [norm_apply, read_apply, e]
  rfl

end Cert.LastKernelIdeal.Attn

end
-- ==== Proof.Last.Array.lean ====
module

public import proofs.«01_k».proof.Proof.Last.Block

@[expose] public section

set_option maxRecDepth 16384

noncomputable section

/-! # The last part, for the sample: the array of results

The one point of the grid works on all rows. -/

namespace Cert.LastKernelIdeal.Attn

open Cert.LastKernelIdeal Cert.LastKernelIdeal.Gen Idealize.ShloMosaic Idealize.ShloMosaic.TcCoe Idealize.SL.Sem

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])
theorem index7 : ∀ t : Fin cfg0.N, (cfg0.win 7).index t = ![0, 0] :=
  (by decide +kernel : ∀ t : Fin grid0.N, win0_7.index t = ![0, 0])
theorem index8 : ∀ t : Fin cfg0.N, (cfg0.win 8).index t = ![t.val, 0] :=
  (by decide +kernel : ∀ t : Fin grid0.N, win0_8.index t = ![t.val, 0])

variable (m : (ℓ : Loc nD τ sig) → Buf (Elt Ideal) ℓ) (c : Dev nD)

theorem t_lt (t : Fin cfg0.N) : t.val < 1 := t.isLt

section
variable (t : Fin cfg0.N) (i : Fin 128) (j : Fin 1024) (l : Fin 4096)

theorem iblk0 : iblk m c 0 t (ix2 i j) = V m c main_v0 (ix2 ⟨t.val * 128 + i.val, by have := t_lt t; omega⟩ j) := by
  blk_ext [iblk, index0 t]
theorem iblk1 : iblk m c 1 t (ix2 i j) = V m c main_v2 (ix2 ⟨t.val * 128 + i.val, by have := t_lt t; omega⟩ j) := by
  blk_ext [iblk, index1 t]
theorem iblk2 (i : Fin 1024) : iblk m c 2 t (ix2 i j) = V m c main_v4 (ix2 i j) := by
  blk_ext [iblk, index2 t]
theorem iblk3 : iblk m c 3 t (ix2 0 j) = V m c main_v6 (ix2 0 j) := by
  blk_ext [iblk, index3 t]
theorem iblk4 : iblk m c 4 t (ix2 0 j) = V m c main_v8 (ix2 0 j) := by
  blk_ext [iblk, index4 t]
theorem iblk5 : iblk m c 5 t (ix2 j l) = V m c main_v10 (ix2 j l) := by
  blk_ext [iblk, index5 t]
theorem iblk6 : iblk m c 6 t (ix2 l j) = V m c main_v12 (ix2 l j) := by
  blk_ext [iblk, index6 t]
theorem iblk7 : iblk m c 7 t (ix2 0 j) = V m c main_v14 (ix2 0 j) := by
  blk_ext [iblk, index7 t]
end

/-! The arrays that the blocks are parts of. -/

section
variable (i : Fin 128) (j k : Fin 1024) (l : Fin 4096)

theorem V_x : V m c main_v0 (ix2 i j) = (m ((c.tc : Thread nD τ).loc main_arg0) : S128x1x1024.Idx → EReal) (ix3 i 0 j) := by
  unfold V V0
  simp only [hostOps0, List.flatten_cons, List.flatten_nil, List.append_nil, List.cons_append, List.nil_append]
  after_results_simp
  pointwise
theorem V_o : V m c main_v2 (ix2 i j) = (m ((c.tc : Thread nD τ).loc main_arg1) : S128x1x1024.Idx → EReal) (ix3 i 0 j) := by
  unfold V V0
  simp only [hostOps0, List.flatten_cons, List.flatten_nil, List.append_nil, List.cons_append, List.nil_append]
  after_results_simp
  pointwise
theorem V_w : V m c main_v4 (ix2 k j) = (m ((c.tc : Thread nD τ).loc main_arg2) : S1x1024x1024.Idx → EReal) (ix3 0 k j) := by
  unfold V V0
  simp only [hostOps0, List.flatten_cons, List.flatten_nil, List.append_nil, List.cons_append, List.nil_append]
  after_results_simp
  pointwise
theorem V_g : V m c main_v6 (ix2 0 j) = (m ((c.tc : Thread nD τ).loc main_arg3) : S1x1024.Idx → EReal) (ix2 0 j) := by
  unfold V V0
  simp only [hostOps0, List.flatten_cons, List.flatten_nil, List.append_nil, List.cons_append, List.nil_append]
  after_results_simp
  pointwise
theorem V_g' : V m c main_v8 (ix2 0 j) = (m ((c.tc : Thread nD τ).loc main_arg4) : S1x1024.Idx → EReal) (ix2 0 j) := by
  unfold V V0
  simp only [hostOps0, List.flatten_cons, List.flatten_nil, List.append_nil, List.cons_append, List.nil_append]
  after_results_simp
  pointwise
theorem V_up : V m c main_v10 (ix2 j l) = (m ((c.tc : Thread nD τ).loc main_arg5) : S1x1024x4096.Idx → EReal) (ix3 0 j l) := by
  unfold V V0
  simp only [hostOps0, List.flatten_cons, List.flatten_nil, List.append_nil, List.cons_append, List.nil_append]
  after_results_simp
  pointwise
theorem V_down : V m c main_v12 (ix2 l j) = (m ((c.tc : Thread nD τ).loc main_arg6) : S1x4096x1024.Idx → EReal) (ix3 0 l j) := by
  unfold V V0
  simp only [hostOps0, List.flatten_cons, List.flatten_nil, List.append_nil, List.cons_append, List.nil_append]
  after_results_simp
  pointwise
theorem V_g'' : V m c main_v14 (ix2 0 j) = (m ((c.tc : Thread nD τ).loc main_arg7) : S1x1024.Idx → EReal) (ix2 0 j) := by
  unfold V V0
  simp only [hostOps0, List.flatten_cons, List.flatten_nil, List.append_nil, List.cons_append, List.nil_append]
  after_results_simp
  pointwise
end

/-- The last part as a function of its arguments. -/
def whole (x o : S128x1x1024.Idx → EReal) (w : S1x1024x1024.Idx → EReal) (g g' : S1x1024.Idx → EReal)
    (up : S1x1024x4096.Idx → EReal) (down : S1x4096x1024.Idx → EReal) (g'' : S1x1024.Idx → EReal) (i : Fin 128) (k : Fin 1024) : EReal :=
  Layer.last (fun j => x (ix3 i 0 j)) (fun j => o (ix3 i 0 j)) (fun j l => w (ix3 0 j l)) (fun j => g (ix2 0 j))
    (fun j => g' (ix2 0 j)) (fun j l => up (ix3 0 j l)) (fun j l => down (ix3 0 j l)) (fun j => g'' (ix2 0 j)) k

/-- Where a number of a block stands in the array. -/
theorem place (t : Fin cfg0.N) (i : Fin 128) (k : Fin 1024) :
    (((cfg0.win 8).blk t).view.emb (ix2 i k) : S128x1024.Idx) = ix2 ⟨t.val * 128 + i.val, by have := t_lt t; omega⟩ k := by
  blk_ext [index8 t]

theorem at_index (G : Fin 128 → Fin 1024 → EReal) (ι : S128x1024.Idx) (i : Fin 128) (k : Fin 1024) (h : ι = ix2 i k) :
    G i k = G (ι 0) (ι 1) := by
  subst h
  rfl

/-- A row of a block is a row of the arrays. -/
theorem row_eq (t : Fin cfg0.N) (i : Fin 128) (k : Fin 1024) :
    Layer.last (fun j => iblk m c 0 t (ix2 i j)) (fun j => iblk m c 1 t (ix2 i j)) (fun j l => iblk m c 2 t (ix2 j l))
        (fun j => iblk m c 3 t (ix2 0 j)) (fun j => iblk m c 4 t (ix2 0 j)) (fun j l => iblk m c 5 t (ix2 j l))
        (fun j l => iblk m c 6 t (ix2 j l)) (fun j => iblk m c 7 t (ix2 0 j)) k
      = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) ⟨t.val * 128 + i.val, by have := t_lt t; omega⟩ k :=
  Layer.last_congr (fun j => (iblk0 m c t i j).trans (V_x m c _ j)) (fun j => (iblk1 m c t i j).trans (V_o m c _ j))
    (fun j l => (iblk2 m c t l j).trans (V_w m c l j)) (fun j => (iblk3 m c t j).trans (V_g m c j)) (fun j => (iblk4 m c t j).trans (V_g' m c j))
    (fun j l => (iblk5 m c t j l).trans (V_up m c j l)) (fun j l => (iblk6 m c t l j).trans (V_down m c l j))
    (fun j => (iblk7 m c t j).trans (V_g'' m c j)) k

/-- The kernel's array. -/
theorem array_eq : ((dats m 0 c).arrAt 8 cfg0.N : S128x1024.Idx → EReal)
    = fun ι => whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (ι 0) (ι 1) := by
  refine (dats m 0 c).arrAt_eq_of_covers 8 _ (by decide +kernel) fun t hf y => ?_
  blk_simp
  rw [after0_8]
  frame_out
  obtain ⟨i, k, rfl⟩ : ∃ (i : Fin 128) (k : Fin 1024), y = ix2 i k := ⟨y 0, y 1, eq_ix2 y⟩
  rw [block_apply]
  exact (row_eq m c t i k).trans (at_index (whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) _ _ _ (place t i k))

end Cert.LastKernelIdeal.Attn

end
-- ==== Proof.Last.Result.lean ====
module

public import proofs.«01_k».proof.Proof.Last.Array
public import Idealize.ShloMosaic.Lib.Pointwise

@[expose] public section

set_option maxRecDepth 16384

noncomputable section

/-! # The last part, for the sample: what a run of the kernel leaves -/

namespace Cert.LastKernelIdeal.Attn

open Cert.LastKernelIdeal Cert.LastKernelIdeal.Gen Idealize.ShloMosaic Idealize.ShloMosaic.TcCoe Idealize.SL.Sem

variable (m : (ℓ : Loc nD τ sig) → Buf (Elt Ideal) ℓ) (ρ : Dev nD → PrngReg) (c : Dev nD)

/-- What the host leaves in the result. -/
def result : S128x1x1024.Idx → EReal := Pipeline.afterTail₀ cfgs (dats m) 0 (V0 m) [hostOps1] c main_v16

/-- The result is the array with one more dimension of length 1. -/
theorem reshaped : result m c
    = shapeCast S128x1x1024 ((dats m 0 c).arrAt 8 cfg0.N : S128x1024.Idx → EReal) shapeCasts_S128x1024_S128x1x1024 := by
  unfold result Pipeline.afterTail₀
  simp only [hostOps1, List.flatten_cons, List.flatten_nil, List.append_nil, List.cons_append, List.nil_append]
  after_results_simp
  exact congrArg (fun A : S128x1024.Idx → EReal => shapeCast S128x1x1024 A shapeCasts_S128x1024_S128x1x1024)
    (Pipeline.withArrays_arr spec0 launch0.win.arr_inj c (V0 m c) (fun w => (dats m 0 c).arrAt w cfg0.N) 8)

theorem cast_apply (A : S128x1024.Idx → EReal) (i : Fin 128) (k : Fin 1024) :
    shapeCast S128x1x1024 A shapeCasts_S128x1024_S128x1x1024 (ix3 i 0 k) = A (ix2 i k) := by
  pointwise

/-- The result at a row and a lane. -/
theorem value (i : Fin 128) (k : Fin 1024) : result m c (ix3 i 0 k)
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) i k := by
  rw [reshaped, cast_apply, array_eq]
  rfl

/-- A run leaves the result and the arguments. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).2 main_v16 (Pipeline.mem_restRefs_of main_v16 (by decide) (by decide)), h.2 c⟩)
    (θ_run_and (run_main m ρ) (unchanged m ρ))

end Cert.LastKernelIdeal.Attn

end
-- ==== Proof.Step.Row.lean ====
module

public import Idealize.ShloMosaic.Lib.Pointwise

@[expose] public section

noncomputable section

/-! # One step of the recurrence, for one sample and one head

A head's state is a matrix of 64 values by 64 keys. A row of it belongs to one value. -/

namespace Cert.Recurrence

open Idealize.ShloMosaic

/-- A row of the new state: the old one decayed, plus what it holds along `p` put back along `b`, plus the value at the keys. -/
def row (s p d b k : Fin 64 → EReal) (v : EReal) (j : Fin 64) : EReal :=
  s j * d j + (∑ i, s i * p i) * b j + v * k j

theorem row_congr {s s' p p' d d' b b' k k' : Fin 64 → EReal} {v v' : EReal} (hs : ∀ j, s j = s' j) (hp : ∀ j, p j = p' j)
    (hd : ∀ j, d j = d' j) (hb : ∀ j, b j = b' j) (hk : ∀ j, k j = k' j) (hv : v = v') (j : Fin 64) :
    row s p d b k v j = row s' p' d' b' k' v' j := by
  rw [funext hs, funext hp, funext hd, funext hb, funext hk, hv]

/-- Where a head's number stands among the 512. -/
abbrev lane (h : Fin 8) (j : Fin 64) : Fin 512 := ⟨h.val * 64 + j.val, by omega⟩

theorem eq_lane (l : Fin 512) : l = lane ⟨l.val / 64, by omega⟩ ⟨l.val % 64, by omega⟩ :=
  Fin.ext (by show l.val = l.val / 64 * 64 + l.val % 64; omega)

/-- The new state at a sample, a head, a value and a key. -/
def state (S : (⟨5, ![1, 128, 8, 64, 64]⟩ : Shape).Idx → EReal) (w k v kk a : (⟨3, ![128, 1, 512]⟩ : Shape).Idx → EReal)
    (n : Fin 128) (h : Fin 8) (i j : Fin 64) : EReal :=
  row (fun j => S (ix5 0 n h i j)) (fun j => -(kk (ix3 n 0 (lane h j)))) (fun j => Ideal.exp (-(Ideal.exp (w (ix3 n 0 (lane h j))))))
    (fun j => kk (ix3 n 0 (lane h j)) * a (ix3 n 0 (lane h j))) (fun j => k (ix3 n 0 (lane h j))) (v (ix3 n 0 (lane h i))) j

/-- What is read from the new state. -/
def out (S : (⟨5, ![1, 128, 8, 64, 64]⟩ : Shape).Idx → EReal) (r w k v kk a : (⟨3, ![128, 1, 512]⟩ : Shape).Idx → EReal)
    (n : Fin 128) (h : Fin 8) (i : Fin 64) : EReal :=
  ∑ j, state S w k v kk a n h i j * r (ix3 n 0 (lane h j))

end Cert.Recurrence

end
-- ==== Proof.Step.Ref.lean ====
module

public import proofs.«01_k».proof.Proof.Gen.StepReferenceIdeal.Run
public import proofs.«01_k».proof.Proof.Step.Row

@[expose] public section

set_option maxRecDepth 16384

noncomputable section

/-! # The step: what the reference computes -/

namespace Cert.StepReferenceIdeal.Attn

open Cert.StepReferenceIdeal Cert.StepReferenceIdeal.Gen Cert.StepReferenceIdeal.Value Idealize.ShloMosaic Idealize.ShloMosaic.TcCoe Idealize.SL.Sem

/-- The one token's numbers, split into heads. -/
def heads (z : FVec Ideal S128x1x512 .f32) : FVec Ideal S128x8x64 .f32 :=
  shapeCast _ (shapeCast _ z shapeCasts_S128x1x512_S128x1x8x64) shapeCasts_S128x1x8x64_S128x8x64

/-- A head's numbers along the keys of its state, the same for each value. -/
def keys (z : FVec Ideal S128x8x64 .f32) : FVec Ideal S128x8x64x64 .f32 :=
  broadcastInDim S128x8x64x64 ![0, 1, 2, 3] bcast_S128x8x1x64_S128x8x64x64_0_1_2_3 (broadcastInDim S128x8x1x64 ![0, 1, 3] bcast_S128x8x64_S128x8x1x64_0_1_3 z)

/-- A head's numbers along the values of its state, the same for each key. -/
def values (z : FVec Ideal S128x8x64 .f32) : FVec Ideal S128x8x64x64 .f32 :=
  broadcastInDim S128x8x64x64 ![0, 1, 2, 3] bcast_S128x8x64x1_S128x8x64x64_0_1_2_3 (broadcastInDim S128x8x64x1 ![0, 1, 2] bcast_S128x8x64_S128x8x64x1_0_1_2 z)

/-- What a state holds along some keys. -/
def along (S : FVec Ideal S128x8x64x64 .f32) (z : FVec Ideal S128x8x64 .f32) : FVec Ideal S128x8x64 .f32 :=
  Host.dotGeneral dot_S128x8x64x64_S128x8x64_S128x8x64_3_2_2_n_01_01 none S z

/-- The only layer's state. -/
def only (S : FVec Ideal S1x128x8x64x64 .f32) : FVec Ideal S128x8x64x64 .f32 :=
  shapeCast _ S shapeCasts_S1x128x8x64x64_S128x8x64x64

/-- The new state from the old one and the heads' numbers. -/
def next (S : FVec Ideal S128x8x64x64 .f32) (w k v kk a : FVec Ideal S128x8x64 .f32) : FVec Ideal S128x8x64x64 .f32 :=
  addf (addf (mulf S (keys w)) (mulf (values (along S (Host.negf kk))) (keys (mulf kk a)))) (mulf (values v) (keys k))

/-- The new state from the arguments. -/
def newState (S : FVec Ideal S1x128x8x64x64 .f32) (w k v kk a : FVec Ideal S128x1x512 .f32) : FVec Ideal S128x8x64x64 .f32 :=
  next (only S) (heads (Host.exp (Host.negf (Host.exp w)))) (heads k) (heads v) (heads kk) (heads a)

/-- The two results. -/
def out (S : FVec Ideal S1x128x8x64x64 .f32) (r w k v kk a : FVec Ideal S128x1x512 .f32) : FVec Ideal S128x1x512 .f32 :=
  shapeCast _ (along (newState S w k v kk a) (heads r)) shapeCasts_S128x8x64_S128x1x512
def state (S : FVec Ideal S1x128x8x64x64 .f32) (w k v kk a : FVec Ideal S128x1x512 .f32) : FVec Ideal S1x128x8x64x64 .f32 :=
  broadcastInDim S1x128x8x64x64 ![1, 2, 3, 4] bcast_S128x8x64x64_S1x128x8x64x64_1_2_3_4 (newState S w k v kk a)

/-- The run with the results so named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v36) = state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run (F := Ideal) m ρ

section
variable (n : Fin 128) (h : Fin 8) (i j : Fin 64)

theorem heads_apply (z : FVec Ideal S128x1x512 .f32) : heads z (ix3 n h j) = z (ix3 n 0 (Recurrence.lane h j)) := by
  unfold heads
  pointwise

theorem keys_apply (z : FVec Ideal S128x8x64 .f32) : keys z (ix4 n h i j) = z (ix3 n h j) := by
  unfold keys
  pointwise

theorem values_apply (z : FVec Ideal S128x8x64 .f32) : values z (ix4 n h i j) = z (ix3 n h i) := by
  unfold values
  pointwise

theorem along_apply (S : FVec Ideal S128x8x64x64 .f32) (z : FVec Ideal S128x8x64 .f32) :
    along S z (ix3 n h i) = ∑ j, S (ix4 n h i j) * z (ix3 n h j) := by
  unfold along
  pointwise

theorem only_apply (S : FVec Ideal S1x128x8x64x64 .f32) : only S (ix4 n h i j) = S (ix5 0 n h i j) := by
  unfold only
  pointwise

theorem next_apply (S : FVec Ideal S128x8x64x64 .f32) (w k v kk a : FVec Ideal S128x8x64 .f32) : next S w k v kk a (ix4 n h i j)
    = Recurrence.row (fun j => S (ix4 n h i j)) (fun j => -(kk (ix3 n h j))) (fun j => w (ix3 n h j))
        (fun j => kk (ix3 n h j) * a (ix3 n h j)) (fun j => k (ix3 n h j)) (v (ix3 n h i)) j := by
  unfold next
  pointwise
  rw [keys_apply, keys_apply, keys_apply, values_apply, values_apply, along_apply]
  pointwise
  rfl

theorem newState_apply (S : FVec Ideal S1x128x8x64x64 .f32) (w k v kk a : FVec Ideal S128x1x512 .f32) :
    newState S w k v kk a (ix4 n h i j) = Recurrence.state S w k v kk a n h i j := by
  unfold newState
  rw [next_apply]
  refine Recurrence.row_congr (fun j => only_apply n h i j S) (fun j => congrArg (fun x : EReal => -x) (heads_apply n h j kk)) (fun j => ?_)
    (fun j => ?_) (fun j => heads_apply n h j k) (heads_apply n h i v) j
  · rw [heads_apply]
    pointwise
  · rw [heads_apply, heads_apply]

/-- One number of what is read. -/
theorem out_apply (S : FVec Ideal S1x128x8x64x64 .f32) (r w k v kk a : FVec Ideal S128x1x512 .f32) :
    out S r w k v kk a (ix3 n 0 (Recurrence.lane h i)) = Recurrence.out S r w k v kk a n h i := by
  have e : ∀ A : FVec Ideal S128x8x64 .f32, shapeCast S128x1x512 A shapeCasts_S128x8x64_S128x1x512 (ix3 n 0 (Recurrence.lane h i)) = A (ix3 n h i) := by
    intro A
    pointwise
    exact congrArg₂ (fun (h : Fin 8) (i : Fin 64) => A (ix3 n h i)) (Fin.ext (by show (h.val * 64 + i.val) / 64 = h.val; omega))
      (Fin.ext (by show (h.val * 64 + i.val) % 64 = i.val; omega))
  unfold out
  rw [e, along_apply]
  simp only [newState_apply, heads_apply]
  rfl

/-- One number of the new state. -/
theorem state_apply (S : FVec Ideal S1x128x8x64x64 .f32) (w k v kk a : FVec Ideal S128x1x512 .f32) :
    state S w k v kk a (ix5 0 n h i j) = Recurrence.state S w k v kk a n h i j := by
  rw [← newState_apply]
  unfold state
  generalize newState S w k v kk a = A
  pointwise
end

end Cert.StepReferenceIdeal.Attn

end
-- ==== Proof.Step.Block.lean ====
module

public import proofs.«01_k».proof.Proof.Gen.StepKernelIdeal.Frame
public import proofs.«01_k».proof.Proof.Step.Row
public import Idealize.ShloMosaic.Lib.Pipeline.ValueKit

@[expose] public section

set_option maxRecDepth 16384

noncomputable section

/-! # The step: what one head's block becomes -/

namespace Cert.StepKernelIdeal.Attn

open Cert.StepKernelIdeal Cert.StepKernelIdeal.Gen Idealize.ShloMosaic

variable (s : Vec Ideal S1x64x64x128 .f32) (r lw k p b : Vec Ideal S1x1x64x128 .f32) (v : Vec Ideal S1x64x1x128 .f32)

theorem state_apply (i j : Fin 64) (n : Fin 128) : k0_pay2 (F := Ideal) s p lw b v k (ix3 i j n)
    = Recurrence.row (fun j => s (ix4 0 i j n)) (fun j => p (ix4 0 0 j n)) (fun j => Ideal.exp (lw (ix4 0 0 j n)))
        (fun j => b (ix4 0 0 j n)) (fun j => k (ix4 0 0 j n)) (v (ix4 0 i 0 n)) j := by
  unfold k0_pay2
  pointwise
  rfl

theorem stored_apply (i j : Fin 64) (n : Fin 128) : k0_pay3 (F := Ideal) s p lw b v k (ix4 0 i j n)
    = Recurrence.row (fun j => s (ix4 0 i j n)) (fun j => p (ix4 0 0 j n)) (fun j => Ideal.exp (lw (ix4 0 0 j n)))
        (fun j => b (ix4 0 0 j n)) (fun j => k (ix4 0 0 j n)) (v (ix4 0 i 0 n)) j := by
  rw [← state_apply]
  unfold k0_pay3
  generalize k0_pay2 s p lw b v k = A
  pointwise

theorem read_apply (A : FVec Ideal S64x64x128 .f32) (i : Fin 64) (n : Fin 128) : k0_pay1 (F := Ideal) A r (ix4 0 i 0 n)
    = ∑ j, A (ix3 i j n) * r (ix4 0 0 j n) := by
  unfold k0_pay1
  pointwise

end Cert.StepKernelIdeal.Attn

end
-- ==== Proof.Step.Array.lean ====
module

public import proofs.«01_k».proof.Proof.Step.Block

@[expose] public section

set_option maxRecDepth 16384

noncomputable section

/-! # The step: the arrays of results

Point `t` of the grid works on head `t` of all samples. -/

namespace Cert.StepKernelIdeal.Attn

open Cert.StepKernelIdeal Cert.StepKernelIdeal.Gen Idealize.ShloMosaic Idealize.ShloMosaic.TcCoe Idealize.SL.Sem

theorem index0 : ∀ t : Fin cfg0.N, (cfg0.win 0).index t = ![t.val, 0, 0, 0] :=
  (by decide +kernel : ∀ t : Fin grid0.N, win0_0.index t = ![t.val, 0, 0, 0])
theorem index1 : ∀ t : Fin cfg0.N, (cfg0.win 1).index t = ![t.val, 0, 0, 0] :=
  (by decide +kernel : ∀ t : Fin grid0.N, win0_1.index t = ![t.val, 0, 0, 0])
theorem index2 : ∀ t : Fin cfg0.N, (cfg0.win 2).index t = ![t.val, 0, 0, 0] :=
  (by decide +kernel : ∀ t : Fin grid0.N, win0_2.index t = ![t.val, 0, 0, 0])
theorem index3 : ∀ t : Fin cfg0.N, (cfg0.win 3).index t = ![t.val, 0, 0, 0] :=
  (by decide +kernel : ∀ t : Fin grid0.N, win0_3.index t = ![t.val, 0, 0, 0])
theorem index4 : ∀ t : Fin cfg0.N, (cfg0.win 4).index t = ![t.val, 0, 0, 0] :=
  (by decide +kernel : ∀ t : Fin grid0.N, win0_4.index t = ![t.val, 0, 0, 0])
theorem index5 : ∀ t : Fin cfg0.N, (cfg0.win 5).index t = ![t.val, 0, 0, 0] :=
  (by decide +kernel : ∀ t : Fin grid0.N, win0_5.index t = ![t.val, 0, 0, 0])
theorem index6 : ∀ t : Fin cfg0.N, (cfg0.win 6).index t = ![t.val, 0, 0, 0] :=
  (by decide +kernel : ∀ t : Fin grid0.N, win0_6.index t = ![t.val, 0, 0, 0])
theorem index7 : ∀ t : Fin cfg0.N, (cfg0.win 7).index t = ![t.val, 0, 0, 0] :=
  (by decide +kernel : ∀ t : Fin grid0.N, win0_7.index t = ![t.val, 0, 0, 0])
theorem index8 : ∀ t : Fin cfg0.N, (cfg0.win 8).index t = ![t.val, 0, 0, 0] :=
  (by decide +kernel : ∀ t : Fin grid0.N, win0_8.index t = ![t.val, 0, 0, 0])

variable (m : (ℓ : Loc nD τ sig) → Buf (Elt Ideal) ℓ) (c : Dev nD)

theorem t_lt (t : Fin cfg0.N) : t.val < 8 := t.isLt

section
variable (t : Fin cfg0.N) (i j : Fin 64) (n : Fin 128)

theorem iblk0 : iblk m c 0 t (ix4 0 i j n) = V m c main_v12 (ix4 ⟨t.val, t_lt t⟩ i j n) := by
  blk_ext [iblk, index0 t]
theorem iblk1 : iblk m c 1 t (ix4 0 0 j n) = V m c main_v14 (ix4 ⟨t.val, t_lt t⟩ 0 j n) := by
  blk_ext [iblk, index1 t]
theorem iblk2 : iblk m c 2 t (ix4 0 0 j n) = V m c main_v16 (ix4 ⟨t.val, t_lt t⟩ 0 j n) := by
  blk_ext [iblk, index2 t]
theorem iblk3 : iblk m c 3 t (ix4 0 0 j n) = V m c main_v18 (ix4 ⟨t.val, t_lt t⟩ 0 j n) := by
  blk_ext [iblk, index3 t]
theorem iblk4 : iblk m c 4 t (ix4 0 0 j n) = V m c main_v20 (ix4 ⟨t.val, t_lt t⟩ 0 j n) := by
  blk_ext [iblk, index4 t]
theorem iblk5 : iblk m c 5 t (ix4 0 0 j n) = V m c main_v22 (ix4 ⟨t.val, t_lt t⟩ 0 j n) := by
  blk_ext [iblk, index5 t]
theorem iblk6 : iblk m c 6 t (ix4 0 i 0 n) = V m c main_v24 (ix4 ⟨t.val, t_lt t⟩ i 0 n) := by
  blk_ext [iblk, index6 t]

/-- Where a number of a block stands in its array. -/
theorem place7 : (((cfg0.win 7).blk t).view.emb (ix4 0 i j n) : S8x64x64x128.Idx) = ix4 ⟨t.val, t_lt t⟩ i j n := by
  blk_ext [index7 t]
theorem place8 : (((cfg0.win 8).blk t).view.emb (ix4 0 i 0 n) : S8x64x1x128.Idx) = ix4 ⟨t.val, t_lt t⟩ i 0 n := by
  blk_ext [index8 t]
end

/-! The arrays that the blocks are parts of. -/

section
variable (h : Fin 8) (i j : Fin 64) (n : Fin 128)

theorem V_state : V m c main_v12 (ix4 h i j n) = (m ((c.tc : Thread nD τ).loc main_arg0) : S1x128x8x64x64.Idx → EReal) (ix5 0 n h i j) := by
  unfold V V0
  simp only [hostOps0, List.flatten_cons, List.flatten_nil, List.append_nil, List.cons_append, List.nil_append]
  after_results_simp
  pointwise
theorem V_r : V m c main_v14 (ix4 h 0 j n) = (m ((c.tc : Thread nD τ).loc main_arg1) : S128x1x512.Idx → EReal) (ix3 n 0 (Recurrence.lane h j)) := by
  unfold V V0
  simp only [hostOps0, List.flatten_cons, List.flatten_nil, List.append_nil, List.cons_append, List.nil_append]
  after_results_simp
  pointwise
theorem V_lw : V m c main_v16 (ix4 h 0 j n) = @Neg.neg EReal _ (Ideal.exp ((m ((c.tc : Thread nD τ).loc main_arg2) : S128x1x512.Idx → EReal) (ix3 n 0 (Recurrence.lane h j)))) := by
  unfold V V0
  simp only [hostOps0, List.flatten_cons, List.flatten_nil, List.append_nil, List.cons_append, List.nil_append]
  after_results_simp
  pointwise
theorem V_k : V m c main_v18 (ix4 h 0 j n) = (m ((c.tc : Thread nD τ).loc main_arg3) : S128x1x512.Idx → EReal) (ix3 n 0 (Recurrence.lane h j)) := by
  unfold V V0
  simp only [hostOps0, List.flatten_cons, List.flatten_nil, List.append_nil, List.cons_append, List.nil_append]
  after_results_simp
  pointwise
theorem V_p : V m c main_v20 (ix4 h 0 j n) = @Neg.neg EReal _ ((m ((c.tc : Thread nD τ).loc main_arg5) : S128x1x512.Idx → EReal) (ix3 n 0 (Recurrence.lane h j))) := by
  unfold V V0
  simp only [hostOps0, List.flatten_cons, List.flatten_nil, List.append_nil, List.cons_append, List.nil_append]
  after_results_simp
  pointwise
theorem V_b : V m c main_v22 (ix4 h 0 j n) = @HMul.hMul EReal EReal EReal _ ((m ((c.tc : Thread nD τ).loc main_arg5) : S128x1x512.Idx → EReal) (ix3 n 0 (Recurrence.lane h j))) ((m ((c.tc : Thread nD τ).loc main_arg6) : S128x1x512.Idx → EReal) (ix3 n 0 (Recurrence.lane h j))) := by
  unfold V V0
  simp only [hostOps0, List.flatten_cons, List.flatten_nil, List.append_nil, List.cons_append, List.nil_append]
  after_results_simp
  pointwise
theorem V_v : V m c main_v24 (ix4 h j 0 n) = (m ((c.tc : Thread nD τ).loc main_arg4) : S128x1x512.Idx → EReal) (ix3 n 0 (Recurrence.lane h j)) := by
  unfold V V0
  simp only [hostOps0, List.flatten_cons, List.flatten_nil, List.append_nil, List.cons_append, List.nil_append]
  after_results_simp
  pointwise
end

/-- A row of a head's new state. -/
theorem row_eq (t : Fin cfg0.N) (i j : Fin 64) (n : Fin 128) :
    Recurrence.row (fun j => iblk m c 0 t (ix4 0 i j n)) (fun j => iblk m c 4 t (ix4 0 0 j n)) (fun j => Ideal.exp (iblk m c 2 t (ix4 0 0 j n)))
        (fun j => iblk m c 5 t (ix4 0 0 j n)) (fun j => iblk m c 3 t (ix4 0 0 j n)) (iblk m c 6 t (ix4 0 i 0 n)) j
      = Recurrence.state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨t.val, t_lt t⟩ i j :=
  Recurrence.row_congr (fun j => (iblk0 m c t i j n).trans (V_state m c _ i j n)) (fun j => (iblk4 m c t j n).trans (V_p m c _ j n))
    (fun j => congrArg Ideal.exp ((iblk2 m c t j n).trans (V_lw m c _ j n))) (fun j => (iblk5 m c t j n).trans (V_b m c _ j n))
    (fun j => (iblk3 m c t j n).trans (V_k m c _ j n)) ((iblk6 m c t i n).trans (V_v m c _ i n)) j

theorem at_index (G : Fin 8 → Fin 64 → Fin 64 → Fin 128 → EReal) (ι : S8x64x64x128.Idx) (h : Fin 8) (i j : Fin 64) (n : Fin 128)
    (e : ι = ix4 h i j n) : G h i j n = G (ι 0) (ι 1) (ι 2) (ι 3) := by
  subst e
  rfl

theorem at_index' (G : Fin 8 → Fin 64 → Fin 128 → EReal) (ι : S8x64x1x128.Idx) (h : Fin 8) (i : Fin 64) (n : Fin 128)
    (e : ι = ix4 h i 0 n) : G h i n = G (ι 0) (ι 1) (ι 3) := by
  subst e
  rfl

/-- The kernel's array of states. -/
theorem states_eq : ((dats m 0 c).arrAt 7 cfg0.N : S8x64x64x128.Idx → EReal)
    = fun ι => Recurrence.state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ι 3) (ι 0) (ι 1) (ι 2) := by
  refine (dats m 0 c).arrAt_eq_of_covers 7 _ (by decide +kernel) fun t hf y => ?_
  blk_simp
  rw [after0_7]
  frame_out
  obtain ⟨i, j, n, rfl⟩ : ∃ (i j : Fin 64) (n : Fin 128), y = ix4 0 i j n := by
    refine ⟨y 1, y 2, y 3, (eq_ix4 y).trans ?_⟩
    rw [Fin.fin_one_eq_zero (y 0)]
  rw [stored_apply]
  exact (row_eq m c t i j n).trans (at_index (fun h i j n => Recurrence.state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n h i j) _ _ _ _ _ (place7 t i j n))

/-- What is read from a head's new state. -/
theorem out_row (t : Fin cfg0.N) (i : Fin 64) (n : Fin 128) :
    k0_pay1 (F := Ideal) (k0_pay2 (iblk m c 0 t) (iblk m c 4 t) (iblk m c 2 t) (iblk m c 5 t) (iblk m c 6 t) (iblk m c 3 t)) (iblk m c 1 t) (ix4 0 i 0 n)
      = Recurrence.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨t.val, t_lt t⟩ i :=
  (read_apply _ _ i n).trans (Finset.sum_congr rfl fun j _ => congrArg₂ (fun x y : EReal => x * y)
    ((state_apply _ _ _ _ _ _ i j n).trans (row_eq m c t i j n)) ((iblk1 m c t j n).trans (V_r m c _ j n)))

/-- The kernel's array of what is read. -/
theorem outs_eq : ((dats m 0 c).arrAt 8 cfg0.N : S8x64x1x128.Idx → EReal)
    = fun ι => Recurrence.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ι 3) (ι 0) (ι 1) := by
  refine (dats m 0 c).arrAt_eq_of_covers 8 _ (by decide +kernel) fun t hf y => ?_
  blk_simp
  rw [after0_8]
  frame_out
  obtain ⟨i, n, rfl⟩ : ∃ (i : Fin 64) (n : Fin 128), y = ix4 0 i 0 n := by
    refine ⟨y 1, y 3, (eq_ix4 y).trans ?_⟩
    rw [Fin.fin_one_eq_zero (y 0), Fin.fin_one_eq_zero (y 2)]
  exact (out_row m c t i n).trans (at_index' (fun h i n => Recurrence.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n h i) _ _ _ _ (place8 t i n))

end Cert.StepKernelIdeal.Attn

end
-- ==== Proof.Step.Result.lean ====
module

public import proofs.«01_k».proof.Proof.Step.Array
public import Idealize.ShloMosaic.Lib.Pointwise

@[expose] public section

set_option maxRecDepth 16384

noncomputable section

/-! # The step: what a run of the kernel leaves -/

namespace Cert.StepKernelIdeal.Attn

open Cert.StepKernelIdeal Cert.StepKernelIdeal.Gen Idealize.ShloMosaic Idealize.ShloMosaic.TcCoe Idealize.SL.Sem

variable (m : (ℓ : Loc nD τ sig) → Buf (Elt Ideal) ℓ) (ρ : Dev nD → PrngReg) (c : Dev nD)

/-- The samples first, from the heads first. -/
def outOf (A : S8x64x1x128.Idx → EReal) : S128x1x512.Idx → EReal :=
  shapeCast S128x1x512 (transpose S128x512 [1, 0] (shapeCast S512x128 A shapeCasts_S8x64x1x128_S512x128) transposes_S512x128_S128x512_1_0) shapeCasts_S128x512_S128x1x512
def stateOf (A : S8x64x64x128.Idx → EReal) : S1x128x8x64x64.Idx → EReal :=
  broadcastInDim S1x128x8x64x64 ![1, 2, 3, 4] bcast_S128x8x64x64_S1x128x8x64x64_1_2_3_4 (transpose S128x8x64x64 [3, 0, 1, 2] A transposes_S8x64x64x128_S128x8x64x64_3_0_1_2)

theorem outOf_apply (A : S8x64x1x128.Idx → EReal) (n : Fin 128) (h : Fin 8) (i : Fin 64) :
    outOf A (ix3 n 0 (Recurrence.lane h i)) = A (ix4 h i 0 n) := by
  unfold outOf
  pointwise

theorem stateOf_apply (A : S8x64x64x128.Idx → EReal) (n : Fin 128) (h : Fin 8) (i j : Fin 64) :
    stateOf A (ix5 0 n h i j) = A (ix4 h i j n) := by
  unfold stateOf
  pointwise

/-- What the host leaves in the two results. -/
def out : S128x1x512.Idx → EReal := Pipeline.afterTail₀ cfgs (dats m) 0 (V0 m) [hostOps1] c main_v29
def state : S1x128x8x64x64.Idx → EReal := Pipeline.afterTail₀ cfgs (dats m) 0 (V0 m) [hostOps1] c main_v30

theorem out_of : out m c = outOf ((dats m 0 c).arrAt 8 cfg0.N : S8x64x1x128.Idx → EReal) := by
  unfold out Pipeline.afterTail₀
  simp only [hostOps1, List.flatten_cons, List.flatten_nil, List.append_nil, List.cons_append, List.nil_append]
  after_results_simp
  exact congrArg outOf (Pipeline.withArrays_arr spec0 launch0.win.arr_inj c (V0 m c) (fun w => (dats m 0 c).arrAt w cfg0.N) 8)

theorem state_of : state m c = stateOf ((dats m 0 c).arrAt 7 cfg0.N : S8x64x64x128.Idx → EReal) := by
  unfold state Pipeline.afterTail₀
  simp only [hostOps1, List.flatten_cons, List.flatten_nil, List.append_nil, List.cons_append, List.nil_append]
  after_results_simp
  exact congrArg stateOf (Pipeline.withArrays_arr spec0 launch0.win.arr_inj c (V0 m c) (fun w => (dats m 0 c).arrAt w cfg0.N) 7)

theorem out_value (n : Fin 128) (h : Fin 8) (i : Fin 64) : out m c (ix3 n 0 (Recurrence.lane h i))
    = Recurrence.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n h i := by
  rw [out_of, outOf_apply, outs_eq]
  rfl

theorem state_value (n : Fin 128) (h : Fin 8) (i j : Fin 64) : state m c (ix5 0 n h i j)
    = Recurrence.state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n h i j := by
  rw [state_of, stateOf_apply, states_eq]
  rfl

/-- A run leaves the results and the arguments. -/
theorem run : θ_run defs (onTc (τ := τ) (main (F := Ideal))) ⟨m, fun _ => 0, ρ⟩ (fun r => ∀ c : Dev nD,
      r.2.mem ((c.tc : Thread nD τ).loc main_v29) = out m c
      ∧ r.2.mem ((c.tc : Thread nD τ).loc main_v30) = state m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).2 main_v29 (Pipeline.mem_restRefs_of main_v29 (by decide) (by decide)),
      (h.1 c).2 main_v30 (Pipeline.mem_restRefs_of main_v30 (by decide) (by decide)), h.2 c⟩)
    (θ_run_and (run_main m ρ) (unchanged m ρ))

end Cert.StepKernelIdeal.Attn

end
-- ==== Proof.Sample.lean ====
module

public import proofs.«01_k».proof.Proof.Last.Ref
public import proofs.«01_k».proof.Proof.Last.Result
public import proofs.«01_k».proof.Proof.Step.Ref
public import proofs.«01_k».proof.Proof.Step.Result

@[expose] public section

set_option maxRecDepth 16384

noncomputable section

/-! # The sample's last part and the step: the kernels' results are the references' -/

namespace Cert.Equation

open Idealize.ShloMosaic Idealize.ShloMosaic.TcCoe

section
variable (m : (ℓ : Loc Cert.LastKernelIdeal.nD Cert.LastKernelIdeal.τ Cert.LastKernelIdeal.sig) → Buf (Elt Ideal) ℓ) (c : Dev Cert.LastKernelIdeal.nD)

open Cert.LastKernelIdeal

theorem sample_last_eq : Attn.result m c = Cert.LastReferenceIdeal.Attn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext y
  obtain ⟨i, k, rfl⟩ : ∃ (i : Fin 128) (k : Fin 1024), y = ix3 i 0 k := by
    refine ⟨y 0, y 2, (eq_ix3 y).trans ?_⟩
    rw [Fin.fin_one_eq_zero (y 1)]
  rw [Cert.LastReferenceIdeal.Attn.result_apply, Attn.value]
  rfl
end

section
variable (m : (ℓ : Loc Cert.StepKernelIdeal.nD Cert.StepKernelIdeal.τ Cert.StepKernelIdeal.sig) → Buf (Elt Ideal) ℓ) (c : Dev Cert.StepKernelIdeal.nD)

open Cert.StepKernelIdeal

theorem step_out_eq : Attn.out m c = Cert.StepReferenceIdeal.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext y
  obtain ⟨n, h, i, rfl⟩ : ∃ (n : Fin 128) (h : Fin 8) (i : Fin 64), y = ix3 n 0 (Recurrence.lane h i) := by
    refine ⟨y 0, ⟨(y 2).val / 64, by have : (y 2).val < 512 := (y 2).isLt; omega⟩, ⟨(y 2).val % 64, by omega⟩, (eq_ix3 y).trans ?_⟩
    rw [Fin.fin_one_eq_zero (y 1)]
    exact congrArg (ix3 (y 0) 0) (Recurrence.eq_lane (y 2))
  rw [Cert.StepReferenceIdeal.Attn.out_apply, Attn.out_value]

theorem step_state_eq : Attn.state m c = Cert.StepReferenceIdeal.Attn.state (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext y
  obtain ⟨n, h, i, j, rfl⟩ : ∃ (n : Fin 128) (h : Fin 8) (i j : Fin 64), y = ix5 0 n h i j := by
    refine ⟨y 1, y 2, y 3, y 4, (eq_ix5 y).trans ?_⟩
    rw [Fin.fin_one_eq_zero (y 0)]
  rw [Cert.StepReferenceIdeal.Attn.state_apply, Attn.state_value]
end

end Cert.Equation

end
-- ==== Proof.Proj.Row.lean ====
module

public import proofs.«01_k».proof.Proof.Layer

@[expose] public section

noncomputable section

/-! # The first part, for the sample: one row -/

namespace Cert.Layer

open Idealize.ShloMosaic

/-- A row of 256 numbers divided by the root of its mean square (plus a small number), times a gain. -/
def latentNorm (f g : Fin 256 → EReal) (k : Fin 256) : EReal :=
  f k * Ideal.rsqrt (Ideal.div (∑ j, f j * f j) (Ideal.ofBits FTy.f32 0x43800000#32) + Ideal.ofBits FTy.f32 0x358637BD#32) * g k

/-- The latent of a row: the normalised row times a part of the layer's matrix, normalised again. -/
def latent (x g : Fin 1024 → EReal) (w : Fin 1024 → Fin 256 → EReal) (g' : Fin 256 → EReal) (k : Fin 256) : EReal :=
  latentNorm (mat (norm x g) w) g' k

/-- What the next position mixes in of a row: the normalised row times a part of the layer's matrix. -/
def shift (x g : Fin 1024 → EReal) (w : Fin 1024 → Fin 1824 → EReal) (k : Fin 1824) : EReal :=
  mat (norm x g) w k

theorem latent_congr {x x' g g' : Fin 1024 → EReal} {w w' : Fin 1024 → Fin 256 → EReal} {h h' : Fin 256 → EReal}
    (hx : ∀ j, x j = x' j) (hg : ∀ j, g j = g' j) (hw : ∀ j l, w j l = w' j l) (hh : ∀ j, h j = h' j) (k : Fin 256) :
    latent x g w h k = latent x' g' w' h' k := by
  rw [funext hx, funext hg, funext fun j => funext (hw j), funext hh]

theorem shift_congr {x x' g g' : Fin 1024 → EReal} {w w' : Fin 1024 → Fin 1824 → EReal}
    (hx : ∀ j, x j = x' j) (hg : ∀ j, g j = g' j) (hw : ∀ j l, w j l = w' j l) (k : Fin 1824) : shift x g w k = shift x' g' w' k := by
  rw [funext hx, funext hg, funext fun j => funext (hw j)]

end Cert.Layer

end
-- ==== Proof.Proj.Ref.lean ====
module

public import proofs.«01_k».proof.Proof.Gen.ProjReferenceIdeal.Run
public import proofs.«01_k».proof.Proof.Proj.Row
public import Idealize.ShloMosaic.Lib.Pointwise

@[expose] public section

set_option maxRecDepth 16384

noncomputable section

/-! # The first part, for the sample: what the reference computes, operation by operation -/

namespace Cert.ProjReferenceIdeal.Attn

open Cert.ProjReferenceIdeal Cert.ProjReferenceIdeal.Gen Cert.ProjReferenceIdeal.Value Idealize.ShloMosaic Idealize.ShloMosaic.TcCoe Idealize.SL.Sem

/-- The rows divided by the roots of their mean squares, times a gain. -/
def normed (x : FVec Ideal S128x1x1024 .f32) (g : FVec Ideal S1x1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024)))

/-- The product with the layer's matrix. -/
def product (h : FVec Ideal S128x1x1024 .f32) (w : FVec Ideal S1x1024x4544 .f32) : FVec Ideal S128x1x4544 .f32 :=
  Host.dotGeneral dot_S128x1x1024_S1024x4544_S128x1x4544_2_0_01_1_n_n none h (shapeCast _ w shapeCasts_S1x1024x4544_S1024x4544)

/-- The rows of 256 numbers divided by the roots of their mean squares, times a gain. -/
def latentNormed (x : FVec Ideal S128x1x256 .f32) (g : FVec Ideal S1x256 .f32) : FVec Ideal S128x1x256 .f32 :=
  mulf (mulf x (broadcastInDim S128x1x256 ![0, 1, 2] bcast_S128x1x1_S128x1x256_0_1_2 (Host.rsqrt (addf (Host.divf (broadcastInDim S128x1x1 ![0, 1] bcast_S128x1_S128x1x1_0_1 (Host.reduceAdd (mulf x x) (constant S_ .f32 0x00000000#32) reducesTo_S128x1x256_S128x1_d2 h_S_)) (broadcastInDim S128x1x1 ![] bcast_S_S128x1x1 (constant S_ .f32 0x43800000#32))) (broadcastInDim S128x1x1 ![] bcast_S_S128x1x1 (constant S_ .f32 0x358637BD#32)))))) (broadcastInDim S128x1x256 ![0, 1, 2] bcast_S1x1x256_S128x1x256_0_1_2 (broadcastInDim S1x1x256 ![2] bcast_S256_S1x1x256_2 (shapeCast _ g shapeCasts_S1x256_S256)))

/-- The columns of the latent. -/
def columns (p : FVec Ideal S128x1x4544 .f32) : FVec Ideal S128x1x256 .f32 :=
  extractStridedSlice S128x1x256 ![0, 0, 384] p slices_S128x1x4544_S128x1x256_0_0_384

/-- The new latents of the cache. -/
def latents (x : FVec Ideal S128x1x1024 .f32) (g : FVec Ideal S1x1024 .f32) (w : FVec Ideal S1x1024x4544 .f32)
    (g' : FVec Ideal S1x256 .f32) : FVec Ideal S1x128x1x256 .f32 :=
  broadcastInDim S1x128x1x256 ![1, 2, 3] bcast_S128x1x256_S1x128x1x256_1_2_3 (latentNormed (columns (product (normed x g) w)) g')

/-- What the next position mixes in. -/
def shifts (x : FVec Ideal S128x1x1024 .f32) (g : FVec Ideal S1x1024 .f32) (w : FVec Ideal S1x1024x4544 .f32) : FVec Ideal S1x128x1824 .f32 :=
  broadcastInDim S1x128x1824 ![1, 2] bcast_S128x1824_S1x128x1824_1_2 (shapeCast _ (extractStridedSlice S128x1x1824 ![0, 0, 672] (product (normed x g) w) slices_S128x1x4544_S128x1x1824_0_0_672) shapeCasts_S128x1x1824_S128x1824)

/-- The run with the results so named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = latents (m ((c.tc : Thread nD τ).loc main_arg0)) (m ((c.tc : Thread nD τ).loc main_arg2)) (m ((c.tc : Thread nD τ).loc main_arg3)) (m ((c.tc : Thread nD τ).loc main_arg6))
      ∧ r.2.mem ((c.tc : Thread nD τ).loc main_v34) = shifts (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  Value.run (F := Ideal) m ρ

section
variable (i : Fin 128) (x : FVec Ideal S128x1x1024 .f32) (g : FVec Ideal S1x1024 .f32) (w : FVec Ideal S1x1024x4544 .f32)
  (g' : FVec Ideal S1x256 .f32)

theorem normed_apply (k : Fin 1024) : normed x g (ix3 i 0 k) = Layer.norm (fun j => x (ix3 i 0 j)) (fun j => g (ix2 0 j)) k := by
  unfold normed
  pointwise
  rfl

theorem product_apply (h : FVec Ideal S128x1x1024 .f32) (k : Fin 4544) :
    product h w (ix3 i 0 k) = Layer.mat (fun j => h (ix3 i 0 j)) (fun j l => w (ix3 0 j l)) k := by
  unfold product
  pointwise
  rfl

theorem latentNormed_apply (y : FVec Ideal S128x1x256 .f32) (k : Fin 256) :
    latentNormed y g' (ix3 i 0 k) = Layer.latentNorm (fun j => y (ix3 i 0 j)) (fun j => g' (ix2 0 j)) k := by
  unfold latentNormed
  pointwise
  rfl

theorem columns_apply (p : FVec Ideal S128x1x4544 .f32) (k : Fin 256) :
    columns p (ix3 i 0 k) = p (ix3 i 0 ⟨384 + k.val, by omega⟩) := by
  unfold columns
  pointwise

/-- One number of the new latents. -/
theorem latents_apply (k : Fin 256) :
    latents x g w g' (ix4 0 i 0 k)
      = Layer.latent (fun j => x (ix3 i 0 j)) (fun j => g (ix2 0 j)) (fun j l => w (ix3 0 j ⟨384 + l.val, by omega⟩)) (fun j => g' (ix2 0 j)) k := by
  unfold latents
  pointwise
  rw [latentNormed_apply]
  simp only [columns_apply, product_apply, normed_apply]
  rfl

/-- One number of what the next position mixes in. -/
theorem shifts_apply (k : Fin 1824) :
    shifts x g w (ix3 0 i k)
      = Layer.shift (fun j => x (ix3 i 0 j)) (fun j => g (ix2 0 j)) (fun j l => w (ix3 0 j ⟨672 + l.val, by omega⟩)) k := by
  unfold shifts
  pointwise
  rw [product_apply]
  simp only [normed_apply]
  rfl
end

end Cert.ProjReferenceIdeal.Attn

end
-- ==== Proof.Proj.Setup.lean ====
module

public import proofs.«01_k».proof.Proof.Gen.ProjKernelIdeal.Launch
public import proofs.«01_k».proof.Proof.Gen.ProjKernelIdeal.Skeleton
public import proofs.«01_k».proof.Proof.Gen.ProjKernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! # The first part, for the sample: the arrays that the pipeline finds, and what one block leaves

`left20` to `left31` are what the body leaves in the buffers of its results, from the blocks of its arguments. -/

namespace Cert.ProjKernelIdeal.Attn

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1920000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c))⟩) h

abbrev r0_0 : Rect S128x1024 := Rect.unit (s := S128x1024) ![0, 0] S128x1024.size inb_S128x1024_S128x1024_0_0
abbrev r0_1 : Rect S1x1024 := Rect.unit (s := S1x1024) ![0, 0] S1x1024.size inb_S1x1024_S1x1024_0_0
abbrev r0_2 : Rect S1024x896 := Rect.unit (s := S1024x896) ![0, 0] S1024x896.size inb_S1024x896_S1024x896_0_0
abbrev r0_3 : Rect S1x256 := Rect.unit (s := S1x256) ![0, 0] S1x256.size inb_S1x256_S1x256_0_0
abbrev r0_4 : Rect S128x128 := Rect.unit (s := S128x128) ![0, 0] S128x128.size inb_S128x128_S128x128_0_0
abbrev r0_5 : Rect S128x256 := Rect.unit (s := S128x256) ![0, 0] S128x256.size inb_S128x256_S128x256_0_0
abbrev r0_6 : Rect S128x32 := Rect.unit (s := S128x32) ![0, 0] S128x32.size inb_S128x32_S128x32_0_0
abbrev r0_7 : Rect S1024x1920 := Rect.unit (s := S1024x1920) ![0, 0] S1024x1920.size inb_S1024x1920_S1024x1920_0_0
abbrev r0_8 : Rect S128x1824 := Rect.unit (s := S128x1824) ![0, 0] S128x1824.size inb_S128x1824_S128x1824_0_0
abbrev r0_9 : Rect S1x1824 := Rect.unit (s := S1x1824) ![0, 0] S1x1824.size inb_S1x1824_S1x1824_0_0
abbrev r0_10 : Rect S1x512 := Rect.unit (s := S1x512) ![0, 0] S1x512.size inb_S1x512_S1x512_0_0
abbrev r0_11 : Rect S288x1536 := Rect.unit (s := S288x1536) ![0, 0] S288x1536.size inb_S288x1536_S288x1536_0_0
abbrev r0_12 : Rect S256x256 := Rect.unit (s := S256x256) ![0, 0] S256x256.size inb_S256x256_S256x256_0_0
abbrev r0_13 : Rect S128x512 := Rect.unit (s := S128x512) ![0, 0] S128x512.size inb_S128x512_S128x512_0_0
abbrev r0_14 : Rect S1x384 := Rect.unit (s := S1x384) ![0, 0] S1x384.size inb_S1x384_S1x384_0_0
abbrev r0_15 : Rect S384x1024 := Rect.unit (s := S384x1024) ![0, 0] S384x1024.size inb_S384x1024_S384x1024_0_0
abbrev r0_16 : Rect S8x128x128 := Rect.unit (s := S8x128x128) ![0, 0, 0] S1x128x128.size inb_S8x128x128_S1x128x128_0_0_0
abbrev r0_17 : Rect S8x128x256 := Rect.unit (s := S8x128x256) ![0, 0, 0] S1x128x256.size inb_S8x128x256_S1x128x256_0_0_0
abbrev r0_18 : Rect S8x128x128 := Rect.unit (s := S8x128x128) ![1, 0, 0] S1x128x128.size inb_S8x128x128_S1x128x128_1_0_0
abbrev r0_19 : Rect S8x128x256 := Rect.unit (s := S8x128x256) ![1, 0, 0] S1x128x256.size inb_S8x128x256_S1x128x256_1_0_0
abbrev r0_20 : Rect S8x128x128 := Rect.unit (s := S8x128x128) ![2, 0, 0] S1x128x128.size inb_S8x128x128_S1x128x128_2_0_0
abbrev r0_21 : Rect S8x128x256 := Rect.unit (s := S8x128x256) ![2, 0, 0] S1x128x256.size inb_S8x128x256_S1x128x256_2_0_0
abbrev r0_22 : Rect S8x128x128 := Rect.unit (s := S8x128x128) ![3, 0, 0] S1x128x128.size inb_S8x128x128_S1x128x128_3_0_0
abbrev r0_23 : Rect S8x128x256 := Rect.unit (s := S8x128x256) ![3, 0, 0] S1x128x256.size inb_S8x128x256_S1x128x256_3_0_0
abbrev r0_24 : Rect S8x128x128 := Rect.unit (s := S8x128x128) ![4, 0, 0] S1x128x128.size inb_S8x128x128_S1x128x128_4_0_0
abbrev r0_25 : Rect S8x128x256 := Rect.unit (s := S8x128x256) ![4, 0, 0] S1x128x256.size inb_S8x128x256_S1x128x256_4_0_0
abbrev r0_26 : Rect S8x128x128 := Rect.unit (s := S8x128x128) ![5, 0, 0] S1x128x128.size inb_S8x128x128_S1x128x128_5_0_0
abbrev r0_27 : Rect S8x128x256 := Rect.unit (s := S8x128x256) ![5, 0, 0] S1x128x256.size inb_S8x128x256_S1x128x256_5_0_0
abbrev r0_28 : Rect S8x128x128 := Rect.unit (s := S8x128x128) ![6, 0, 0] S1x128x128.size inb_S8x128x128_S1x128x128_6_0_0
abbrev r0_29 : Rect S8x128x256 := Rect.unit (s := S8x128x256) ![6, 0, 0] S1x128x256.size inb_S8x128x256_S1x128x256_6_0_0
abbrev r0_30 : Rect S8x128x128 := Rect.unit (s := S8x128x128) ![7, 0, 0] S1x128x128.size inb_S8x128x128_S1x128x128_7_0_0
abbrev r0_31 : Rect S8x128x256 := Rect.unit (s := S8x128x256) ![7, 0, 0] S1x128x256.size inb_S8x128x256_S1x128x256_7_0_0

def value66 (x0 : Vec F S128x1024 .f32) (x1 : Vec F S1x1024 .f32) : FVec F S128x1024 .bf16 :=
  k0_pay6 (View.ld x0 r0_0) (View.ld x1 r0_1)
def value67 (x0 : Vec F S128x1024 .f32) (x1 : Vec F S1x1024 .f32) (x2 : Vec F S1024x896 .bf16) : FVec F S128x384 .f32 :=
  k0_pay8 (View.ld x0 r0_0) (View.ld x1 r0_1) (View.ld x2 r0_2)
def value68 (x8 : Vec F S128x128 .f32) : FVec F S128x128 .f32 :=
  k0_pay10 (View.ld x8 r0_4)
def value69 (x9 : Vec F S128x128 .f32) : FVec F S128x128 .f32 :=
  k0_pay11 (View.ld x9 r0_4)
def value70 (x0 : Vec F S128x1024 .f32) (x1 : Vec F S1x1024 .f32) (x3 : Vec F S1024x1920 .bf16) : FVec F S128x1824 .f32 :=
  k0_pay13 (value66 x0 x1) (View.ld x3 r0_7)
def value71 (x13 : Vec F S1x1824 .f32) : FVec F S1x1824 .f32 :=
  k0_pay14 (View.ld x13 r0_9)
def value72 (x16 : Vec F S288x1536 .bf16) : FVec F S288x1536 .bf16 :=
  k0_pay17 (View.ld x16 r0_11)
def value73 (x17 : Vec F S1x512 .f32) : FVec F S1x512 .f32 :=
  k0_pay18 (View.ld x17 r0_10)
def value74 (x19 : Vec F S256x256 .bf16) : FVec F S256x256 .bf16 :=
  k0_pay20 (View.ld x19 r0_12)
def value75 (x0 : Vec F S128x1024 .f32) (x1 : Vec F S1x1024 .f32) (x3 : Vec F S1024x1920 .bf16) (x12 : Vec F S128x1824 .f32) : FVec F S128x1824 .f32 :=
  k0_pay21 (value66 x0 x1) (View.ld x3 r0_7) (View.ld x12 r0_8)
def value76 (x0 : Vec F S128x1024 .f32) (x1 : Vec F S1x1024 .f32) (x3 : Vec F S1024x1920 .bf16) (x12 : Vec F S128x1824 .f32) (x13 : Vec F S1x1824 .f32) : FVec F S128x512 .f32 :=
  k0_pay24 (value70 x0 x1 x3) (value71 x13) (value75 x0 x1 x3 x12)
def value77 (x0 : Vec F S128x1024 .f32) (x1 : Vec F S1x1024 .f32) (x3 : Vec F S1024x1920 .bf16) (x12 : Vec F S128x1824 .f32) (x13 : Vec F S1x1824 .f32) (x15 : Vec F S1x512 .f32) (x16 : Vec F S288x1536 .bf16) : FVec F S128x512 .f32 :=
  k0_pay28 (value70 x0 x1 x3) (value71 x13) (k0_pay16 (View.ld x15 r0_10)) (value72 x16) (value75 x0 x1 x3 x12)
def value78 : FVec F S128x512 .f32 :=
  k0_pay29 (F := F)
def value79 (x0 : Vec F S128x1024 .f32) (x1 : Vec F S1x1024 .f32) (x2 : Vec F S1024x896 .bf16) (x4 : Vec F S1x384 .f32) (x6 : Vec F S384x1024 .bf16) : FVec F S128x1024 .f32 :=
  k0_pay38 (value67 x0 x1 x2) (View.ld x4 r0_14) (View.ld x6 r0_15)
def value80 (x0 : Vec F S128x1024 .f32) (x1 : Vec F S1x1024 .f32) (x2 : Vec F S1024x896 .bf16) (x4 : Vec F S1x384 .f32) (x7 : Vec F S384x1024 .bf16) : FVec F S128x1024 .f32 :=
  k0_pay39 (value67 x0 x1 x2) (View.ld x4 r0_14) (View.ld x7 r0_15)
def value81 : IVec S128x128 1 :=
  k0_pay40
def value82 : FVec F S128x128 .f32 :=
  k0_pay41 (F := F)
def value83 (x8 : Vec F S128x128 .f32) : FVec F S128x128 .f32 :=
  k0_pay42 (value68 x8) value81 (Scalar.ofBits .f32 0x00000000#32) value82
def value84 (x9 : Vec F S128x128 .f32) : FVec F S128x128 .f32 :=
  k0_pay43 (value69 x9)
def value85 (x0 : Vec F S128x1024 .f32) (x1 : Vec F S1x1024 .f32) (x2 : Vec F S1024x896 .bf16) (x4 : Vec F S1x384 .f32) (x6 : Vec F S384x1024 .bf16) (x8 : Vec F S128x128 .f32) : FVec F S128x128 .f32 :=
  k0_pay57 (value79 x0 x1 x2 x4 x6) (value83 x8)
def value86 (x0 : Vec F S128x1024 .f32) (x1 : Vec F S1x1024 .f32) (x2 : Vec F S1024x896 .bf16) (x4 : Vec F S1x384 .f32) (x7 : Vec F S384x1024 .bf16) : FVec F S128x128 .f32 :=
  k0_pay58 (value80 x0 x1 x2 x4 x7)
def value87 (x0 : Vec F S128x1024 .f32) (x1 : Vec F S1x1024 .f32) (x2 : Vec F S1024x896 .bf16) (x4 : Vec F S1x384 .f32) (x6 : Vec F S384x1024 .bf16) (x7 : Vec F S384x1024 .bf16) (x8 : Vec F S128x128 .f32) (x9 : Vec F S128x128 .f32) : FVec F S128x128 .bf16 :=
  k0_pay65 (value79 x0 x1 x2 x4 x6) (value80 x0 x1 x2 x4 x7) (value83 x8) (value84 x9)

def left20 (x0 : Vec F S128x1024 .f32) (x1 : Vec F S1x1024 .f32) (x2 : Vec F S1024x896 .bf16) (x4 : Vec F S1x384 .f32) (x6 : Vec F S384x1024 .bf16) (x7 : Vec F S384x1024 .bf16) (x8 : Vec F S128x128 .f32) (x9 : Vec F S128x128 .f32) : Vec F S8x128x128 .bf16 :=
  View.canon [⟨r0_30, k0_pay4 (value79 x0 x1 x2 x4 x6) (value80 x0 x1 x2 x4 x7) (value83 x8) (value84 x9)⟩,
    ⟨r0_28, k0_pay1 (value87 x0 x1 x2 x4 x6 x7 x8 x9)⟩,
    ⟨r0_26, k0_pay63 (value79 x0 x1 x2 x4 x6) (value80 x0 x1 x2 x4 x7) (value83 x8) (value84 x9)⟩,
    ⟨r0_24, k0_pay60 (value84 x9) (value85 x0 x1 x2 x4 x6 x8) (value86 x0 x1 x2 x4 x7)⟩,
    ⟨r0_22, k0_pay55 (value79 x0 x1 x2 x4 x6) (value80 x0 x1 x2 x4 x7) (value83 x8) (value84 x9)⟩,
    ⟨r0_20, k0_pay52 (value79 x0 x1 x2 x4 x6) (value80 x0 x1 x2 x4 x7) (value83 x8) (value84 x9)⟩,
    ⟨r0_18, k0_pay48 (value68 x8) (value69 x9) (value79 x0 x1 x2 x4 x6) (value80 x0 x1 x2 x4 x7) value81 (Scalar.ofBits .f32 0x00000000#32) value82⟩,
    ⟨r0_16, k0_pay45 (value68 x8) (value69 x9) (value79 x0 x1 x2 x4 x6) (value80 x0 x1 x2 x4 x7) value81 (Scalar.ofBits .f32 0x00000000#32) value82⟩]

theorem cover20 (p0 : Vec F S1x128x128 .bf16) (p1 : Vec F S1x128x128 .bf16) (p2 : Vec F S1x128x128 .bf16) (p3 : Vec F S1x128x128 .bf16) (p4 : Vec F S1x128x128 .bf16) (p5 : Vec F S1x128x128 .bf16) (p6 : Vec F S1x128x128 .bf16) (p7 : Vec F S1x128x128 .bf16) (y : S8x128x128.Idx) :
    ∃ pc ∈ ([⟨r0_30, p0⟩, ⟨r0_28, p1⟩, ⟨r0_26, p2⟩, ⟨r0_24, p3⟩, ⟨r0_22, p4⟩, ⟨r0_20, p5⟩, ⟨r0_18, p6⟩, ⟨r0_16, p7⟩] : List (View.Piece (Elt F) S8x128x128 .bf16)), y ∈ pc.1.set :=
  View.cover_of_tiled [⟨r0_30, p0⟩, ⟨r0_28, p1⟩, ⟨r0_26, p2⟩, ⟨r0_24, p3⟩, ⟨r0_22, p4⟩, ⟨r0_20, p5⟩, ⟨r0_18, p6⟩, ⟨r0_16, p7⟩] S1x128x128.size (by rfl) y

def left21 (x0 : Vec F S128x1024 .f32) (x1 : Vec F S1x1024 .f32) (x2 : Vec F S1024x896 .bf16) (x5 : Vec F S1x256 .f32) : Vec F S128x256 .f32 :=
  View.canon [⟨r0_5, k0_pay9 (View.ld x0 r0_0) (View.ld x1 r0_1) (View.ld x2 r0_2) (View.ld x5 r0_3)⟩]

theorem cover21 (p0 : Vec F S128x256 .f32) (y : S128x256.Idx) :
    ∃ pc ∈ ([⟨r0_5, p0⟩] : List (View.Piece (Elt F) S128x256 .f32)), y ∈ pc.1.set :=
  View.cover_of_tiled [⟨r0_5, p0⟩] S128x256.size (by rfl) y

def left22 (x0 : Vec F S128x1024 .f32) (x1 : Vec F S1x1024 .f32) (x2 : Vec F S1024x896 .bf16) (x8 : Vec F S128x128 .f32) (x9 : Vec F S128x128 .f32) : Vec F S128x32 .f32 :=
  View.canon [⟨r0_6, k0_pay12 (k0_pay7 (View.ld x0 r0_0) (View.ld x1 r0_1) (View.ld x2 r0_2)) (value68 x8) (View.ld x9 r0_4)⟩]

theorem cover22 (p0 : Vec F S128x32 .f32) (y : S128x32.Idx) :
    ∃ pc ∈ ([⟨r0_6, p0⟩] : List (View.Piece (Elt F) S128x32 .f32)), y ∈ pc.1.set :=
  View.cover_of_tiled [⟨r0_6, p0⟩] S128x32.size (by rfl) y

def left23 (x0 : Vec F S128x1024 .f32) (x1 : Vec F S1x1024 .f32) (x3 : Vec F S1024x1920 .bf16) : Vec F S128x1824 .f32 :=
  View.canon [⟨r0_8, k0_pay13 (value66 x0 x1) (View.ld x3 r0_7)⟩]

theorem cover23 (p0 : Vec F S128x1824 .f32) (y : S128x1824.Idx) :
    ∃ pc ∈ ([⟨r0_8, p0⟩] : List (View.Piece (Elt F) S128x1824 .f32)), y ∈ pc.1.set :=
  View.cover_of_tiled [⟨r0_8, p0⟩] S128x1824.size (by rfl) y

def left24 (x0 : Vec F S128x1024 .f32) (x1 : Vec F S1x1024 .f32) (x2 : Vec F S1024x896 .bf16) (x4 : Vec F S1x384 .f32) (x6 : Vec F S384x1024 .bf16) (x7 : Vec F S384x1024 .bf16) (x8 : Vec F S128x128 .f32) (x9 : Vec F S128x128 .f32) (x10 : Vec F S8x128x256 .bf16) : Vec F S8x128x256 .f32 :=
  View.canon [⟨r0_31, k0_pay5 (value79 x0 x1 x2 x4 x6) (value80 x0 x1 x2 x4 x7) (value83 x8) (value84 x9) (View.ld x10 r0_31)⟩,
    ⟨r0_29, k0_pay2 (value87 x0 x1 x2 x4 x6 x7 x8 x9) (View.ld x10 r0_29)⟩,
    ⟨r0_27, k0_pay64 (value79 x0 x1 x2 x4 x6) (value80 x0 x1 x2 x4 x7) (value83 x8) (value84 x9) (View.ld x10 r0_27)⟩,
    ⟨r0_25, k0_pay61 (value84 x9) (value85 x0 x1 x2 x4 x6 x8) (value86 x0 x1 x2 x4 x7) (View.ld x10 r0_25)⟩,
    ⟨r0_23, k0_pay56 (value79 x0 x1 x2 x4 x6) (value80 x0 x1 x2 x4 x7) (value83 x8) (value84 x9) (View.ld x10 r0_23)⟩,
    ⟨r0_21, k0_pay53 (value79 x0 x1 x2 x4 x6) (value80 x0 x1 x2 x4 x7) (value83 x8) (value84 x9) (View.ld x10 r0_21)⟩,
    ⟨r0_19, k0_pay50 (k0_pay49 (value68 x8) (value69 x9) (value79 x0 x1 x2 x4 x6) (value80 x0 x1 x2 x4 x7) value81 (Scalar.ofBits .f32 0x00000000#32) value82 (View.ld x10 r0_19))⟩,
    ⟨r0_17, k0_pay46 (value68 x8) (value69 x9) (value79 x0 x1 x2 x4 x6) (value80 x0 x1 x2 x4 x7) value81 (Scalar.ofBits .f32 0x00000000#32) value82 (View.ld x10 r0_17)⟩]

theorem cover24 (p0 : Vec F S1x128x256 .f32) (p1 : Vec F S1x128x256 .f32) (p2 : Vec F S1x128x256 .f32) (p3 : Vec F S1x128x256 .f32) (p4 : Vec F S1x128x256 .f32) (p5 : Vec F S1x128x256 .f32) (p6 : Vec F S1x128x256 .f32) (p7 : Vec F S1x128x256 .f32) (y : S8x128x256.Idx) :
    ∃ pc ∈ ([⟨r0_31, p0⟩, ⟨r0_29, p1⟩, ⟨r0_27, p2⟩, ⟨r0_25, p3⟩, ⟨r0_23, p4⟩, ⟨r0_21, p5⟩, ⟨r0_19, p6⟩, ⟨r0_17, p7⟩] : List (View.Piece (Elt F) S8x128x256 .f32)), y ∈ pc.1.set :=
  View.cover_of_tiled [⟨r0_31, p0⟩, ⟨r0_29, p1⟩, ⟨r0_27, p2⟩, ⟨r0_25, p3⟩, ⟨r0_23, p4⟩, ⟨r0_21, p5⟩, ⟨r0_19, p6⟩, ⟨r0_17, p7⟩] S1x128x256.size (by rfl) y

def left25 (x0 : Vec F S128x1024 .f32) (x1 : Vec F S1x1024 .f32) (x3 : Vec F S1024x1920 .bf16) (x12 : Vec F S128x1824 .f32) (x13 : Vec F S1x1824 .f32) : Vec F S128x512 .f32 :=
  View.canon [⟨r0_13, k0_pay23 (value70 x0 x1 x3) (value71 x13) (value75 x0 x1 x3 x12)⟩]

theorem cover25 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left26 (x0 : Vec F S128x1024 .f32) (x1 : Vec F S1x1024 .f32) (x3 : Vec F S1024x1920 .bf16) (x12 : Vec F S128x1824 .f32) (x13 : Vec F S1x1824 .f32) (x14 : Vec F S1x512 .f32) (x16 : Vec F S288x1536 .bf16) : Vec F S128x512 .f32 :=
  View.canon [⟨r0_13, k0_pay32 (k0_pay27 (value70 x0 x1 x3) (value71 x13) (k0_pay15 (View.ld x14 r0_10)) (value72 x16) (value75 x0 x1 x3 x12))⟩]

theorem cover26 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left27 (x0 : Vec F S128x1024 .f32) (x1 : Vec F S1x1024 .f32) (x3 : Vec F S1024x1920 .bf16) (x12 : Vec F S128x1824 .f32) (x13 : Vec F S1x1824 .f32) (x15 : Vec F S1x512 .f32) (x16 : Vec F S288x1536 .bf16) (x18 : Vec F S1x512 .f32) : Vec F S128x512 .f32 :=
  View.canon [⟨r0_13, k0_pay33 (k0_pay19 (View.ld x18 r0_10)) (value76 x0 x1 x3 x12 x13) (value77 x0 x1 x3 x12 x13 x15 x16) value78⟩]

theorem cover27 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left28 (x0 : Vec F S128x1024 .f32) (x1 : Vec F S1x1024 .f32) (x3 : Vec F S1024x1920 .bf16) (x12 : Vec F S128x1824 .f32) (x13 : Vec F S1x1824 .f32) : Vec F S128x512 .f32 :=
  View.canon [⟨r0_13, k0_pay25 (value70 x0 x1 x3) (value71 x13) (value75 x0 x1 x3 x12)⟩]

theorem cover28 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left29 (x0 : Vec F S128x1024 .f32) (x1 : Vec F S1x1024 .f32) (x3 : Vec F S1024x1920 .bf16) (x12 : Vec F S128x1824 .f32) (x13 : Vec F S1x1824 .f32) (x17 : Vec F S1x512 .f32) (x19 : Vec F S256x256 .bf16) : Vec F S128x512 .f32 :=
  View.canon [⟨r0_13, k0_pay34 (value73 x17) (value74 x19) (value76 x0 x1 x3 x12 x13)⟩]

theorem cover29 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left30 (x0 : Vec F S128x1024 .f32) (x1 : Vec F S1x1024 .f32) (x3 : Vec F S1024x1920 .bf16) (x12 : Vec F S128x1824 .f32) (x13 : Vec F S1x1824 .f32) (x15 : Vec F S1x512 .f32) (x16 : Vec F S288x1536 .bf16) (x17 : Vec F S1x512 .f32) (x19 : Vec F S256x256 .bf16) : Vec F S128x512 .f32 :=
  View.canon [⟨r0_13, k0_pay35 (value73 x17) (value74 x19) (value76 x0 x1 x3 x12 x13) (value77 x0 x1 x3 x12 x13 x15 x16) value78⟩]

theorem cover30 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

def left31 (x0 : Vec F S128x1024 .f32) (x1 : Vec F S1x1024 .f32) (x3 : Vec F S1024x1920 .bf16) (x12 : Vec F S128x1824 .f32) (x13 : Vec F S1x1824 .f32) (x16 : Vec F S288x1536 .bf16) : Vec F S128x512 .f32 :=
  View.canon [⟨r0_13, k0_pay36 (k0_pay26 (value70 x0 x1 x3) (value71 x13) (value72 x16) (value75 x0 x1 x3 x12))⟩]

theorem cover31 (p0 : Vec F S128x512 .f32) (y : S128x512.Idx) :
    ∃ pc ∈ ([⟨r0_13, p0⟩] : List (View.Piece (Elt F) S128x512 .f32)), y ∈ pc.1.set :=
  View.cover_of_tiled [⟨r0_13, p0⟩] S128x512.size (by rfl) y

end Cert.ProjKernelIdeal.Attn

end
-- ==== Proof.Proj.Frame.lean ====
module

public import proofs.«01_k».proof.Proof.Proj.Setup
public import proofs.«01_k».proof.Proof.Gen.ProjKernelIdeal.Launch
public import proofs.«01_k».proof.Proof.Gen.ProjKernelIdeal.Skeleton
public import proofs.«01_k».proof.Proof.Gen.ProjKernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! # The first part, for the sample: the body leaves what is said of it, and a run ends with the arguments unchanged -/

namespace Cert.ProjKernelIdeal.Attn

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem sound_kernel (c : Dev nD) (E : Set ℕ) (i : grid0.Coords) (arg1 : Memref sig .tc .vmem S128x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1024x1920 .bf16) (harg4 : arg4.IsWhole) (arg5 : Memref sig .tc .vmem S1x384 .f32) (harg5 : arg5.IsWhole) (arg6 : Memref sig .tc .vmem S1x256 .f32) (harg6 : arg6.IsWhole) (arg7 : Memref sig .tc .vmem S384x1024 .bf16) (harg7 : arg7.IsWhole) (arg8 : Memref sig .tc .vmem S384x1024 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x128x256 .bf16) (harg11 : arg11.IsWhole) (arg12 : Memref sig .tc .vmem S256x512 .bf16) (harg12 : arg12.IsWhole) (arg13 : Memref sig .tc .vmem S128x1824 .f32) (harg13 : arg13.IsWhole) (arg14 : Memref sig .tc .vmem S1x1824 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x1536 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S256x256 .bf16) (harg20 : arg20.IsWhole) (arg21 : Memref sig .tc .vmem S8x128x128 .bf16) (harg21 : arg21.IsWhole) (arg22 : Memref sig .tc .vmem S128x256 .f32) (harg22 : arg22.IsWhole) (arg23 : Memref sig .tc .vmem S128x32 .f32) (harg23 : arg23.IsWhole) (arg24 : Memref sig .tc .vmem S128x1824 .f32) (harg24 : arg24.IsWhole) (arg25 : Memref sig .tc .vmem S8x128x256 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x512 .f32) (harg31 : arg31.IsWhole) (arg32 : Memref sig .tc .vmem S128x512 .f32) (harg32 : arg32.IsWhole)
    (x0 : Vec F S128x1024 .f32) (x1 : Vec F S1x1024 .f32) (x2 : Vec F S1024x896 .bf16) (x3 : Vec F S1024x1920 .bf16) (x4 : Vec F S1x384 .f32) (x5 : Vec F S1x256 .f32) (x6 : Vec F S384x1024 .bf16) (x7 : Vec F S384x1024 .bf16) (x8 : Vec F S128x128 .f32) (x9 : Vec F S128x128 .f32) (x10 : Vec F S8x128x256 .bf16) (x11 : Vec F S256x512 .bf16) (x12 : Vec F S128x1824 .f32) (x13 : Vec F S1x1824 .f32) (x14 : Vec F S1x512 .f32) (x15 : Vec F S1x512 .f32) (x16 : Vec F S288x1536 .bf16) (x17 : Vec F S1x512 .f32) (x18 : Vec F S1x512 .f32) (x19 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (left20 x0 x1 x2 x4 x6 x7 x8 x9) ∗ owns (c : Thread nD τ) arg22 fullShare (left21 x0 x1 x2 x5) ∗ owns (c : Thread nD τ) arg23 fullShare (left22 x0 x1 x2 x8 x9) ∗ owns (c : Thread nD τ) arg24 fullShare (left23 x0 x1 x3) ∗ owns (c : Thread nD τ) arg25 fullShare (left24 x0 x1 x2 x4 x6 x7 x8 x9 x10) ∗ owns (c : Thread nD τ) arg26 fullShare (left25 x0 x1 x3 x12 x13) ∗ owns (c : Thread nD τ) arg27 fullShare (left26 x0 x1 x3 x12 x13 x14 x16) ∗ owns (c : Thread nD τ) arg28 fullShare (left27 x0 x1 x3 x12 x13 x15 x16 x18) ∗ owns (c : Thread nD τ) arg29 fullShare (left28 x0 x1 x3 x12 x13) ∗ owns (c : Thread nD τ) arg30 fullShare (left29 x0 x1 x3 x12 x13 x17 x19) ∗ owns (c : Thread nD τ) arg31 fullShare (left30 x0 x1 x3 x12 x13 x15 x16 x17 x19) ∗ owns (c : Thread nD τ) arg32 fullShare (left31 x0 x1 x3 x12 x13 x16)) -∗ K ⟨⟩))
      ⊢ wp frame (wpE (defs₀ (F := F)) Variants.none c none) E (cc0_proj_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_proj_in_eq_skeleton]; unfold cc0_proj_in_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover20 _ _ _ _ _ _ _ _)).trans ?_
    rfl
  isplitl [H21]
  · iexists _; isplitr
    swap; · iexact H21
    ipureintro
    refine (View.read_writes_eq_canon _ _ _ (cover21 _)).trans ?_
    rfl
  isplitl [H22]
  · iexists _; isplitr
    swap; · iexact H22
    ipureintro
    refine (View.read_writes_eq_canon _ _ _ (cover22 _)).trans ?_
    rfl
  isplitl [H23]
  · iexists _; isplitr
    swap; · iexact H23
    ipureintro
    refine (View.read_writes_eq_canon _ _ _ (cover23 _)).trans ?_
    rfl
  isplitl [H24]
  · iexists _; isplitr
    swap; · iexact H24
    ipureintro
    refine (View.read_writes_eq_canon _ _ _ (cover24 _ _ _ _ _ _ _ _)).trans ?_
    rfl
  isplitl [H25]
  · iexists _; isplitr
    swap; · iexact H25
    ipureintro
    refine (View.read_writes_eq_canon _ _ _ (cover25 _)).trans ?_
    rfl
  isplitl [H26]
  · iexists _; isplitr
    swap; · iexact H26
    ipureintro
    refine (View.read_writes_eq_canon _ _ _ (cover26 _)).trans ?_
    rfl
  isplitl [H27]
  · iexists _; isplitr
    swap; · iexact H27
    ipureintro
    refine (View.read_writes_eq_canon _ _ _ (cover27 _)).trans ?_
    rfl
  isplitl [H28]
  · iexists _; isplitr
    swap; · iexact H28
    ipureintro
    refine (View.read_writes_eq_canon _ _ _ (cover28 _)).trans ?_
    rfl
  isplitl [H29]
  · iexists _; isplitr
    swap; · iexact H29
    ipureintro
    refine (View.read_writes_eq_canon _ _ _ (cover29 _)).trans ?_
    rfl
  isplitl [H30]
  · iexists _; isplitr
    swap; · iexact H30
    ipureintro
    refine (View.read_writes_eq_canon _ _ _ (cover30 _)).trans ?_
    rfl
  iexists _; isplitr
  swap; · iexact H31
  ipureintro
  refine (View.read_writes_eq_canon _ _ _ (cover31 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => left20 (iblk m c 0 t) (iblk m c 1 t) (iblk m c 2 t) (iblk m c 4 t) (iblk m c 6 t) (iblk m c 7 t) (iblk m c 8 t) (iblk m c 9 t)
    | ⟨21, _⟩ => left21 (iblk m c 0 t) (iblk m c 1 t) (iblk m c 2 t) (iblk m c 5 t)
    | ⟨22, _⟩ => left22 (iblk m c 0 t) (iblk m c 1 t) (iblk m c 2 t) (iblk m c 8 t) (iblk m c 9 t)
    | ⟨23, _⟩ => left23 (iblk m c 0 t) (iblk m c 1 t) (iblk m c 3 t)
    | ⟨24, _⟩ => left24 (iblk m c 0 t) (iblk m c 1 t) (iblk m c 2 t) (iblk m c 4 t) (iblk m c 6 t) (iblk m c 7 t) (iblk m c 8 t) (iblk m c 9 t) (iblk m c 10 t)
    | ⟨25, _⟩ => left25 (iblk m c 0 t) (iblk m c 1 t) (iblk m c 3 t) (iblk m c 12 t) (iblk m c 13 t)
    | ⟨26, _⟩ => left26 (iblk m c 0 t) (iblk m c 1 t) (iblk m c 3 t) (iblk m c 12 t) (iblk m c 13 t) (iblk m c 14 t) (iblk m c 16 t)
    | ⟨27, _⟩ => left27 (iblk m c 0 t) (iblk m c 1 t) (iblk m c 3 t) (iblk m c 12 t) (iblk m c 13 t) (iblk m c 15 t) (iblk m c 16 t) (iblk m c 18 t)
    | ⟨28, _⟩ => left28 (iblk m c 0 t) (iblk m c 1 t) (iblk m c 3 t) (iblk m c 12 t) (iblk m c 13 t)
    | ⟨29, _⟩ => left29 (iblk m c 0 t) (iblk m c 1 t) (iblk m c 3 t) (iblk m c 12 t) (iblk m c 13 t) (iblk m c 17 t) (iblk m c 19 t)
    | ⟨30, _⟩ => left30 (iblk m c 0 t) (iblk m c 1 t) (iblk m c 3 t) (iblk m c 12 t) (iblk m c 13 t) (iblk m c 15 t) (iblk m c 16 t) (iblk m c 17 t) (iblk m c 19 t)
    | ⟨31, _⟩ => left31 (iblk m c 0 t) (iblk m c 1 t) (iblk m c 3 t) (iblk m c 12 t) (iblk m c 13 t) (iblk m c 16 t)
    | ⟨_ + 32, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = left20 (iblk m c 0 t) (iblk m c 1 t) (iblk m c 2 t) (iblk m c 4 t) (iblk m c 6 t) (iblk m c 7 t) (iblk m c 8 t) (iblk m c 9 t) := by dsimp only [dats]
theorem after21 (c : Dev nD) (t : Fin cfg0.N) : (dats m 0 c).after 21 t = left21 (iblk m c 0 t) (iblk m c 1 t) (iblk m c 2 t) (iblk m c 5 t) := by dsimp only [dats]
theorem after22 (c : Dev nD) (t : Fin cfg0.N) : (dats m 0 c).after 22 t = left22 (iblk m c 0 t) (iblk m c 1 t) (iblk m c 2 t) (iblk m c 8 t) (iblk m c 9 t) := by dsimp only [dats]
theorem after23 (c : Dev nD) (t : Fin cfg0.N) : (dats m 0 c).after 23 t = left23 (iblk m c 0 t) (iblk m c 1 t) (iblk m c 3 t) := by dsimp only [dats]
theorem after24 (c : Dev nD) (t : Fin cfg0.N) : (dats m 0 c).after 24 t = left24 (iblk m c 0 t) (iblk m c 1 t) (iblk m c 2 t) (iblk m c 4 t) (iblk m c 6 t) (iblk m c 7 t) (iblk m c 8 t) (iblk m c 9 t) (iblk m c 10 t) := by dsimp only [dats]
theorem after25 (c : Dev nD) (t : Fin cfg0.N) : (dats m 0 c).after 25 t = left25 (iblk m c 0 t) (iblk m c 1 t) (iblk m c 3 t) (iblk m c 12 t) (iblk m c 13 t) := by dsimp only [dats]
theorem after26 (c : Dev nD) (t : Fin cfg0.N) : (dats m 0 c).after 26 t = left26 (iblk m c 0 t) (iblk m c 1 t) (iblk m c 3 t) (iblk m c 12 t) (iblk m c 13 t) (iblk m c 14 t) (iblk m c 16 t) := by dsimp only [dats]
theorem after27 (c : Dev nD) (t : Fin cfg0.N) : (dats m 0 c).after 27 t = left27 (iblk m c 0 t) (iblk m c 1 t) (iblk m c 3 t) (iblk m c 12 t) (iblk m c 13 t) (iblk m c 15 t) (iblk m c 16 t) (iblk m c 18 t) := by dsimp only [dats]
theorem after28 (c : Dev nD) (t : Fin cfg0.N) : (dats m 0 c).after 28 t = left28 (iblk m c 0 t) (iblk m c 1 t) (iblk m c 3 t) (iblk m c 12 t) (iblk m c 13 t) := by dsimp only [dats]
theorem after29 (c : Dev nD) (t : Fin cfg0.N) : (dats m 0 c).after 29 t = left29 (iblk m c 0 t) (iblk m c 1 t) (iblk m c 3 t) (iblk m c 12 t) (iblk m c 13 t) (iblk m c 17 t) (iblk m c 19 t) := by dsimp only [dats]
theorem after30 (c : Dev nD) (t : Fin cfg0.N) : (dats m 0 c).after 30 t = left30 (iblk m c 0 t) (iblk m c 1 t) (iblk m c 3 t) (iblk m c 12 t) (iblk m c 13 t) (iblk m c 15 t) (iblk m c 16 t) (iblk m c 17 t) (iblk m c 19 t) := by dsimp only [dats]
theorem after31 (c : Dev nD) (t : Fin cfg0.N) : (dats m 0 c).after 31 t = left31 (iblk m c 0 t) (iblk m c 1 t) (iblk m c 3 t) (iblk m c 12 t) (iblk m c 13 t) (iblk m c 16 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d
theorem before18 (c : Dev nD) (t : Fin cfg0.N) (d) : (dats m 0 c).before 18 t d = iblk m c 18 t :=
  before18_of m (dats m 0 c) (A_eq m c 18) (after18 m c) t d
theorem before19 (c : Dev nD) (t : Fin cfg0.N) (d) : (dats m 0 c).before 19 t d = iblk m c 19 t :=
  before19_of m (dats m 0 c) (A_eq m c 19) (after19 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.ProjKernelIdeal.Attn

end
-- ==== Proof.Proj.Host.lean ====
module

public import proofs.«01_k».proof.Proof.Gen.ProjKernelIdeal.Launch
public import proofs.«01_k».proof.Proof.Layer
public import Idealize.ShloMosaic.Lib.Pointwise
public import Idealize.ShloMosaic.Lib.Pipeline.ValueKit

@[expose] public section

set_option maxRecDepth 16384

noncomputable section

/-! # The first part, for the sample: the arrays that the host prepares -/

namespace Cert.ProjKernelIdeal.Attn

open Cert.ProjKernelIdeal Cert.ProjKernelIdeal.Gen Idealize.ShloMosaic Idealize.ShloMosaic.TcCoe Idealize.SL.Sem

variable (m : (ℓ : Loc nD τ sig) → Buf (Elt Ideal) ℓ) (c : Dev nD)

/-- The buffers when the pipeline begins. -/
abbrev W (b : Ref sig .tc) : Buf (Elt Ideal) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) (Proc.devRef .tc b)

theorem W_x (i : Fin 128) (j : Fin 1024) : W m c main_v116 (ix2 i j) = (m ((c.tc : Thread nD τ).loc main_arg0) : S128x1x1024.Idx → EReal) (ix3 i 0 j) := by
  unfold W
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  pointwise

theorem W_g (j : Fin 1024) : W m c main_v101 (ix2 0 j) = (m ((c.tc : Thread nD τ).loc main_arg2) : S1x1024.Idx → EReal) (ix2 0 j) := by
  unfold W
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  pointwise
theorem W_g' (j : Fin 256) : W m c main_v105 (ix2 0 j) = (m ((c.tc : Thread nD τ).loc main_arg6) : S1x256.Idx → EReal) (ix2 0 j) := by
  unfold W
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  pointwise

/-- The columns of the latent are those of the layer's matrix. -/
theorem W_lat (j : Fin 1024) (l : Fin 256) : W m c main_v43 (ix2 j ⟨384 + l.val, by omega⟩)
    = (m ((c.tc : Thread nD τ).loc main_arg3) : S1x1024x4544.Idx → EReal) (ix3 0 j ⟨384 + l.val, by omega⟩) := by
  unfold W
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  pointwise
  have hl : 384 + l.val < 640 := by omega
  simp only [hl, if_true, dite_true, if_pos, dif_pos]
  after_results_simp
  pointwise

/-- The columns of the mixing part are those of the layer's matrix. -/
theorem W_rw (j : Fin 1024) (l : Fin 1824) : W m c main_v46 (ix2 j ⟨l.val, by omega⟩)
    = (m ((c.tc : Thread nD τ).loc main_arg3) : S1x1024x4544.Idx → EReal) (ix3 0 j ⟨672 + l.val, by omega⟩) := by
  unfold W
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  pointwise

end Cert.ProjKernelIdeal.Attn

end
-- ==== Proof.Proj.Block.lean ====
module

public import proofs.«01_k».proof.Proof.Gen.ProjKernelIdeal.Skeleton
public import proofs.«01_k».proof.Proof.Proj.Row
public import Idealize.ShloMosaic.Lib.Pipeline.ValueKit

@[expose] public section

set_option maxRecDepth 16384

noncomputable section

/-! # The first part, for the sample: what one block, all 128 rows, becomes -/

namespace Cert.ProjKernelIdeal.Attn

open Cert.ProjKernelIdeal Cert.ProjKernelIdeal.Gen Idealize.ShloMosaic

section
variable (x : Vec Ideal S128x1024 .f32) (g : Vec Ideal S1x1024 .f32) (w : Vec Ideal S1024x896 .bf16) (g' : Vec Ideal S1x256 .f32)
  (w' : Vec Ideal S1024x1920 .bf16) (i : Fin 128)

theorem norm_apply (k : Fin 1024) :
    k0_pay6 (F := Ideal) x g (ix2 i k) = Layer.norm (fun j => x (ix2 i j)) (fun j => g (ix2 0 j)) k := by
  unfold k0_pay6
  pointwise
  rfl

theorem product_apply (k : Fin 896) :
    k0_pay7 (F := Ideal) x g w (ix2 i k) = Layer.mat (Layer.norm (fun j => x (ix2 i j)) (fun j => g (ix2 0 j))) (fun j l => w (ix2 j l)) k := by
  unfold k0_pay7
  pointwise
  simp only [norm_apply]
  rfl

theorem latent_apply (k : Fin 256) :
    k0_pay9 (F := Ideal) x g w g' (ix2 i k)
      = Layer.latent (fun j => x (ix2 i j)) (fun j => g (ix2 0 j)) (fun j l => w (ix2 j ⟨384 + l.val, by omega⟩)) (fun j => g' (ix2 0 j)) k := by
  unfold k0_pay9
  pointwise
  simp only [product_apply]
  rfl

theorem shift_apply (k : Fin 1824) :
    k0_pay13 (F := Ideal) (k0_pay6 x g) w' (ix2 i k)
      = Layer.shift (fun j => x (ix2 i j)) (fun j => g (ix2 0 j)) (fun j l => w' (ix2 j ⟨l.val, by omega⟩)) k := by
  unfold k0_pay13
  pointwise
  simp only [norm_apply]
  rfl
end

end Cert.ProjKernelIdeal.Attn

end
-- ==== Proof.Proj.Array.lean ====
module

public import proofs.«01_k».proof.Proof.Proj.Frame
public import proofs.«01_k».proof.Proof.Proj.Host
public import proofs.«01_k».proof.Proof.Proj.Block

@[expose] public section

set_option maxRecDepth 16384

noncomputable section

/-! # The first part, for the sample: the arrays of results

The one point of the grid works on all rows. -/

namespace Cert.ProjKernelIdeal.Attn

open Cert.ProjKernelIdeal Cert.ProjKernelIdeal.Gen Idealize.ShloMosaic Idealize.ShloMosaic.TcCoe Idealize.SL.Sem

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index5 : ∀ t : Fin cfg0.N, (cfg0.win 5).index t = ![0, 0] :=
  (by decide +kernel : ∀ t : Fin grid0.N, win0_5.index t = ![0, 0])
theorem index21 : ∀ t : Fin cfg0.N, (cfg0.win 21).index t = ![t.val, 0] :=
  (by decide +kernel : ∀ t : Fin grid0.N, win0_21.index t = ![t.val, 0])
theorem index23 : ∀ t : Fin cfg0.N, (cfg0.win 23).index t = ![t.val, 0] :=
  (by decide +kernel : ∀ t : Fin grid0.N, win0_23.index t = ![t.val, 0])

variable (m : (ℓ : Loc nD τ sig) → Buf (Elt Ideal) ℓ) (c : Dev nD)

theorem t_lt (t : Fin cfg0.N) : t.val < 1 := t.isLt

section
variable (t : Fin cfg0.N) (i : Fin 128) (j : Fin 1024) (l : Fin 256) (p : Fin 1824)

theorem iblk0 : iblk m c 0 t (ix2 i j) = V m c main_v116 (ix2 ⟨t.val * 128 + i.val, by have := t_lt t; omega⟩ j) := by
  blk_ext [iblk, index0 t]
theorem iblk1 : iblk m c 1 t (ix2 0 j) = V m c main_v101 (ix2 0 j) := by
  blk_ext [iblk, index1 t]
theorem iblk2 (l : Fin 896) : iblk m c 2 t (ix2 j l) = V m c main_v43 (ix2 j l) := by
  blk_ext [iblk, index2 t]
theorem iblk3 (p : Fin 1920) : iblk m c 3 t (ix2 j p) = V m c main_v46 (ix2 j p) := by
  blk_ext [iblk, index3 t]
theorem iblk5 : iblk m c 5 t (ix2 0 l) = V m c main_v105 (ix2 0 l) := by
  blk_ext [iblk, index5 t]
end

/-- The new latents as a function of the kernel's arguments. -/
def latents (x : S128x1x1024.Idx → EReal) (g : S1x1024.Idx → EReal) (w : S1x1024x4544.Idx → EReal) (g' : S1x256.Idx → EReal)
    (i : Fin 128) (k : Fin 256) : EReal :=
  Layer.latent (fun j => x (ix3 i 0 j)) (fun j => g (ix2 0 j)) (fun j l => w (ix3 0 j ⟨384 + l.val, by omega⟩)) (fun j => g' (ix2 0 j)) k

/-- What the next position mixes in, as a function of the kernel's arguments. -/
def shifts (x : S128x1x1024.Idx → EReal) (g : S1x1024.Idx → EReal) (w : S1x1024x4544.Idx → EReal) (i : Fin 128) (k : Fin 1824) : EReal :=
  Layer.shift (fun j => x (ix3 i 0 j)) (fun j => g (ix2 0 j)) (fun j l => w (ix3 0 j ⟨672 + l.val, by omega⟩)) k

theorem at_index {n : ℕ} (G : Fin 128 → Fin n → EReal) (ι : (⟨2, ![128, n]⟩ : Shape).Idx) (i : Fin 128) (k : Fin n) (h : ι = ix2 i k) :
    G i k = G (ι 0) (ι 1) := by
  subst h
  rfl

theorem place21 (t : Fin cfg0.N) (i : Fin 128) (k : Fin 256) :
    (((cfg0.win 21).blk t).view.emb (ix2 i k) : S128x256.Idx) = ix2 ⟨t.val * 128 + i.val, by have := t_lt t; omega⟩ k := by
  blk_ext [index21 t]
theorem place23 (t : Fin cfg0.N) (i : Fin 128) (k : Fin 1824) :
    (((cfg0.win 23).blk t).view.emb (ix2 i k) : S128x1824.Idx) = ix2 ⟨t.val * 128 + i.val, by have := t_lt t; omega⟩ k := by
  blk_ext [index23 t]

/-- A row of a block is a row of the arrays. -/
theorem latent_row (t : Fin cfg0.N) (i : Fin 128) (k : Fin 256) :
    Layer.latent (fun j => iblk m c 0 t (ix2 i j)) (fun j => iblk m c 1 t (ix2 0 j))
        (fun j l => iblk m c 2 t (ix2 j ⟨384 + l.val, by omega⟩)) (fun j => iblk m c 5 t (ix2 0 j)) k
      = latents (m ((c.tc : Thread nD τ).loc main_arg0)) (m ((c.tc : Thread nD τ).loc main_arg2)) (m ((c.tc : Thread nD τ).loc main_arg3))
          (m ((c.tc : Thread nD τ).loc main_arg6)) ⟨t.val * 128 + i.val, by have := t_lt t; omega⟩ k :=
  Layer.latent_congr (fun j => (iblk0 m c t i j).trans (W_x m c _ j)) (fun j => (iblk1 m c t j).trans (W_g m c j))
    (fun j l => (iblk2 m c t j _).trans (W_lat m c j l)) (fun j => (iblk5 m c t j).trans (W_g' m c j)) k

theorem shift_row (t : Fin cfg0.N) (i : Fin 128) (k : Fin 1824) :
    Layer.shift (fun j => iblk m c 0 t (ix2 i j)) (fun j => iblk m c 1 t (ix2 0 j))
        (fun j l => iblk m c 3 t (ix2 j ⟨l.val, by omega⟩)) k
      = shifts (m ((c.tc : Thread nD τ).loc main_arg0)) (m ((c.tc : Thread nD τ).loc main_arg2)) (m ((c.tc : Thread nD τ).loc main_arg3))
          ⟨t.val * 128 + i.val, by have := t_lt t; omega⟩ k :=
  Layer.shift_congr (fun j => (iblk0 m c t i j).trans (W_x m c _ j)) (fun j => (iblk1 m c t j).trans (W_g m c j))
    (fun j l => (iblk3 m c t j _).trans (W_rw m c j l)) k

/-- The kernel's array of latents. -/
theorem array21 : ((dats m 0 c).arrAt 21 cfg0.N : S128x256.Idx → EReal)
    = fun ι => latents (m ((c.tc : Thread nD τ).loc main_arg0)) (m ((c.tc : Thread nD τ).loc main_arg2)) (m ((c.tc : Thread nD τ).loc main_arg3))
        (m ((c.tc : Thread nD τ).loc main_arg6)) (ι 0) (ι 1) := by
  refine (dats m 0 c).arrAt_eq_of_covers 21 _ (by decide +kernel) fun t hf y => ?_
  blk_simp
  rw [after21]
  unfold left21
  frame_out
  obtain ⟨i, k, rfl⟩ : ∃ (i : Fin 128) (k : Fin 256), y = ix2 i k := ⟨y 0, y 1, eq_ix2 y⟩
  rw [latent_apply]
  exact (latent_row m c t i k).trans (at_index (latents (m ((c.tc : Thread nD τ).loc main_arg0)) (m ((c.tc : Thread nD τ).loc main_arg2))
    (m ((c.tc : Thread nD τ).loc main_arg3)) (m ((c.tc : Thread nD τ).loc main_arg6))) _ _ _ (place21 t i k))

/-- The kernel's array of what the next position mixes in. -/
theorem array23 : ((dats m 0 c).arrAt 23 cfg0.N : S128x1824.Idx → EReal)
    = fun ι => shifts (m ((c.tc : Thread nD τ).loc main_arg0)) (m ((c.tc : Thread nD τ).loc main_arg2)) (m ((c.tc : Thread nD τ).loc main_arg3))
        (ι 0) (ι 1) := by
  refine (dats m 0 c).arrAt_eq_of_covers 23 _ (by decide +kernel) fun t hf y => ?_
  blk_simp
  rw [after23]
  unfold left23 value66
  frame_out
  obtain ⟨i, k, rfl⟩ : ∃ (i : Fin 128) (k : Fin 1824), y = ix2 i k := ⟨y 0, y 1, eq_ix2 y⟩
  rw [shift_apply]
  exact (shift_row m c t i k).trans (at_index (shifts (m ((c.tc : Thread nD τ).loc main_arg0)) (m ((c.tc : Thread nD τ).loc main_arg2))
    (m ((c.tc : Thread nD τ).loc main_arg3))) _ _ _ (place23 t i k))

end Cert.ProjKernelIdeal.Attn

end
-- ==== Proof.Proj.Result.lean ====
module

public import proofs.«01_k».proof.Proof.Proj.Array
public import Idealize.ShloMosaic.Lib.Pointwise

@[expose] public section

set_option maxRecDepth 16384

noncomputable section

/-! # The first part, for the sample: what a run of the kernel leaves -/

namespace Cert.ProjKernelIdeal.Attn

open Cert.ProjKernelIdeal Cert.ProjKernelIdeal.Gen Idealize.ShloMosaic Idealize.ShloMosaic.TcCoe Idealize.SL.Sem

variable (m : (ℓ : Loc nD τ sig) → Buf (Elt Ideal) ℓ) (ρ : Dev nD → PrngReg) (c : Dev nD)

/-- What the host leaves in the result of the latents. -/
def latentResult : S1x128x1x256.Idx → EReal := Pipeline.afterTail₀ cfgs (dats m) 0 (V0 m) [hostOps1] c main_v120

/-- What the host leaves in the result of what the next position mixes in. -/
def shiftResult : S1x128x1824.Idx → EReal := Pipeline.afterTail₀ cfgs (dats m) 0 (V0 m) [hostOps1] c main_v121

/-- An array with two more dimensions of length 1. -/
def wide (A : S128x256.Idx → EReal) : S1x128x1x256.Idx → EReal :=
  broadcastInDim S1x128x1x256 ![1, 2, 3] bcast_S128x1x256_S1x128x1x256_1_2_3 (shapeCast S128x1x256 A shapeCasts_S128x256_S128x1x256)

/-- An array with one more dimension of length 1. -/
def stacked (A : S128x1824.Idx → EReal) : S1x128x1824.Idx → EReal :=
  broadcastInDim S1x128x1824 ![1, 2] bcast_S128x1824_S1x128x1824_1_2 A

theorem latent_reshaped : latentResult m c = wide ((dats m 0 c).arrAt 21 cfg0.N : S128x256.Idx → EReal) := by
  unfold latentResult Pipeline.afterTail₀
  simp only [hostOps1, List.flatten_cons, List.flatten_nil, List.append_nil, List.cons_append, List.nil_append]
  after_results_simp
  exact congrArg wide (Pipeline.withArrays_arr spec0 launch0.win.arr_inj c (V0 m c) (fun w => (dats m 0 c).arrAt w cfg0.N) 21)

theorem shift_reshaped : shiftResult m c = stacked ((dats m 0 c).arrAt 23 cfg0.N : S128x1824.Idx → EReal) := by
  unfold shiftResult Pipeline.afterTail₀
  simp only [hostOps1, List.flatten_cons, List.flatten_nil, List.append_nil, List.cons_append, List.nil_append]
  after_results_simp
  exact congrArg stacked (Pipeline.withArrays_arr spec0 launch0.win.arr_inj c (V0 m c) (fun w => (dats m 0 c).arrAt w cfg0.N) 23)

theorem wide_apply (A : S128x256.Idx → EReal) (i : Fin 128) (k : Fin 256) : wide A (ix4 0 i 0 k) = A (ix2 i k) := by
  unfold wide
  pointwise

theorem stacked_apply (A : S128x1824.Idx → EReal) (i : Fin 128) (k : Fin 1824) : stacked A (ix3 0 i k) = A (ix2 i k) := by
  unfold stacked
  pointwise

/-- The latents at a row and a lane. -/
theorem latent_value (i : Fin 128) (k : Fin 256) : latentResult m c (ix4 0 i 0 k)
    = latents (m ((c.tc : Thread nD τ).loc main_arg0)) (m ((c.tc : Thread nD τ).loc main_arg2)) (m ((c.tc : Thread nD τ).loc main_arg3)) (m ((c.tc : Thread nD τ).loc main_arg6)) i k := by
  rw [latent_reshaped, wide_apply, array21]
  rfl

/-- What the next position mixes in, at a row and a lane. -/
theorem shift_value (i : Fin 128) (k : Fin 1824) : shiftResult m c (ix3 0 i k)
    = shifts (m ((c.tc : Thread nD τ).loc main_arg0)) (m ((c.tc : Thread nD τ).loc main_arg2)) (m ((c.tc : Thread nD τ).loc main_arg3)) i k := by
  rw [shift_reshaped, stacked_apply, array23]
  rfl

/-- A run leaves the results and the arguments. -/
theorem run : θ_run defs (onTc (τ := τ) (main (F := Ideal))) ⟨m, fun _ => 0, ρ⟩ (fun r => ∀ c : Dev nD,
      r.2.mem ((c.tc : Thread nD τ).loc main_v120) = latentResult m c
      ∧ r.2.mem ((c.tc : Thread nD τ).loc main_v121) = shiftResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h.1 c).2 main_v120 (Pipeline.mem_restRefs_of main_v120 (by decide) (by decide)),
      (h.1 c).2 main_v121 (Pipeline.mem_restRefs_of main_v121 (by decide) (by decide)), h.2 c⟩)
    (θ_run_and (run_main m ρ) (unchanged m ρ))

end Cert.ProjKernelIdeal.Attn

end
-- ==== Proof.Proj.Equation.lean ====
module

public import proofs.«01_k».proof.Proof.Proj.Ref
public import proofs.«01_k».proof.Proof.Proj.Result

@[expose] public section

set_option maxRecDepth 16384

noncomputable section

/-! # The first part, for the sample: the kernel's results are the reference's -/

namespace Cert.Equation

open Cert.ProjKernelIdeal Idealize.ShloMosaic Idealize.ShloMosaic.TcCoe

variable (m : (ℓ : Loc nD τ sig) → Buf (Elt Ideal) ℓ) (c : Dev nD)

theorem proj_latent_eq : Attn.latentResult m c = Cert.ProjReferenceIdeal.Attn.latents (m ((c.tc : Thread nD τ).loc main_arg0)) (m ((c.tc : Thread nD τ).loc main_arg2)) (m ((c.tc : Thread nD τ).loc main_arg3)) (m ((c.tc : Thread nD τ).loc main_arg6)) := by
  funext y
  obtain ⟨i, k, rfl⟩ : ∃ (i : Fin 128) (k : Fin 256), y = ix4 0 i 0 k := by
    refine ⟨y 1, y 3, (eq_ix4 y).trans ?_⟩
    rw [Fin.fin_one_eq_zero (y 0), Fin.fin_one_eq_zero (y 2)]
  rw [Cert.ProjReferenceIdeal.Attn.latents_apply, Attn.latent_value]
  rfl

theorem proj_shift_eq : Attn.shiftResult m c = Cert.ProjReferenceIdeal.Attn.shifts (m ((c.tc : Thread nD τ).loc main_arg0)) (m ((c.tc : Thread nD τ).loc main_arg2)) (m ((c.tc : Thread nD τ).loc main_arg3)) := by
  funext y
  obtain ⟨i, k, rfl⟩ : ∃ (i : Fin 128) (k : Fin 1824), y = ix3 0 i k := by
    refine ⟨y 1, y 2, (eq_ix3 y).trans ?_⟩
    rw [Fin.fin_one_eq_zero (y 0)]
  rw [Cert.ProjReferenceIdeal.Attn.shifts_apply, Attn.shift_value]
  rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Gen.ReferenceIdeal.Run
public import proofs.«01_k».proof.Proof.Gen.MemKernel
public import proofs.«01_k».proof.Proof.Gen.MemKernel.Frame
public import proofs.«01_k».proof.Proof.Gen.MemKernelIdeal
public import proofs.«01_k».proof.Proof.Gen.MemKernelIdeal.Frame
public import proofs.«01_k».proof.Proof.Gen.MemReferenceIdeal
public import proofs.«01_k».proof.Proof.Gen.MemReferenceIdeal.Run
public import proofs.«01_k».proof.Proof.Gen.TailKernel
public import proofs.«01_k».proof.Proof.Gen.TailKernel.Frame
public import proofs.«01_k».proof.Proof.Gen.TailKernelIdeal
public import proofs.«01_k».proof.Proof.Gen.TailKernelIdeal.Frame
public import proofs.«01_k».proof.Proof.Gen.TailReferenceIdeal
public import proofs.«01_k».proof.Proof.Gen.TailReferenceIdeal.Run
public import proofs.«01_k».proof.Proof.Gen.LastKernel
public import proofs.«01_k».proof.Proof.Gen.LastKernel.Frame
public import proofs.«01_k».proof.Proof.Gen.LastKernelIdeal
public import proofs.«01_k».proof.Proof.Gen.LastKernelIdeal.Frame
public import proofs.«01_k».proof.Proof.Gen.LastReferenceIdeal
public import proofs.«01_k».proof.Proof.Gen.LastReferenceIdeal.Run
public import proofs.«01_k».proof.Proof.Gen.StepKernel
public import proofs.«01_k».proof.Proof.Gen.StepKernel.Frame
public import proofs.«01_k».proof.Proof.Gen.StepKernelIdeal
public import proofs.«01_k».proof.Proof.Gen.StepKernelIdeal.Frame
public import proofs.«01_k».proof.Proof.Gen.StepReferenceIdeal
public import proofs.«01_k».proof.Proof.Gen.StepReferenceIdeal.Run
public import proofs.«01_k».proof.Proof.Gen.ProjKernel
public import proofs.«01_k».proof.Proof.Gen.ProjKernelIdeal
public import proofs.«01_k».proof.Proof.Gen.ProjReferenceIdeal
public import proofs.«01_k».proof.Proof.Gen.ProjReferenceIdeal.Run
public import proofs.«01_k».proof.Proof.Float.Frame
public import proofs.«01_k».proof.Proof.Frame
public import proofs.«01_k».proof.Proof.Result
public import proofs.«01_k».proof.Proof.Rest
public import proofs.«01_k».proof.Proof.Sample
public import proofs.«01_k».proof.Proof.Proj.Equation
public import proofs.«01_k».proof.Proof.Proj.Float.Frame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The kernel's results and the reference's are the same function of the arguments. -/
theorem equal : Cert.algebraic_KernelIdeal_ReferenceIdeal_pre_finite_scores := by
  intro m g m' g' hpre hargs
  refine ⟨fun c => (Cert.KernelIdeal.Attn.dats m 0 c).arrAt 3 Cert.KernelIdeal.cfg0.N, Cert.KernelIdeal.Attn.run_blocks m g, ?_⟩
  refine (θ_run _ _ _).mono (fun r h c => ⟨?_, (h c).2⟩) (Cert.ReferenceIdeal.Value.run (F := Ideal) m' g')
  obtain ⟨h0, h1, h2, h3, h4⟩ := Cert.Pre_finite_scores.Attn.finite_args _ _ _ _ _ _ (hpre c)
  obtain ⟨e0, e1, e2, e3, e4, e5⟩ := hargs c
  rw [(h c).1, Cert.ReferenceIdeal.Attn.res_eq, e0, e1, e2, e3, e4, e5]
  exact (Cert.Equation.result_eq m c h0 h1 h2 h3 h4).symm

/-- The memory's reference: its frame. -/
theorem memory_frame : Cert.quiescent_MemReferenceIdeal := fun m ρ _ =>
  (θ_run (Cert.MemReferenceIdeal.defs (F := Ideal)) _ _).mono
    (fun r h => ⟨fun c => (h c).2.2, Idealize.ShloMosaic.sem_eq_zero_of_no_sems (by decide) r.2⟩)
    (Cert.MemReferenceIdeal.Value.run (F := Ideal) m ρ)

/-- The last part's reference: its frame. -/
theorem last_frame : Cert.quiescent_TailReferenceIdeal := fun m ρ _ =>
  (θ_run (Cert.TailReferenceIdeal.defs (F := Ideal)) _ _).mono
    (fun r h => ⟨fun c => (h c).2, Idealize.ShloMosaic.sem_eq_zero_of_no_sems (by decide) r.2⟩)
    (Cert.TailReferenceIdeal.Value.run (F := Ideal) m ρ)

/-- The keys and the values of the memory are the reference's. -/
theorem memory_equal : Cert.algebraic_MemKernelIdeal_MemReferenceIdeal := by
  intro m g m' g' _ hargs
  refine ⟨Cert.MemKernelIdeal.Attn.keys m, Cert.MemKernelIdeal.Attn.values m, Cert.MemKernelIdeal.Attn.run m g, ?_⟩
  refine (θ_run _ _ _).mono (fun r h c => ⟨?_, ?_, (h c).2.2⟩) (Cert.MemReferenceIdeal.Attn.run_named m' g')
  · obtain ⟨e0, e1, e2, e3⟩ := hargs c
    rw [(h c).1, e0, e1, e2]
    exact (Cert.Equation.keys_eq m c).symm
  · obtain ⟨e0, e1, e2, e3⟩ := hargs c
    rw [(h c).2.1, e0, e1, e3]
    exact (Cert.Equation.values_eq m c).symm

/-- The layer's result is the reference's. -/
theorem last_equal : Cert.algebraic_TailKernelIdeal_TailReferenceIdeal := by
  intro m g m' g' _ hargs
  refine ⟨fun c => Cert.TailKernelIdeal.Attn.result m c, Cert.TailKernelIdeal.Attn.run m g, ?_⟩
  refine (θ_run _ _ _).mono (fun r h c => ⟨?_, (h c).2⟩) (Cert.TailReferenceIdeal.Value.run (F := Ideal) m' g')
  obtain ⟨e0, e1, e2, e3, e4, e5, e6, e7⟩ := hargs c
  rw [(h c).1, Cert.TailReferenceIdeal.Attn.res_eq, e0, e1, e2, e3, e4, e5, e6, e7]
  exact (Cert.Equation.last_eq m c).symm

/-- The sample's last part: the reference's frame. -/
theorem sample_last_frame : Cert.quiescent_LastReferenceIdeal := fun m ρ _ =>
  (θ_run (Cert.LastReferenceIdeal.defs (F := Ideal)) _ _).mono
    (fun r h => ⟨fun c => (h c).2, Idealize.ShloMosaic.sem_eq_zero_of_no_sems (by decide) r.2⟩)
    (Cert.LastReferenceIdeal.Value.run (F := Ideal) m ρ)

/-- The step's reference: its frame. -/
theorem step_frame : Cert.quiescent_StepReferenceIdeal := fun m ρ _ =>
  (θ_run (Cert.StepReferenceIdeal.defs (F := Ideal)) _ _).mono
    (fun r h => ⟨fun c => (h c).2.2, Idealize.ShloMosaic.sem_eq_zero_of_no_sems (by decide) r.2⟩)
    (Cert.StepReferenceIdeal.Value.run (F := Ideal) m ρ)

/-- The sample's result is the reference's. -/
theorem sample_last_equal : Cert.algebraic_LastKernelIdeal_LastReferenceIdeal := by
  intro m g m' g' _ hargs
  refine ⟨fun c => Cert.LastKernelIdeal.Attn.result m c, Cert.LastKernelIdeal.Attn.run m g, ?_⟩
  refine (θ_run _ _ _).mono (fun r h c => ⟨?_, (h c).2⟩) (Cert.LastReferenceIdeal.Value.run (F := Ideal) m' g')
  obtain ⟨e0, e1, e2, e3, e4, e5, e6, e7⟩ := hargs c
  rw [(h c).1, Cert.LastReferenceIdeal.Attn.res_eq, e0, e1, e2, e3, e4, e5, e6, e7]
  exact (Cert.Equation.sample_last_eq m c).symm

/-- The step's two results are the reference's. -/
theorem step_equal : Cert.algebraic_StepKernelIdeal_StepReferenceIdeal := by
  intro m g m' g' _ hargs
  refine ⟨Cert.StepKernelIdeal.Attn.out m, Cert.StepKernelIdeal.Attn.state m, Cert.StepKernelIdeal.Attn.run m g, ?_⟩
  refine (θ_run _ _ _).mono (fun r h c => ⟨?_, ?_, (h c).2.2⟩) (Cert.StepReferenceIdeal.Attn.run_named m' g')
  · obtain ⟨e0, e1, e2, e3, e4, e5, e6⟩ := hargs c
    rw [(h c).1, e0, e1, e2, e3, e4, e5, e6]
    exact (Cert.Equation.step_out_eq m c).symm
  · obtain ⟨e0, e1, e2, e3, e4, e5, e6⟩ := hargs c
    rw [(h c).2.1, e0, e2, e3, e4, e5, e6]
    exact (Cert.Equation.step_state_eq m c).symm

/-- The reference of the sample's first part: its frame. -/
theorem proj_frame : Cert.quiescent_ProjReferenceIdeal := fun m ρ _ =>
  (θ_run (Cert.ProjReferenceIdeal.defs (F := Ideal)) _ _).mono
    (fun r h => ⟨fun c => (h c).2.2, Idealize.ShloMosaic.sem_eq_zero_of_no_sems (by decide) r.2⟩)
    (Cert.ProjReferenceIdeal.Value.run (F := Ideal) m ρ)

/-- The new latents and what the next position mixes in are the reference's. -/
theorem proj_equal : Cert.algebraic_ProjKernelIdeal_ProjReferenceIdeal := by
  intro m g m' g' _ hargs
  refine ⟨Cert.ProjKernelIdeal.Attn.latentResult m, Cert.ProjKernelIdeal.Attn.shiftResult m, Cert.ProjKernelIdeal.Attn.run m g, ?_⟩
  refine (θ_run _ _ _).mono (fun r h c => ⟨?_, ?_, (h c).2.2⟩) (Cert.ProjReferenceIdeal.Attn.run_named m' g')
  · obtain ⟨e0, e1, e2, e3, e4, e5, e6, _⟩ := hargs c
    rw [(h c).1, e0, e2, e3, e6]
    exact (Cert.Equation.proj_latent_eq m c).symm
  · obtain ⟨e0, e1, e2, e3, _⟩ := hargs c
    rw [(h c).2.1, e0, e2, e3]
    exact (Cert.Equation.proj_shift_eq m c).symm

theorem claim : Cert.Claim :=
  ⟨Cert.Kernel.Gen.facts, Cert.KernelIdeal.Gen.facts, Cert.ReferenceIdeal.Gen.facts,
    Cert.MemKernel.Gen.facts, Cert.MemKernelIdeal.Gen.facts, Cert.MemReferenceIdeal.Gen.facts,
    Cert.TailKernel.Gen.facts, Cert.TailKernelIdeal.Gen.facts, Cert.TailReferenceIdeal.Gen.facts,
    Cert.LastKernel.Gen.facts, Cert.LastKernelIdeal.Gen.facts, Cert.LastReferenceIdeal.Gen.facts,
    Cert.StepKernel.Gen.facts, Cert.StepKernelIdeal.Gen.facts, Cert.StepReferenceIdeal.Gen.facts,
    Cert.ProjKernel.Gen.facts, Cert.ProjKernelIdeal.Gen.facts, Cert.ProjReferenceIdeal.Gen.facts,
    Cert.Pre_finite_scores.Gen.facts,
    fun m ρ _ => Cert.Kernel.Attn.frame_all m ρ,
    fun m ρ _ => Cert.KernelIdeal.Attn.frame_all m ρ,
    fun m ρ _ => Cert.KernelIdeal.Attn.frame_all m ρ,
    reference_frame,
    fun m ρ _ => reference_frame m ρ trivial,
    fun m ρ _ => Cert.MemKernel.Gen.frame m ρ,
    fun m ρ _ => Cert.MemKernelIdeal.Gen.frame m ρ,
    memory_frame,
    fun m ρ _ => Cert.TailKernel.Gen.frame m ρ,
    fun m ρ _ => Cert.TailKernelIdeal.Gen.frame m ρ,
    last_frame,
    fun m ρ _ => Cert.LastKernel.Gen.frame m ρ,
    fun m ρ _ => Cert.LastKernelIdeal.Gen.frame m ρ,
    sample_last_frame,
    fun m ρ _ => Cert.StepKernel.Gen.frame m ρ,
    fun m ρ _ => Cert.StepKernelIdeal.Gen.frame m ρ,
    step_frame,
    fun m ρ _ => Cert.ProjKernel.Attn.frame (F := Bits) m ρ,
    fun m ρ _ => Cert.ProjKernelIdeal.Attn.frame (F := Ideal) m ρ,
    proj_frame,
    IdealRules.named_const.statement Cert.KernelIdeal.κ "qk_scale" .f32 0x3E16C740#32 _ rfl,
    equal,
    trivial,
    memory_equal,
    trivial,
    last_equal,
    trivial,
    sample_last_equal,
    trivial,
    step_equal,
    trivial,
    proj_equal⟩

end Cert.Proof

end
